-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "inv_head" .f32 0x3BAAAAAB#32 ((1 / 192 : ℝ) : EReal)
  ∧ IdealRules.named_const.Statement Cert.Kernel2Ideal.κ "q_scale" .f32 0x3DD53B95#32 (((Real.sqrt 192)⁻¹ * (Real.log 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v48)) (v1 : (c : Dev Cert.Kernel2Ideal.nD) → Buf (Elt Ideal) ((c.tc : Thread Cert.Kernel2Ideal.nD Cert.Kernel2Ideal.τ).loc Cert.Kernel2Ideal.main_v50)) (v2 : (c : Dev Cert.Kernel2Ideal.nD) → Buf (Elt Ideal) ((c.tc : Thread Cert.Kernel2Ideal.nD Cert.Kernel2Ideal.τ).loc Cert.Kernel2Ideal.main_v51)) (v3 : (c : Dev Cert.Kernel2Ideal.nD) → Buf (Elt Ideal) ((c.tc : Thread Cert.Kernel2Ideal.nD Cert.Kernel2Ideal.τ).loc Cert.Kernel2Ideal.main_v46_3)) (v4 : (c : Dev Cert.Kernel2Ideal.nD) → Buf (Elt Ideal) ((c.tc : Thread Cert.Kernel2Ideal.nD Cert.Kernel2Ideal.τ).loc Cert.Kernel2Ideal.main_v46_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v48) = v0 c
          ∧ r.2.mem ((c.tc : Thread Cert.Kernel2Ideal.nD Cert.Kernel2Ideal.τ).loc Cert.Kernel2Ideal.main_v50) = v1 c
          ∧ r.2.mem ((c.tc : Thread Cert.Kernel2Ideal.nD Cert.Kernel2Ideal.τ).loc Cert.Kernel2Ideal.main_v51) = v2 c
          ∧ r.2.mem ((c.tc : Thread Cert.Kernel2Ideal.nD Cert.Kernel2Ideal.τ).loc Cert.Kernel2Ideal.main_v46_3) = v3 c
          ∧ r.2.mem ((c.tc : Thread Cert.Kernel2Ideal.nD Cert.Kernel2Ideal.τ).loc Cert.Kernel2Ideal.main_v46_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v180) = v0 c
          ∧ r.2.mem ((c.tc : Thread Cert.Reference2Ideal.nD Cert.Reference2Ideal.τ).loc Cert.Reference2Ideal.main_v181) = v1 c
          ∧ r.2.mem ((c.tc : Thread Cert.Reference2Ideal.nD Cert.Reference2Ideal.τ).loc Cert.Reference2Ideal.main_v182) = v2 c
          ∧ r.2.mem ((c.tc : Thread Cert.Reference2Ideal.nD Cert.Reference2Ideal.τ).loc Cert.Reference2Ideal.main_v183) = v3 c
          ∧ r.2.mem ((c.tc : Thread Cert.Reference2Ideal.nD Cert.Reference2Ideal.τ).loc Cert.Reference2Ideal.main_v184) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  IdealRules.bf16_pair.Statement Cert.Kernel3Ideal.S256x2x128 Cert.Kernel3Ideal.S256x1x128
  ∧ IdealRules.bf16_pack.Statement Cert.Kernel3Ideal.S256x128

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v18_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S16x2048x8x192 : Shape := ⟨4, ![16, 2048, 8, 192]⟩
abbrev S16x256x8x192 : Shape := ⟨4, ![16, 256, 8, 192]⟩
abbrev S16x256x8x128 : Shape := ⟨4, ![16, 256, 8, 128]⟩
abbrev S16x2048x8x128 : Shape := ⟨4, ![16, 2048, 8, 128]⟩
abbrev S_ : Shape := ⟨0, ![]⟩

class Facts : Prop where
  bcast_S_S16x2048x8x192 : S_.BroadcastsInDim S16x2048x8x192 (![] : Fin 0 → Fin S16x2048x8x192.rank)
  reducesTo_S16x2048x8x192_S_d0_1_2_3 : S16x2048x8x192.ReducesTo [0, 1, 2, 3] S_
  h_S_ : 0 < S_.numel
  bcast_S_S16x256x8x192 : S_.BroadcastsInDim S16x256x8x192 (![] : Fin 0 → Fin S16x256x8x192.rank)
  reducesTo_S16x256x8x192_S_d0_1_2_3 : S16x256x8x192.ReducesTo [0, 1, 2, 3] S_

variable [Facts]

def fn {F : FTy → Type} [FloatOps F] (main_arg0 : FVec F S16x2048x8x192 .f32) (main_arg1 : FVec F S16x256x8x192 .f32) (main_arg2 : FVec F S16x256x8x128 .f32) (main_arg3 : FVec F S16x2048x8x192 .f32) (main_arg4 : FVec F S16x2048x8x128 .f32) : IVec S_ 1 :=
  let main_v0 : FVec F S16x2048x8x192 .f32 := Host.absf main_arg0
  let main_cst : FVec F S_ .f32 := constant S_ .f32 0x7F800000#32
  let main_v1 : FVec F S16x2048x8x192 .f32 := broadcastInDim S16x2048x8x192 ![] bcast_S_S16x2048x8x192 main_cst
  let main_v2 : IVec S16x2048x8x192 1 := cmpf .olt main_v0 main_v1
  let main_c : IVec S_ 1 := constantI S_ 1 1#1
  let main_v3 : IVec S_ 1 := (fun x v => Host.reduce IntOp.andi x v reducesTo_S16x2048x8x192_S_d0_1_2_3 h_S_) main_v2 main_c
  let main_v4 : FVec F S16x256x8x192 .f32 := Host.absf main_arg1
  let main_cst_0 : FVec F S_ .f32 := constant S_ .f32 0x7F800000#32
  let main_v5 : FVec F S16x256x8x192 .f32 := broadcastInDim S16x256x8x192 ![] bcast_S_S16x256x8x192 main_cst_0
  let main_v6 : IVec S16x256x8x192 1 := cmpf .olt main_v4 main_v5
  let main_c_1 : IVec S_ 1 := constantI S_ 1 1#1
  let main_v7 : IVec S_ 1 := (fun x v => Host.reduce IntOp.andi x v reducesTo_S16x256x8x192_S_d0_1_2_3 h_S_) main_v6 main_c_1
  let main_v8 : IVec S_ 1 := andi main_v3 main_v7
  let main_v9 : FVec F S16x2048x8x192 .f32 := Host.absf main_arg3
  let main_cst_2 : FVec F S_ .f32 := constant S_ .f32 0x7F800000#32
  let main_v10 : FVec F S16x2048x8x192 .f32 := broadcastInDim S16x2048x8x192 ![] bcast_S_S16x2048x8x192 main_cst_2
  let main_v11 : IVec S16x2048x8x192 1 := cmpf .olt main_v9 main_v10
  let main_c_3 : IVec S_ 1 := constantI S_ 1 1#1
  let main_v12 : IVec S_ 1 := (fun x v => Host.reduce IntOp.andi x v reducesTo_S16x2048x8x192_S_d0_1_2_3 h_S_) main_v11 main_c_3
  let main_v13 : IVec S_ 1 := andi main_v8 main_v12
  main_v13
-- ==== Kernel.lean ====
abbrev S16x2048x8x192 : Shape := ⟨4, ![16, 2048, 8, 192]⟩
abbrev S16x256x8x192 : Shape := ⟨4, ![16, 256, 8, 192]⟩
abbrev S16x256x8x128 : Shape := ⟨4, ![16, 256, 8, 128]⟩
abbrev S16x2048x8x128 : Shape := ⟨4, ![16, 2048, 8, 128]⟩
abbrev S_ : Shape := ⟨0, ![]⟩
abbrev S16x8x2048x192 : Shape := ⟨4, ![16, 8, 2048, 192]⟩
abbrev S16x8x2048x256 : Shape := ⟨4, ![16, 8, 2048, 256]⟩
abbrev S16x8x256x192 : Shape := ⟨4, ![16, 8, 256, 192]⟩
abbrev S16x8x256x256 : Shape := ⟨4, ![16, 8, 256, 256]⟩
abbrev S16x8x256x128 : Shape := ⟨4, ![16, 8, 256, 128]⟩
abbrev S16x8x2048x128 : Shape := ⟨4, ![16, 8, 2048, 128]⟩
abbrev S16x2048x1024 : Shape := ⟨3, ![16, 2048, 1024]⟩
abbrev S1x2x2048x256 : Shape := ⟨4, ![1, 2, 2048, 256]⟩
abbrev S1x2x256x256 : Shape := ⟨4, ![1, 2, 256, 256]⟩
abbrev S1x2x256x128 : Shape := ⟨4, ![1, 2, 256, 128]⟩
abbrev S1x2x2048x128 : Shape := ⟨4, ![1, 2, 2048, 128]⟩
abbrev S1x2048x256 : Shape := ⟨3, ![1, 2048, 256]⟩
abbrev S1x1x256x256 : Shape := ⟨4, ![1, 1, 256, 256]⟩
abbrev S256x256 : Shape := ⟨2, ![256, 256]⟩
abbrev S1x1x2048x256 : Shape := ⟨4, ![1, 1, 2048, 256]⟩
abbrev S2048x256 : Shape := ⟨2, ![2048, 256]⟩
abbrev S256x2048 : Shape := ⟨2, ![256, 2048]⟩
abbrev S256 : Shape := ⟨1, ![256]⟩
abbrev S256x1 : Shape := ⟨2, ![256, 1]⟩
abbrev S1x1x256x128 : Shape := ⟨4, ![1, 1, 256, 128]⟩
abbrev S256x128 : Shape := ⟨2, ![256, 128]⟩
abbrev S1x1x2048x128 : Shape := ⟨4, ![1, 1, 2048, 128]⟩
abbrev S2048x128 : Shape := ⟨2, ![2048, 128]⟩
abbrev S1x256x128 : Shape := ⟨3, ![1, 256, 128]⟩

abbrev nBuf : Space → Nat
  | .hbm => 32
  | .vmem => 12
  | .smem => 0
  | _ => 0

abbrev bufTy : (tb : Table) → Fin (tcTables nBuf tb) → BufTy
  | .hbm, ⟨0, _⟩ => ⟨S16x2048x8x192, .f32⟩
  | .hbm, ⟨1, _⟩ => ⟨S16x256x8x192, .f32⟩
  | .hbm, ⟨2, _⟩ => ⟨S16x256x8x128, .f32⟩
  | .hbm, ⟨3, _⟩ => ⟨S16x2048x8x192, .f32⟩
  | .hbm, ⟨4, _⟩ => ⟨S16x2048x8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16x2048x8x192, .f32⟩
  | .hbm, ⟨11, _⟩ => ⟨S16x2048x8x192, .f32⟩
  | .hbm, ⟨12, _⟩ => ⟨S16x8x2048x192, .f32⟩
  | .hbm, ⟨13, _⟩ => ⟨S_, .i32⟩
  | .hbm, ⟨14, _⟩ => ⟨S_, .f32⟩
  | .hbm, ⟨15, _⟩ => ⟨S16x8x2048x256, .f32⟩
  | .hbm, ⟨16, _⟩ => ⟨S16x8x2048x256, .bf16⟩
  | .hbm, ⟨17, _⟩ => ⟨S16x8x256x192, .f32⟩
  | .hbm, ⟨18, _⟩ => ⟨S_, .i32⟩
  | .hbm, ⟨19, _⟩ => ⟨S_, .f32⟩
  | .hbm, ⟨20, _⟩ => ⟨S16x8x256x256, .f32⟩
  | .hbm, ⟨21, _⟩ => ⟨S16x8x256x256, .bf16⟩
  | .hbm, ⟨22, _⟩ => ⟨S16x8x256x128, .f32⟩
  | .hbm, ⟨23, _⟩ => ⟨S16x8x256x128, .bf16⟩
  | .hbm, ⟨24, _⟩ => ⟨S16x8x2048x192, .f32⟩
  | .hbm, ⟨25, _⟩ => ⟨S_, .i32⟩
  | .hbm, ⟨26, _⟩ => ⟨S_, .f32⟩
  | .hbm, ⟨27, _⟩ => ⟨S16x8x2048x256, .f32⟩
  | .hbm, ⟨28, _⟩ => ⟨S16x8x2048x256, .bf16⟩
  | .hbm, ⟨29, _⟩ => ⟨S16x8x2048x128, .f32⟩
  | .hbm, ⟨30, _⟩ => ⟨S16x8x2048x128, .bf16⟩
  | .hbm, ⟨31, _⟩ => ⟨S16x2048x1024, .bf16⟩
  | .local _ .vmem, ⟨0, _⟩ => ⟨S1x2x2048x256, .bf16⟩
  | .local _ .vmem, ⟨1, _⟩ => ⟨S1x2x2048x256, .bf16⟩
  | .local _ .vmem, ⟨2, _⟩ => ⟨S1x2x256x256, .bf16⟩
  | .local _ .vmem, ⟨3, _⟩ => ⟨S1x2x256x256, .bf16⟩
  | .local _ .vmem, ⟨4, _⟩ => ⟨S1x2x256x128, .bf16⟩
  | .local _ .vmem, ⟨5, _⟩ => ⟨S1x2x256x128, .bf16⟩
  | .local _ .vmem, ⟨6, _⟩ => ⟨S1x2x2048x256, .bf16⟩
  | .local _ .vmem, ⟨7, _⟩ => ⟨S1x2x2048x256, .bf16⟩
  | .local _ .vmem, ⟨8, _⟩ => ⟨S1x2x2048x128, .bf16⟩
  | .local _ .vmem, ⟨9, _⟩ => ⟨S1x2x2048x128, .bf16⟩
  | .local _ .vmem, ⟨10, _⟩ => ⟨S1x2048x256, .bf16⟩
  | .local _ .vmem, ⟨11, _⟩ => ⟨S1x2048x256, .bf16⟩
  | _, _ => ⟨S16x2048x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_call2_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S16x2048x8x192 : Shape := ⟨4, ![16, 2048, 8, 192]⟩
abbrev S16x256x8x192 : Shape := ⟨4, ![16, 256, 8, 192]⟩
abbrev S16x256x8x128 : Shape := ⟨4, ![16, 256, 8, 128]⟩
abbrev S16x2048x8x128 : Shape := ⟨4, ![16, 2048, 8, 128]⟩
abbrev S16x2304x8x192 : Shape := ⟨4, ![16, 2304, 8, 192]⟩
abbrev S16x2304x8x128 : Shape := ⟨4, ![16, 2304, 8, 128]⟩
abbrev S16x8x2048x2304 : Shape := ⟨4, ![16, 8, 2048, 2304]⟩
abbrev S_ : Shape := ⟨0, ![]⟩
abbrev S16x8x2048 : Shape := ⟨3, ![16, 8, 2048]⟩
abbrev S16x8x2048x1 : Shape := ⟨4, ![16, 8, 2048, 1]⟩
abbrev S16x8x128x2048 : Shape := ⟨4, ![16, 8, 128, 2048]⟩
abbrev S16x2048x1024 : Shape := ⟨3, ![16, 2048, 1024]⟩

abbrev nBuf : Space → Nat
  | .hbm => 30
  | .vmem => 0
  | .smem => 0
  | _ => 0

abbrev bufTy : (tb : Table) → Fin (tcTables nBuf tb) → BufTy
  | .hbm, ⟨0, _⟩ => ⟨S16x2048x8x192, .f32⟩
  | .hbm, ⟨1, _⟩ => ⟨S16x256x8x192, .f32⟩
  | .hbm, ⟨2, _⟩ => ⟨S16x256x8x128, .f32⟩
  | .hbm, ⟨3, _⟩ => ⟨S16x2048x8x192, .f32⟩
  | .hbm, ⟨4, _⟩ => ⟨S16x2048x8x128, .f32⟩
  | .hbm, ⟨5, _⟩ => ⟨S16x2304x8x192, .f32⟩
  | .hbm, ⟨6, _⟩ => ⟨S16x2304x8x128, .f32⟩
  | .hbm, ⟨7, _⟩ => ⟨S16x8x2048x2304, .f32⟩
  | .hbm, ⟨8, _⟩ => ⟨S_, .f32⟩
  | .hbm, ⟨9, _⟩ => ⟨S_, .f32⟩
  | .hbm, ⟨10, _⟩ => ⟨S16x8x2048x2304, .f32⟩
  | .hbm, ⟨11, _⟩ => ⟨S16x8x2048x2304, .f32⟩
  | .hbm, ⟨12, _⟩ => ⟨S_, .f32⟩
  | .hbm, ⟨13, _⟩ => ⟨S16x8x2048, .f32⟩
  | .hbm, ⟨14, _⟩ => ⟨S_, .f32⟩
  | .hbm, ⟨15, _⟩ => ⟨S16x8x2048, .f32⟩
  | .hbm, ⟨16, _⟩ => ⟨S16x8x2048, .f32⟩
  | .hbm, ⟨17, _⟩ => ⟨S16x8x2048x1, .f32⟩
  | .hbm, ⟨18, _⟩ => ⟨S16x8x2048x2304, .f32⟩
  | .hbm, ⟨19, _⟩ => ⟨S16x8x2048x2304, .f32⟩
  | .hbm, ⟨20, _⟩ => ⟨S16x8x2048x2304, .f32⟩
  | .hbm, ⟨21, _⟩ => ⟨S_, .f32⟩
  | .hbm, ⟨22, _⟩ => ⟨S16x8x2048, .f32⟩
  | .hbm, ⟨23, _⟩ => ⟨S16x8x2048x1, .f32⟩
  | .hbm, ⟨24, _⟩ => ⟨S16x8x2048x2304, .f32⟩
  | .hbm, ⟨25, _⟩ => ⟨S16x8x2048x2304, .f32⟩
  | .hbm, ⟨26, _⟩ => ⟨S16x8x128x2048, .f32⟩
  | .hbm, ⟨27, _⟩ => ⟨S16x2048x8x128, .f32⟩
  | .hbm, ⟨28, _⟩ => ⟨S16x2048x1024, .f32⟩
  | .hbm, ⟨29, _⟩ => ⟨S16x2048x1024, .bf16⟩
  | _, _ => ⟨S16x2048x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel2.lean ====
abbrev S16x2048x2048 : Shape := ⟨3, ![16, 2048, 2048]⟩
abbrev S16x12288 : Shape := ⟨2, ![16, 12288]⟩
abbrev S2048 : Shape := ⟨1, ![2048]⟩
abbrev S2048x2880 : Shape := ⟨2, ![2048, 2880]⟩
abbrev S512 : Shape := ⟨1, ![512]⟩
abbrev S512x1536 : Shape := ⟨2, ![512, 1536]⟩
abbrev S256 : Shape := ⟨1, ![256]⟩
abbrev S256x2048 : Shape := ⟨2, ![256, 2048]⟩
abbrev S192 : Shape := ⟨1, ![192]⟩
abbrev S2048x1x16 : Shape := ⟨3, ![2048, 1, 16]⟩
abbrev S2048x768 : Shape := ⟨2, ![2048, 768]⟩
abbrev S2048x2048 : Shape := ⟨2, ![2048, 2048]⟩
abbrev S2048x64 : Shape := ⟨2, ![2048, 64]⟩
abbrev S_ : Shape := ⟨0, ![]⟩
abbrev S2048x2944 : Shape := ⟨2, ![2048, 2944]⟩
abbrev S512x8x192 : Shape := ⟨3, ![512, 8, 192]⟩
abbrev S512x8x256 : Shape := ⟨3, ![512, 8, 256]⟩
abbrev S512x2048 : Shape := ⟨2, ![512, 2048]⟩
abbrev S256x8x2x128 : Shape := ⟨4, ![256, 8, 2, 128]⟩
abbrev S256x2x8x128 : Shape := ⟨4, ![256, 2, 8, 128]⟩
abbrev S1x2048 : Shape := ⟨2, ![1, 2048]⟩
abbrev S1x512 : Shape := ⟨2, ![1, 512]⟩
abbrev S1x256 : Shape := ⟨2, ![1, 256]⟩
abbrev S2048x16 : Shape := ⟨2, ![2048, 16]⟩
abbrev S2048x128 : Shape := ⟨2, ![2048, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S128x256 : Shape := ⟨2, ![128, 256]⟩
abbrev S16x6x2048 : Shape := ⟨3, ![16, 6, 2048]⟩
abbrev S16x8x2048x256 : Shape := ⟨4, ![16, 8, 2048, 256]⟩
abbrev S16x8x2048x128 : Shape := ⟨4, ![16, 8, 2048, 128]⟩
abbrev S16x2048x512 : Shape := ⟨3, ![16, 2048, 512]⟩
abbrev S16x2x2x1024x512 : Shape := ⟨5, ![16, 2, 2, 1024, 512]⟩
abbrev S1x256x2048 : Shape := ⟨3, ![1, 256, 2048]⟩
abbrev S1x6x2048 : Shape := ⟨3, ![1, 6, 2048]⟩
abbrev S256x128 : Shape := ⟨2, ![256, 128]⟩
abbrev S1x8x256x256 : Shape := ⟨4, ![1, 8, 256, 256]⟩
abbrev S1x8x256x128 : Shape := ⟨4, ![1, 8, 256, 128]⟩
abbrev S1x256x512 : Shape := ⟨3, ![1, 256, 512]⟩
abbrev S1x2x2x128x512 : Shape := ⟨5, ![1, 2, 2, 128, 512]⟩
abbrev S256x2944 : Shape := ⟨2, ![256, 2944]⟩
abbrev S8x256x128 : Shape := ⟨3, ![8, 256, 128]⟩
abbrev S1x1x2048 : Shape := ⟨3, ![1, 1, 2048]⟩
abbrev S256x1 : Shape := ⟨2, ![256, 1]⟩
abbrev S256x256 : Shape := ⟨2, ![256, 256]⟩
abbrev S1x1x256x128 : Shape := ⟨4, ![1, 1, 256, 128]⟩
abbrev S2048x512 : Shape := ⟨2, ![2048, 512]⟩
abbrev S256x512 : Shape := ⟨2, ![256, 512]⟩
abbrev S2048x384 : Shape := ⟨2, ![2048, 384]⟩
abbrev S256x384 : Shape := ⟨2, ![256, 384]⟩
abbrev S1x256x128 : Shape := ⟨3, ![1, 256, 128]⟩
abbrev S1x128x128 : Shape := ⟨3, ![1, 128, 128]⟩
abbrev S1x1x1x128x128 : Shape := ⟨5, ![1, 1, 1, 128, 128]⟩
abbrev S16x8x2048x192 : Shape := ⟨4, ![16, 8, 2048, 192]⟩
abbrev S16x2048x8x192 : Shape := ⟨4, ![16, 2048, 8, 192]⟩
abbrev S16x2048x8x128 : Shape := ⟨4, ![16, 2048, 8, 128]⟩

abbrev nBuf : Space → Nat
  | .hbm => 101
  | .vmem => 32
  | .smem => 0
  | _ => 0

abbrev bufTy : (tb : Table) → Fin (tcTables nBuf tb) → BufTy
  | .hbm, ⟨0, _⟩ => ⟨S16x2048x2048, .f32⟩
  | .hbm, ⟨1, _⟩ => ⟨S16x12288, .f32⟩
  | .hbm, ⟨2, _⟩ => ⟨S2048, .f32⟩
  | .hbm, ⟨3, _⟩ => ⟨S2048x2880, .f32⟩
  | .hbm, ⟨4, _⟩ => ⟨S512, .f32⟩
  | .hbm, ⟨5, _⟩ => ⟨S512x1536, .f32⟩
  | .hbm, ⟨6, _⟩ => ⟨S256, .f32⟩
  | .hbm, ⟨7, _⟩ => ⟨S256x2048, .f32⟩
  | .hbm, ⟨8, _⟩ => ⟨S192, .f32⟩
  | .hbm, ⟨9, _⟩ => ⟨S192, .f32⟩
  | .hbm, ⟨10, _⟩ => ⟨S2048x1x16, .f32⟩
  | .hbm, ⟨11, _⟩ => ⟨S2048x1x16, .f32⟩
  | .hbm, ⟨12, _⟩ => ⟨S2048x1x16, .f32⟩
  | .hbm, ⟨13, _⟩ => ⟨S2048x1x16, .f32⟩
  | .hbm, ⟨14, _⟩ => ⟨S2048x768, .f32⟩
  | .hbm, ⟨15, _⟩ => ⟨S2048x2048, .f32⟩
  | .hbm, ⟨16, _⟩ => ⟨S2048x64, .f32⟩
  | .hbm, ⟨17, _⟩ => ⟨S_, .f32⟩
  | .hbm, ⟨18, _⟩ => ⟨S2048x64, .f32⟩
  | .hbm, ⟨19, _⟩ => ⟨S2048x2944, .f32⟩
  | .hbm, ⟨20, _⟩ => ⟨S2048x2944, .bf16⟩
  | .hbm, ⟨21, _⟩ => ⟨S512x8x192, .f32⟩
  | .hbm, ⟨22, _⟩ => ⟨S_, .i32⟩
  | .hbm, ⟨23, _⟩ => ⟨S_, .f32⟩
  | .hbm, ⟨24, _⟩ => ⟨S512x8x256, .f32⟩
  | .hbm, ⟨25, _⟩ => ⟨S512x2048, .f32⟩
  | .hbm, ⟨26, _⟩ => ⟨S512x2048, .bf16⟩
  | .hbm, ⟨27, _⟩ => ⟨S256x8x2x128, .f32⟩
  | .hbm, ⟨28, _⟩ => ⟨S256x2x8x128, .f32⟩
  | .hbm, ⟨29, _⟩ => ⟨S256x2048, .f32⟩
  | .hbm, ⟨30, _⟩ => ⟨S256x2048, .bf16⟩
  | .hbm, ⟨31, _⟩ => ⟨S1x2048, .f32⟩
  | .hbm, ⟨32, _⟩ => ⟨S1x512, .f32⟩
  | .hbm, ⟨33, _⟩ => ⟨S1x256, .f32⟩
  | .hbm, ⟨34, _⟩ => ⟨S_, .i32⟩
  | .hbm, ⟨35, _⟩ => ⟨S_, .f32⟩
  | .hbm, ⟨36, _⟩ => ⟨S256, .f32⟩
  | .hbm, ⟨37, _⟩ => ⟨S1x256, .f32⟩
  | .hbm, ⟨38, _⟩ => ⟨S_, .i32⟩
  | .hbm, ⟨39, _⟩ => ⟨S_, .f32⟩
  | .hbm, ⟨40, _⟩ => ⟨S256, .f32⟩
  | .hbm, ⟨41, _⟩ => ⟨S1x256, .f32⟩
  | .hbm, ⟨42, _⟩ => ⟨S2048x16, .f32⟩
  | .hbm, ⟨43, _⟩ => ⟨S2048x16, .f32⟩
  | .hbm, ⟨44, _⟩ => ⟨S2048x16, .f32⟩
  | .hbm, ⟨45, _⟩ => ⟨S2048x16, .f32⟩
  | .hbm, ⟨46, _⟩ => ⟨S_, .f32⟩
  | .hbm, ⟨47, _⟩ => ⟨S2048x64, .f32⟩
  | .hbm, ⟨48, _⟩ => ⟨S2048x128, .f32⟩
  | .hbm, ⟨49, _⟩ => ⟨S2048x16, .f32⟩
  | .hbm, ⟨50, _⟩ => ⟨S2048x16, .f32⟩
  | .hbm, ⟨51, _⟩ => ⟨S2048x128, .f32⟩
  | .hbm, ⟨52, _⟩ => ⟨S128, .i32⟩
  | .hbm, ⟨53, _⟩ => ⟨S128x1, .i32⟩
  | .hbm, ⟨54, _⟩ => ⟨S1x128, .i32⟩
  | .hbm, ⟨55, _⟩ => ⟨S128x128, .i32⟩
  | .hbm, ⟨56, _⟩ => ⟨S128x128, .i32⟩
  | .hbm, ⟨57, _⟩ => ⟨S128x128, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S128x128, .i32⟩
  | .hbm, ⟨65, _⟩ => ⟨S128x128, .i32⟩
  | .hbm, ⟨66, _⟩ => ⟨S_, .i32⟩
  | .hbm, ⟨67, _⟩ => ⟨S128x128, .i32⟩
  | .hbm, ⟨68, _⟩ => ⟨S128x128, .i1⟩
  | .hbm, ⟨69, _⟩ => ⟨S_, .i32⟩
  | .hbm, ⟨70, _⟩ => ⟨S128x128, .i32⟩
  | .hbm, ⟨71, _⟩ => ⟨S128x128, .i1⟩
  | .hbm, ⟨72, _⟩ => ⟨S_, .i32⟩
  | .hbm, ⟨73, _⟩ => ⟨S_, .i1⟩
  | .hbm, ⟨74, _⟩ => ⟨S128x128, .i1⟩
  | .hbm, ⟨75, _⟩ => ⟨S128x128, .i1⟩
  | .hbm, ⟨76, _⟩ => ⟨S128x128, .i1⟩
  | .hbm, ⟨77, _⟩ => ⟨S128x128, .i32⟩
  | .hbm, ⟨78, _⟩ => ⟨S128x128, .i32⟩
  | .hbm, ⟨79, _⟩ => ⟨S128x128, .i32⟩
  | .hbm, ⟨80, _⟩ => ⟨S128x128, .f32⟩
  | .hbm, ⟨81, _⟩ => ⟨S_, .f32⟩
  | .hbm, ⟨82, _⟩ => ⟨S128x128, .f32⟩
  | .hbm, ⟨83, _⟩ => ⟨S128x128, .f32⟩
  | .hbm, ⟨84, _⟩ => ⟨S128x128, .f32⟩
  | .hbm, ⟨85, _⟩ => ⟨S128x128, .f32⟩
  | .hbm, ⟨86, _⟩ => ⟨S128x128, .f32⟩
  | .hbm, ⟨87, _⟩ => ⟨S128x256, .f32⟩
  | .hbm, ⟨88, _⟩ => ⟨S128x256, .bf16⟩
  | .hbm, ⟨89, _⟩ => ⟨S16x6x2048, .f32⟩
  | .hbm, ⟨90, _⟩ => ⟨S16x8x2048x256, .bf16⟩
  | .hbm, ⟨91, _⟩ => ⟨S16x8x2048x256, .bf16⟩
  | .hbm, ⟨92, _⟩ => ⟨S16x8x2048x128, .bf16⟩
  | .hbm, ⟨93, _⟩ => ⟨S16x2048x512, .bf16⟩
  | .hbm, ⟨94, _⟩ => ⟨S16x2048x512, .bf16⟩
  | .hbm, ⟨95, _⟩ => ⟨S16x2x2x1024x512, .bf16⟩
  | .hbm, ⟨96, _⟩ => ⟨S16x8x2048x192, .bf16⟩
  | .hbm, ⟨97, _⟩ => ⟨S16x2048x8x192, .bf16⟩
  | .hbm, ⟨98, _⟩ => ⟨S16x8x2048x192, .bf16⟩
  | .hbm, ⟨99, _⟩ => ⟨S16x2048x8x192, .bf16⟩
  | .hbm, ⟨100, _⟩ => ⟨S16x2048x8x128, .bf16⟩
  | .local _ .vmem, ⟨0, _⟩ => ⟨S1x256x2048, .f32⟩
  | .local _ .vmem, ⟨1, _⟩ => ⟨S1x256x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S2048x2944, .bf16⟩
  | .local _ .vmem, ⟨6, _⟩ => ⟨S1x512, .f32⟩
  | .local _ .vmem, ⟨7, _⟩ => ⟨S512x2048, .bf16⟩
  | .local _ .vmem, ⟨8, _⟩ => ⟨S1x256, .f32⟩
  | .local _ .vmem, ⟨9, _⟩ => ⟨S256x2048, .bf16⟩
  | .local _ .vmem, ⟨10, _⟩ => ⟨S1x256, .f32⟩
  | .local _ .vmem, ⟨11, _⟩ => ⟨S1x256, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S128x256, .bf16⟩
  | .local _ .vmem, ⟨17, _⟩ => ⟨S1x8x256x256, .bf16⟩
  | .local _ .vmem, ⟨18, _⟩ => ⟨S1x8x256x256, .bf16⟩
  | .local _ .vmem, ⟨19, _⟩ => ⟨S1x8x256x256, .bf16⟩
  | .local _ .vmem, ⟨20, _⟩ => ⟨S1x8x256x256, .bf16⟩
  | .local _ .vmem, ⟨21, _⟩ => ⟨S1x8x256x128, .bf16⟩
  | .local _ .vmem, ⟨22, _⟩ => ⟨S1x8x256x128, .bf16⟩
  | .local _ .vmem, ⟨23, _⟩ => ⟨S1x256x512, .bf16⟩
  | .local _ .vmem, ⟨24, _⟩ => ⟨S1x256x512, .bf16⟩
  | .local _ .vmem, ⟨25, _⟩ => ⟨S1x256x512, .bf16⟩
  | .local _ .vmem, ⟨26, _⟩ => ⟨S1x256x512, .bf16⟩
  | .local _ .vmem, ⟨27, _⟩ => ⟨S1x2x2x128x512, .bf16⟩
  | .local _ .vmem, ⟨28, _⟩ => ⟨S1x2x2x128x512, .bf16⟩
  | .local _ .vmem, ⟨29, _⟩ => ⟨S256x2944, .f32⟩
  | .local _ .vmem, ⟨30, _⟩ => ⟨S256x2944, .f32⟩
  | .local _ .vmem, ⟨31, _⟩ => ⟨S8x256x128, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_call0_v0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_0 : Ref sig .tc := ⟨.hbm, 34, rfl⟩
abbrev main_call1_v0 : Ref sig .tc := ⟨.hbm, 35, rfl⟩
abbrev main_v17 : Ref sig .tc := ⟨.hbm, 36, rfl⟩
abbrev main_v18 : Ref sig .tc := ⟨.hbm, 37, rfl⟩
abbrev main_c_1 : Ref sig .tc := ⟨.hbm, 38, rfl⟩
abbrev main_call2_v0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_3 : Ref sig .tc := ⟨.hbm, 58, rfl⟩
abbrev main_call3_v0 : Ref sig .tc := ⟨.hbm, 59, rfl⟩
abbrev main_call3_c : Ref sig .tc := ⟨.hbm, 60, rfl⟩
abbrev main_call3_v1 : Ref sig .tc := ⟨.hbm, 61, rfl⟩
abbrev main_call3_c_0 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_call3_c_1 : Ref sig .tc := ⟨.hbm, 66, rfl⟩
abbrev main_call3_v5 : Ref sig .tc := ⟨.hbm, 67, rfl⟩
abbrev main_call3_v6 : Ref sig .tc := ⟨.hbm, 68, rfl⟩
abbrev main_call3_c_2 : Ref sig .tc := ⟨.hbm, 69, rfl⟩
abbrev main_call3_v7 : Ref sig .tc := ⟨.hbm, 70, rfl⟩
abbrev main_call3_v8 : Ref sig .tc := ⟨.hbm, 71, rfl⟩
abbrev main_call3_c_3 : Ref sig .tc := ⟨.hbm, 72, rfl⟩
abbrev main_call3_v9 : Ref sig .tc := ⟨.hbm, 73, rfl⟩
abbrev main_call3_v10 : Ref sig .tc := ⟨.hbm, 74, rfl⟩
abbrev main_call3_v11 : Ref sig .tc := ⟨.hbm, 75, rfl⟩
abbrev main_call3_v12 : Ref sig .tc := ⟨.hbm, 76, rfl⟩
abbrev main_call3_v13 : Ref sig .tc := ⟨.hbm, 77, rfl⟩
abbrev main_call3_v14 : Ref sig .tc := ⟨.hbm, 78, rfl⟩
abbrev main_v36 : Ref sig .tc := ⟨.hbm, 79, rfl⟩
abbrev main_v37 : Ref sig .tc := ⟨.hbm, 80, rfl⟩
abbrev main_cst_4 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46_0 : Ref sig .tc := ⟨.hbm, 90, rfl⟩
abbrev main_v46_1 : Ref sig .tc := ⟨.hbm, 91, rfl⟩
abbrev main_v46_2 : Ref sig .tc := ⟨.hbm, 92, rfl⟩
abbrev main_v46_3 : Ref sig .tc := ⟨.hbm, 93, rfl⟩
abbrev main_v46_4 : Ref sig .tc := ⟨.hbm, 94, rfl⟩
abbrev main_v46_5 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨1, ![129], ![false]⟩

def k0_cond1 (i : grid0.Coords) : BitVec 1 :=
  let arg0 : BitVec 32 := BitVec.ofNat 32 (i 0).val
  let c1_i32 : BitVec 32 := 1#32
  let v0 : BitVec 1 := Scalar.cmpi .sge arg0 c1_i32
  let c128_i32 : BitVec 32 := 128#32
  let v1 : BitVec 1 := Scalar.cmpi .slt arg0 c128_i32
  let v2 : BitVec 1 := Scalar.andi v0 v1
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi arg0 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let v14 : BitVec 1 := Scalar.andi v2 v13
  let v15 : BitVec 32 := Scalar.extui v14
  let c0_i32_5 : BitVec 32 := 0#32
  let v16 : BitVec 1 := Scalar.cmpi .ne v15 c0_i32_5
  v16

def k0_cond3 (i : grid0.Coords) : BitVec 1 :=
  let arg0 : BitVec 32 := BitVec.ofNat 32 (i 0).val
  let c128_i32_8 : BitVec 32 := 128#32
  let v21 : BitVec 1 := Scalar.cmpi .eq arg0 c128_i32_8
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi arg0 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let v22 : BitVec 1 := Scalar.andi v21 v13
  let v23 : BitVec 32 := Scalar.extui v22
  let c0_i32_9 : BitVec 32 := 0#32
  let v24 : BitVec 1 := Scalar.cmpi .ne v23 c0_i32_9
  v24

def k0_cond4 (i : grid0.Coords) : BitVec 1 :=
  let arg0 : BitVec 32 := BitVec.ofNat 32 (i 0).val
  let c1_i32 : BitVec 32 := 1#32
  let v0 : BitVec 1 := Scalar.cmpi .sge arg0 c1_i32
  let c128_i32 : BitVec 32 := 128#32
  let v1 : BitVec 1 := Scalar.cmpi .slt arg0 c128_i32
  let v2 : BitVec 1 := Scalar.andi v0 v1
  let c2_i32_10 : BitVec 32 := 2#32
  let c0_i32_11 : BitVec 32 := 0#32
  let v25 : BitVec 1 := Scalar.cmpi .eq c2_i32_10 c0_i32_11
  let c1_i32_12 : BitVec 32 := 1#32
  let v26 : BitVec 32 := Scalar.select v25 c1_i32_12 c2_i32_10
  let v27 : BitVec 32 := Scalar.remsi arg0 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c1_i32_16 : BitVec 32 := 1#32
  let v35 : BitVec 1 := Scalar.cmpi .eq v34 c1_i32_16
  let v36 : BitVec 1 := Scalar.andi v2 v35
  let v37 : BitVec 32 := Scalar.extui v36
  let c0_i32_17 : BitVec 32 := 0#32
  let v38 : BitVec 1 := Scalar.cmpi .ne v37 c0_i32_17
  v38

def k0_cond6 (i : grid0.Coords) : BitVec 1 :=
  let arg0 : BitVec 32 := BitVec.ofNat 32 (i 0).val
  let c128_i32_20 : BitVec 32 := 128#32
  let v43 : BitVec 1 := Scalar.cmpi .eq arg0 c128_i32_20
  let c2_i32_10 : BitVec 32 := 2#32
  let c0_i32_11 : BitVec 32 := 0#32
  let v25 : BitVec 1 := Scalar.cmpi .eq c2_i32_10 c0_i32_11
  let c1_i32_12 : BitVec 32 := 1#32
  let v26 : BitVec 32 := Scalar.select v25 c1_i32_12 c2_i32_10
  let v27 : BitVec 32 := Scalar.remsi arg0 v26
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let c0_i32_13 : BitVec 32 := 0#32
  let v28 : BitVec 1 := Scalar.cmpi .ne v27 c0_i32_13
  let v32 : BitVec 1 := Scalar.andi v31 v28
  let v33 : BitVec 32 := Scalar.addi v27 v26
  let v34 : BitVec 32 := Scalar.select v32 v33 v27
  let c1_i32_16 : BitVec 32 := 1#32
  let v35 : BitVec 1 := Scalar.cmpi .eq v34 c1_i32_16
  let v44 : BitVec 1 := Scalar.andi v43 v35
  let v45 : BitVec 32 := Scalar.extui v44
  let c0_i32_21 : BitVec 32 := 0#32
  let v46 : BitVec 1 := Scalar.cmpi .ne v45 c0_i32_21
  v46

def cc0_transform_0 (i : grid0.Coords) : Fin 3 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c127_i32_4 : BitVec 32 := 127#32
  let v18 : BitVec 32 := Scalar.minsi arg0 c127_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_1 (i : grid0.Coords) : Fin 3 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let c0_i32_0 : BitVec 32 := 0#32
  let v2 : BitVec 1 := Scalar.cmpi .eq c8_i32 c0_i32_0
  let c1_i32_1 : BitVec 32 := 1#32
  let v3 : BitVec 32 := Scalar.select v2 c1_i32_1 c8_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c8_i32_8 : BitVec 32 := 8#32
  let c0_i32_9 : BitVec 32 := 0#32
  let v21 : BitVec 1 := Scalar.cmpi .eq c8_i32_8 c0_i32_9
  let c1_i32_10 : BitVec 32 := 1#32
  let v22 : BitVec 32 := Scalar.select v21 c1_i32_10 c8_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, c0_i32_14.toNat, v30.toNat, c0_i32_15.toNat]

def cc0_transform_14 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c8_i32_8 : BitVec 32 := 8#32
  let c0_i32_9 : BitVec 32 := 0#32
  let v21 : BitVec 1 := Scalar.cmpi .eq c8_i32_8 c0_i32_9
  let c1_i32_10 : BitVec 32 := 1#32
  let v22 : BitVec 32 := Scalar.select v21 c1_i32_10 c8_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, c0_i32_14.toNat, v30.toNat, c0_i32_15.toNat]

def cc0_transform_15 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c8_i32_8 : BitVec 32 := 8#32
  let c0_i32_9 : BitVec 32 := 0#32
  let v21 : BitVec 1 := Scalar.cmpi .eq c8_i32_8 c0_i32_9
  let c1_i32_10 : BitVec 32 := 1#32
  let v22 : BitVec 32 := Scalar.select v21 c1_i32_10 c8_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, c0_i32_14.toNat, v30.toNat, c0_i32_15.toNat]

def cc0_transform_16 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c8_i32_8 : BitVec 32 := 8#32
  let c0_i32_9 : BitVec 32 := 0#32
  let v21 : BitVec 1 := Scalar.cmpi .eq c8_i32_8 c0_i32_9
  let c1_i32_10 : BitVec 32 := 1#32
  let v22 : BitVec 32 := Scalar.select v21 c1_i32_10 c8_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, v30.toNat, c0_i32_14.toNat]

def cc0_transform_17 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c8_i32_8 : BitVec 32 := 8#32
  let c0_i32_9 : BitVec 32 := 0#32
  let v21 : BitVec 1 := Scalar.cmpi .eq c8_i32_8 c0_i32_9
  let c1_i32_10 : BitVec 32 := 1#32
  let v22 : BitVec 32 := Scalar.select v21 c1_i32_10 c8_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, v30.toNat, c0_i32_14.toNat]

def cc0_transform_18 (i : grid0.Coords) : Fin 5 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.divsi v1 c8_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c8_i32_8 : BitVec 32 := 8#32
  let c0_i32_9 : BitVec 32 := 0#32
  let v21 : BitVec 1 := Scalar.cmpi .eq c8_i32_8 c0_i32_9
  let c1_i32_10 : BitVec 32 := 1#32
  let v22 : BitVec 32 := Scalar.select v21 c1_i32_10 c8_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  let c0_i32_17 : BitVec 32 := 0#32
  ![v18.toNat, c0_i32_14.toNat, c0_i32_15.toNat, v30.toNat, c0_i32_16.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2944 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S128x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x8x256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x8x256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x8x256x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x2x2x128x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Kernel2Ideal.lean ====
variable {F : FTy → Type} [FloatOps F] [Named F]
def κ : String → Option EReal := fun
  | "inv_head" => some ((1 / 192 : ℝ) : EReal)
  | "q_scale" => some (((Real.sqrt 192)⁻¹ * (Real.log 2)⁻¹ : ℝ) : EReal)
  | _ => none
-- ==== Reference2Ideal.lean ====
abbrev S16x2048x2048 : Shape := ⟨3, ![16, 2048, 2048]⟩
abbrev S16x12288 : Shape := ⟨2, ![16, 12288]⟩
abbrev S2048 : Shape := ⟨1, ![2048]⟩
abbrev S2048x2880 : Shape := ⟨2, ![2048, 2880]⟩
abbrev S512 : Shape := ⟨1, ![512]⟩
abbrev S512x1536 : Shape := ⟨2, ![512, 1536]⟩
abbrev S256 : Shape := ⟨1, ![256]⟩
abbrev S256x2048 : Shape := ⟨2, ![256, 2048]⟩
abbrev S192 : Shape := ⟨1, ![192]⟩
abbrev S2048x1x16 : Shape := ⟨3, ![2048, 1, 16]⟩
abbrev S16x1x12288 : Shape := ⟨3, ![16, 1, 12288]⟩
abbrev S16x1x2048 : Shape := ⟨3, ![16, 1, 2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S16x2048x2880 : Shape := ⟨3, ![16, 2048, 2880]⟩
abbrev S16x2048x512 : Shape := ⟨3, ![16, 2048, 512]⟩
abbrev S1x1x512 : Shape := ⟨3, ![1, 1, 512]⟩
abbrev S16x2048x1536 : Shape := ⟨3, ![16, 2048, 1536]⟩
abbrev S16x2048x8x192 : Shape := ⟨4, ![16, 2048, 8, 192]⟩
abbrev S16x2048x8 : Shape := ⟨3, ![16, 2048, 8]⟩
abbrev S16x2048x8x1 : Shape := ⟨4, ![16, 2048, 8, 1]⟩
abbrev S1x1x1x192 : Shape := ⟨4, ![1, 1, 1, 192]⟩
abbrev S16x2048x8x64 : Shape := ⟨4, ![16, 2048, 8, 64]⟩
abbrev S16x2048x8x32 : Shape := ⟨4, ![16, 2048, 8, 32]⟩
abbrev S16x2048x8x16 : Shape := ⟨4, ![16, 2048, 8, 16]⟩
abbrev S1x2048x1x16 : Shape := ⟨4, ![1, 2048, 1, 16]⟩
abbrev S16x2048x8x128 : Shape := ⟨4, ![16, 2048, 8, 128]⟩
abbrev S16x2048x256 : Shape := ⟨3, ![16, 2048, 256]⟩
abbrev S16x2048x64 : Shape := ⟨3, ![16, 2048, 64]⟩
abbrev S1x1x256 : Shape := ⟨3, ![1, 1, 256]⟩
abbrev S16x2048x8x256 : Shape := ⟨4, ![16, 2048, 8, 256]⟩
abbrev S16x2048x1x64 : Shape := ⟨4, ![16, 2048, 1, 64]⟩

abbrev nBuf : Space → Nat
  | .hbm => 217
  | .vmem => 0
  | .smem => 0
  | _ => 0

abbrev hbmTy0_0 (i : Nat) : BufTy := match i % 128 with
  | 0 => ⟨S16x2048x2048, .f32⟩
  | 1 => ⟨S16x12288, .f32⟩
  | 2 => ⟨S2048, .f32⟩
  | 3 => ⟨S2048x2880, .f32⟩
  | 4 => ⟨S512, .f32⟩
  | 5 => ⟨S512x1536, .f32⟩
  | 6 => ⟨S256, .f32⟩
  | 7 => ⟨S256x2048, .f32⟩
  | 8 => ⟨S192, .f32⟩
  | 9 => ⟨S192, .f32⟩
  | 10 => ⟨S2048x1x16, .f32⟩
  | 11 => ⟨S2048x1x16, .f32⟩
  | 12 => ⟨S2048x1x16, .f32⟩
  | 13 => ⟨S2048x1x16, .f32⟩
  | 14 => ⟨S16x1x12288, .f32⟩
  | 15 => ⟨S16x1x2048, .f32⟩
  | 16 => ⟨S16x1x2048, .f32⟩
  | 17 => ⟨S16x1x2048, .f32⟩
  | 18 => ⟨S16x1x2048, .f32⟩
  | 19 => ⟨S16x1x2048, .f32⟩
  | 20 => ⟨S16x1x2048, .f32⟩
  | 21 => ⟨S16x2048x2048, .f32⟩
  | 22 => ⟨S_, .f32⟩
  | 23 => ⟨S16x2048, .f32⟩
  | 24 => ⟨S16x2048x1, .f32⟩
  | 25 => ⟨S_, .f32⟩
  | 26 => ⟨S16x2048x1, .f32⟩
  | 27 => ⟨S16x2048x1, .f32⟩
  | 28 => ⟨S_, .f32⟩
  | 29 => ⟨S16x2048x1, .f32⟩
  | 30 => ⟨S16x2048x1, .f32⟩
  | 31 => ⟨S16x2048x1, .f32⟩
  | 32 => ⟨S16x2048x2048, .f32⟩
  | 33 => ⟨S16x2048x2048, .f32⟩
  | 34 => ⟨S1x1x2048, .f32⟩
  | 35 => ⟨S16x2048x2048, .f32⟩
  | 36 => ⟨S16x2048x2048, .f32⟩
  | 37 => ⟨S_, .f32⟩
  | 38 => ⟨S16x1x2048, .f32⟩
  | 39 => ⟨S16x1x2048, .f32⟩
  | 40 => ⟨S16x2048x2048, .f32⟩
  | 41 => ⟨S16x2048x2048, .f32⟩
  | 42 => ⟨S16x2048x2048, .f32⟩
  | 43 => ⟨S16x2048x2048, .f32⟩
  | 44 => ⟨S16x2048x2880, .f32⟩
  | 45 => ⟨S16x2048x512, .f32⟩
  | 46 => ⟨S16x2048x512, .f32⟩
  | 47 => ⟨S_, .f32⟩
  | 48 => ⟨S16x2048, .f32⟩
  | 49 => ⟨S16x2048x1, .f32⟩
  | 50 => ⟨S_, .f32⟩
  | 51 => ⟨S16x2048x1, .f32⟩
  | 52 => ⟨S16x2048x1, .f32⟩
  | 53 => ⟨S_, .f32⟩
  | 54 => ⟨S16x2048x1, .f32⟩
  | 55 => ⟨S16x2048x1, .f32⟩
  | 56 => ⟨S16x2048x1, .f32⟩
  | 57 => ⟨S16x2048x512, .f32⟩
  | 58 => ⟨S16x2048x512, .f32⟩
  | 59 => ⟨S1x1x512, .f32⟩
  | 60 => ⟨S16x2048x512, .f32⟩
  | 61 => ⟨S16x2048x512, .f32⟩
  | 62 => ⟨S16x2048x1536, .f32⟩
  | 63 => ⟨S16x2048x8x192, .f32⟩
  | 64 => ⟨S16x2048x8x192, .f32⟩
  | 65 => ⟨S_, .f32⟩
  | 66 => ⟨S16x2048x8, .f32⟩
  | 67 => ⟨S16x2048x8x1, .f32⟩
  | 68 => ⟨S_, .f32⟩
  | 69 => ⟨S16x2048x8x1, .f32⟩
  | 70 => ⟨S16x2048x8x1, .f32⟩
  | 71 => ⟨S_, .f32⟩
  | 72 => ⟨S16x2048x8x1, .f32⟩
  | 73 => ⟨S16x2048x8x1, .f32⟩
  | 74 => ⟨S16x2048x8x1, .f32⟩
  | 75 => ⟨S16x2048x8x192, .f32⟩
  | 76 => ⟨S16x2048x8x192, .f32⟩
  | 77 => ⟨S1x1x1x192, .f32⟩
  | 78 => ⟨S16x2048x8x192, .f32⟩
  | 79 => ⟨S16x2048x8x192, .f32⟩
  | 80 => ⟨S16x2048x8x64, .f32⟩
  | 81 => ⟨S16x2048x8x32, .f32⟩
  | 82 => ⟨S16x2048x8x16, .f32⟩
  | 83 => ⟨S16x2048x8x16, .f32⟩
  | 84 => ⟨S1x2048x1x16, .f32⟩
  | 85 => ⟨S16x2048x8x16, .f32⟩
  | 86 => ⟨S16x2048x8x16, .f32⟩
  | 87 => ⟨S1x2048x1x16, .f32⟩
  | 88 => ⟨S16x2048x8x16, .f32⟩
  | 89 => ⟨S16x2048x8x16, .f32⟩
  | 90 => ⟨S16x2048x8x16, .f32⟩
  | 91 => ⟨S1x2048x1x16, .f32⟩
  | 92 => ⟨S16x2048x8x16, .f32⟩
  | 93 => ⟨S16x2048x8x16, .f32⟩
  | 94 => ⟨S1x2048x1x16, .f32⟩
  | 95 => ⟨S16x2048x8x16, .f32⟩
  | 96 => ⟨S16x2048x8x16, .f32⟩
  | 97 => ⟨S16x2048x8x16, .f32⟩
  | 98 => ⟨S16x2048x8x32, .f32⟩
  | 99 => ⟨S16x2048x8x32, .f32⟩
  | 100 => ⟨S16x2048x8x16, .f32⟩
  | 101 => ⟨S16x2048x8x16, .f32⟩
  | 102 => ⟨S1x2048x1x16, .f32⟩
  | 103 => ⟨S16x2048x8x16, .f32⟩
  | 104 => ⟨S16x2048x8x16, .f32⟩
  | 105 => ⟨S1x2048x1x16, .f32⟩
  | 106 => ⟨S16x2048x8x16, .f32⟩
  | 107 => ⟨S16x2048x8x16, .f32⟩
  | 108 => ⟨S16x2048x8x16, .f32⟩
  | 109 => ⟨S1x2048x1x16, .f32⟩
  | 110 => ⟨S16x2048x8x16, .f32⟩
  | 111 => ⟨S16x2048x8x16, .f32⟩
  | 112 => ⟨S1x2048x1x16, .f32⟩
  | 113 => ⟨S16x2048x8x16, .f32⟩
  | 114 => ⟨S16x2048x8x16, .f32⟩
  | 115 => ⟨S16x2048x8x16, .f32⟩
  | 116 => ⟨S16x2048x8x32, .f32⟩
  | 117 => ⟨S16x2048x8x64, .f32⟩
  | 118 => ⟨S16x2048x8x128, .f32⟩
  | 119 => ⟨S16x2048x8x192, .f32⟩
  | 120 => ⟨S16x2048x256, .f32⟩
  | 121 => ⟨S16x2048x64, .f32⟩
  | 122 => ⟨S16x2048x256, .f32⟩
  | 123 => ⟨S_, .f32⟩
  | 124 => ⟨S16x2048, .f32⟩
  | 125 => ⟨S16x2048x1, .f32⟩
  | 126 => ⟨S_, .f32⟩
  | 127 => ⟨S16x2048x1, .f32⟩
  | _ => ⟨S16x2048x2048, .f32⟩

abbrev hbmTy0_1 (i : Nat) : BufTy := match i % 128 with
  | 0 => ⟨S16x2048x1, .f32⟩
  | 1 => ⟨S_, .f32⟩
  | 2 => ⟨S16x2048x1, .f32⟩
  | 3 => ⟨S16x2048x1, .f32⟩
  | 4 => ⟨S16x2048x1, .f32⟩
  | 5 => ⟨S16x2048x256, .f32⟩
  | 6 => ⟨S16x2048x256, .f32⟩
  | 7 => ⟨S1x1x256, .f32⟩
  | 8 => ⟨S16x2048x256, .f32⟩
  | 9 => ⟨S16x2048x256, .f32⟩
  | 10 => ⟨S16x2048x2048, .f32⟩
  | 11 => ⟨S16x2048x8x256, .f32⟩
  | 12 => ⟨S16x2048x8x128, .f32⟩
  | 13 => ⟨S16x2048x8x128, .f32⟩
  | 14 => ⟨S16x2048x1x64, .f32⟩
  | 15 => ⟨S16x2048x8x64, .f32⟩
  | 16 => ⟨S16x2048x8x192, .f32⟩
  | 17 => ⟨S16x2048x8x192, .f32⟩
  | 18 => ⟨S_, .f32⟩
  | 19 => ⟨S16x2048x8, .f32⟩
  | 20 => ⟨S16x2048x8x1, .f32⟩
  | 21 => ⟨S_, .f32⟩
  | 22 => ⟨S16x2048x8x1, .f32⟩
  | 23 => ⟨S16x2048x8x1, .f32⟩
  | 24 => ⟨S_, .f32⟩
  | 25 => ⟨S16x2048x8x1, .f32⟩
  | 26 => ⟨S16x2048x8x1, .f32⟩
  | 27 => ⟨S16x2048x8x1, .f32⟩
  | 28 => ⟨S16x2048x8x192, .f32⟩
  | 29 => ⟨S16x2048x8x192, .f32⟩
  | 30 => ⟨S1x1x1x192, .f32⟩
  | 31 => ⟨S16x2048x8x192, .f32⟩
  | 32 => ⟨S16x2048x8x192, .f32⟩
  | 33 => ⟨S16x2048x8x64, .f32⟩
  | 34 => ⟨S16x2048x8x32, .f32⟩
  | 35 => ⟨S16x2048x8x16, .f32⟩
  | 36 => ⟨S16x2048x8x16, .f32⟩
  | 37 => ⟨S1x2048x1x16, .f32⟩
  | 38 => ⟨S16x2048x8x16, .f32⟩
  | 39 => ⟨S16x2048x8x16, .f32⟩
  | 40 => ⟨S1x2048x1x16, .f32⟩
  | 41 => ⟨S16x2048x8x16, .f32⟩
  | 42 => ⟨S16x2048x8x16, .f32⟩
  | 43 => ⟨S16x2048x8x16, .f32⟩
  | 44 => ⟨S1x2048x1x16, .f32⟩
  | 45 => ⟨S16x2048x8x16, .f32⟩
  | 46 => ⟨S16x2048x8x16, .f32⟩
  | 47 => ⟨S1x2048x1x16, .f32⟩
  | 48 => ⟨S16x2048x8x16, .f32⟩
  | 49 => ⟨S16x2048x8x16, .f32⟩
  | 50 => ⟨S16x2048x8x16, .f32⟩
  | 51 => ⟨S16x2048x8x32, .f32⟩
  | 52 => ⟨S16x2048x8x32, .f32⟩
  | 53 => ⟨S16x2048x8x16, .f32⟩
  | 54 => ⟨S16x2048x8x16, .f32⟩
  | 55 => ⟨S1x2048x1x16, .f32⟩
  | 56 => ⟨S16x2048x8x16, .f32⟩
  | 57 => ⟨S16x2048x8x16, .f32⟩
  | 58 => ⟨S1x2048x1x16, .f32⟩
  | 59 => ⟨S16x2048x8x16, .f32⟩
  | 60 => ⟨S16x2048x8x16, .f32⟩
  | 61 => ⟨S16x2048x8x16, .f32⟩
  | 62 => ⟨S1x2048x1x16, .f32⟩
  | 63 => ⟨S16x2048x8x16, .f32⟩
  | 64 => ⟨S16x2048x8x16, .f32⟩
  | 65 => ⟨S1x2048x1x16, .f32⟩
  | 66 => ⟨S16x2048x8x16, .f32⟩
  | 67 => ⟨S16x2048x8x16, .f32⟩
  | 68 => ⟨S16x2048x8x16, .f32⟩
  | 69 => ⟨S16x2048x8x32, .f32⟩
  | 70 => ⟨S16x2048x8x64, .f32⟩
  | 71 => ⟨S16x2048x8x128, .f32⟩
  | 72 => ⟨S16x2048x8x192, .f32⟩
  | 73 => ⟨S16x2048x512, .f32⟩
  | 74 => ⟨S16x2048x512, .f32⟩
  | 75 => ⟨S16x2048x512, .f32⟩
  | 76 => ⟨S_, .f32⟩
  | 77 => ⟨S_, .f32⟩
  | 78 => ⟨S_, .f32⟩
  | 79 => ⟨S_, .f32⟩
  | 80 => ⟨S_, .f32⟩
  | 81 => ⟨S16x2048x8x192, .f32⟩
  | 82 => ⟨S16x2048x8x192, .f32⟩
  | 83 => ⟨S16x2048x512, .f32⟩
  | 84 => ⟨S16x2048x8x192, .bf16⟩
  | 85 => ⟨S16x2048x8x192, .bf16⟩
  | 86 => ⟨S16x2048x8x128, .bf16⟩
  | 87 => ⟨S16x2048x512, .bf16⟩
  | 88 => ⟨S16x2048x512, .bf16⟩
  | _ => ⟨S16x2048x2048, .f32⟩

abbrev hbmTy (i : Nat) : BufTy := match i / 128 with
  | 0 => hbmTy0_0 i
  | 1 => hbmTy0_1 i
  | _ => ⟨S16x2048x2048, .f32⟩

abbrev bufTy : (tb : Table) → Fin (tcTables nBuf tb) → BufTy
  | .hbm, ⟨i, _⟩ => hbmTy i
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_9 : Ref sig .tc := ⟨.hbm, 123, rfl⟩
abbrev main_v99 : Ref sig .tc := ⟨.hbm, 124, rfl⟩
abbrev main_v100 : Ref sig .tc := ⟨.hbm, 125, rfl⟩
abbrev main_cst_10 : Ref sig .tc := ⟨.hbm, 126, rfl⟩
abbrev main_v101 : Ref sig .tc := ⟨.hbm, 127, rfl⟩
abbrev main_v102 : Ref sig .tc := ⟨.hbm, 128, rfl⟩
abbrev main_cst_11 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_cst_12 : Ref sig .tc := ⟨.hbm, 146, rfl⟩
abbrev main_v119 : Ref sig .tc := ⟨.hbm, 147, rfl⟩
abbrev main_v120 : Ref sig .tc := ⟨.hbm, 148, rfl⟩
abbrev main_cst_13 : Ref sig .tc := ⟨.hbm, 149, rfl⟩
abbrev main_v121 : Ref sig .tc := ⟨.hbm, 150, rfl⟩
abbrev main_v122 : Ref sig .tc := ⟨.hbm, 151, rfl⟩
abbrev main_cst_14 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_cst_15 : Ref sig .tc := ⟨.hbm, 204, rfl⟩
abbrev main_v174 : Ref sig .tc := ⟨.hbm, 205, rfl⟩
abbrev main_cst_16 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x2048x512 : Shape := ⟨3, ![16, 2048, 512]⟩
abbrev S16x2048x2048 : Shape := ⟨3, ![16, 2048, 2048]⟩
abbrev S16x12288 : Shape := ⟨2, ![16, 12288]⟩
abbrev S2048 : Shape := ⟨1, ![2048]⟩
abbrev S3x512 : Shape := ⟨2, ![3, 512]⟩
abbrev S2048x2048 : Shape := ⟨2, ![2048, 2048]⟩
abbrev S2048x8 : Shape := ⟨2, ![2048, 8]⟩
abbrev S8 : Shape := ⟨1, ![8]⟩
abbrev S2048x64 : Shape := ⟨2, ![2048, 64]⟩
abbrev S64 : Shape := ⟨1, ![64]⟩
abbrev S_ : Shape := ⟨0, ![]⟩
abbrev S2048x56 : Shape := ⟨2, ![2048, 56]⟩
abbrev S2048x128 : Shape := ⟨2, ![2048, 128]⟩
abbrev S56 : Shape := ⟨1, ![56]⟩
abbrev S128 : Shape := ⟨1, ![128]⟩
abbrev S1x128 : Shape := ⟨2, ![1, 128]⟩
abbrev S1x2048 : Shape := ⟨2, ![1, 2048]⟩
abbrev S2048x256 : Shape := ⟨2, ![2048, 256]⟩
abbrev S16x6x2048 : Shape := ⟨3, ![16, 6, 2048]⟩
abbrev S524288x128 : Shape := ⟨2, ![524288, 128]⟩
abbrev S32768x128 : Shape := ⟨2, ![32768, 128]⟩
abbrev S8x32768 : Shape := ⟨2, ![8, 32768]⟩
abbrev S1x256x1024 : Shape := ⟨3, ![1, 256, 1024]⟩
abbrev S1x256x512 : Shape := ⟨3, ![1, 256, 512]⟩
abbrev S1x16x512 : Shape := ⟨3, ![1, 16, 512]⟩
abbrev S1x256x2048 : Shape := ⟨3, ![1, 256, 2048]⟩
abbrev S1x6x2048 : Shape := ⟨3, ![1, 6, 2048]⟩
abbrev S4096x128 : Shape := ⟨2, ![4096, 128]⟩
abbrev S256x128 : Shape := ⟨2, ![256, 128]⟩
abbrev S8x256 : Shape := ⟨2, ![8, 256]⟩
abbrev S256x2048 : Shape := ⟨2, ![256, 2048]⟩
abbrev S256x512 : Shape := ⟨2, ![256, 512]⟩
abbrev S1x1x512 : Shape := ⟨3, ![1, 1, 512]⟩
abbrev S1x512 : Shape := ⟨2, ![1, 512]⟩
abbrev S256x256 : Shape := ⟨2, ![256, 256]⟩
abbrev S256x1024 : Shape := ⟨2, ![256, 1024]⟩
abbrev S1024x512 : Shape := ⟨2, ![1024, 512]⟩
abbrev S512x512 : Shape := ⟨2, ![512, 512]⟩
abbrev S256 : Shape := ⟨1, ![256]⟩
abbrev S256x1 : Shape := ⟨2, ![256, 1]⟩
abbrev S128x256 : Shape := ⟨2, ![128, 256]⟩
abbrev S1x1x2048 : Shape := ⟨3, ![1, 1, 2048]⟩
abbrev S2048x2x128 : Shape := ⟨3, ![2048, 2, 128]⟩
abbrev S256x2x128 : Shape := ⟨3, ![256, 2, 128]⟩
abbrev S256x1x128 : Shape := ⟨3, ![256, 1, 128]⟩

abbrev nBuf : Space → Nat
  | .hbm => 39
  | .vmem => 35
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S16x2048x512, .f32⟩
  | .hbm, ⟨4, _⟩ => ⟨S16x2048x2048, .f32⟩
  | .hbm, ⟨5, _⟩ => ⟨S16x12288, .f32⟩
  | .hbm, ⟨6, _⟩ => ⟨S2048, .f32⟩
  | .hbm, ⟨7, _⟩ => ⟨S3x512, .f32⟩
  | .hbm, ⟨8, _⟩ => ⟨S2048x2048, .f32⟩
  | .hbm, ⟨9, _⟩ => ⟨S2048x8, .f32⟩
  | .hbm, ⟨10, _⟩ => ⟨S8, .f32⟩
  | .hbm, ⟨11, _⟩ => ⟨S2048x64, .f32⟩
  | .hbm, ⟨12, _⟩ => ⟨S64, .f32⟩
  | .hbm, ⟨13, _⟩ => ⟨S_, .f32⟩
  | .hbm, ⟨14, _⟩ => ⟨S2048x56, .f32⟩
  | .hbm, ⟨15, _⟩ => ⟨S2048x128, .f32⟩
  | .hbm, ⟨16, _⟩ => ⟨S2048x128, .bf16⟩
  | .hbm, ⟨17, _⟩ => ⟨S2048x128, .f32⟩
  | .hbm, ⟨18, _⟩ => ⟨S2048x128, .f32⟩
  | .hbm, ⟨19, _⟩ => ⟨S2048x128, .bf16⟩
  | .hbm, ⟨20, _⟩ => ⟨S_, .f32⟩
  | .hbm, ⟨21, _⟩ => ⟨S56, .f32⟩
  | .hbm, ⟨22, _⟩ => ⟨S128, .f32⟩
  | .hbm, ⟨23, _⟩ => ⟨S1x128, .f32⟩
  | .hbm, ⟨24, _⟩ => ⟨S1x2048, .f32⟩
  | .hbm, ⟨25, _⟩ => ⟨S2048x2048, .bf16⟩
  | .hbm, ⟨26, _⟩ => ⟨S2048x256, .bf16⟩
  | .hbm, ⟨27, _⟩ => ⟨S16x2048x1024, .bf16⟩
  | .hbm, ⟨28, _⟩ => ⟨S16x2048x512, .bf16⟩
  | .hbm, ⟨29, _⟩ => ⟨S16x2048x512, .bf16⟩
  | .hbm, ⟨30, _⟩ => ⟨S16x2048x512, .bf16⟩
  | .hbm, ⟨31, _⟩ => ⟨S16x6x2048, .f32⟩
  | .hbm, ⟨32, _⟩ => ⟨S_, .f32⟩
  | .hbm, ⟨33, _⟩ => ⟨S1x128, .f32⟩
  | .hbm, ⟨34, _⟩ => ⟨S16x2048x2048, .f32⟩
  | .hbm, ⟨35, _⟩ => ⟨S524288x128, .bf16⟩
  | .hbm, ⟨36, _⟩ => ⟨S32768x128, .f32⟩
  | .hbm, ⟨37, _⟩ => ⟨S8x32768, .f32⟩
  | .hbm, ⟨38, _⟩ => ⟨S1x128, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x16x512, .bf16⟩
  | .local _ .vmem, ⟨7, _⟩ => ⟨S1x16x512, .bf16⟩
  | .local _ .vmem, ⟨8, _⟩ => ⟨S1x16x512, .bf16⟩
  | .local _ .vmem, ⟨9, _⟩ => ⟨S1x16x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x2048, .f32⟩
  | .local _ .vmem, ⟨13, _⟩ => ⟨S1x256x2048, .f32⟩
  | .local _ .vmem, ⟨14, _⟩ => ⟨S1x6x2048, .f32⟩
  | .local _ .vmem, ⟨15, _⟩ => ⟨S1x6x2048, .f32⟩
  | .local _ .vmem, ⟨16, _⟩ => ⟨S3x512, .f32⟩
  | .local _ .vmem, ⟨17, _⟩ => ⟨S2048x2048, .bf16⟩
  | .local _ .vmem, ⟨18, _⟩ => ⟨S1x2048, .f32⟩
  | .local _ .vmem, ⟨19, _⟩ => ⟨S2048x256, .bf16⟩
  | .local _ .vmem, ⟨20, _⟩ => ⟨S2048x128, .bf16⟩
  | .local _ .vmem, ⟨21, _⟩ => ⟨S1x128, .f32⟩
  | .local _ .vmem, ⟨22, _⟩ => ⟨S1x128, .f32⟩
  | .local _ .vmem, ⟨23, _⟩ => ⟨S1x256x2048, .f32⟩
  | .local _ .vmem, ⟨24, _⟩ => ⟨S1x256x2048, .f32⟩
  | .local _ .vmem, ⟨25, _⟩ => ⟨S4096x128, .bf16⟩
  | .local _ .vmem, ⟨26, _⟩ => ⟨S4096x128, .bf16⟩
  | .local _ .vmem, ⟨27, _⟩ => ⟨S256x128, .f32⟩
  | .local _ .vmem, ⟨28, _⟩ => ⟨S256x128, .f32⟩
  | .local _ .vmem, ⟨29, _⟩ => ⟨S8x256, .f32⟩
  | .local _ .vmem, ⟨30, _⟩ => ⟨S8x256, .f32⟩
  | .local _ .vmem, ⟨31, _⟩ => ⟨S1x128, .f32⟩
  | .local _ .vmem, ⟨32, _⟩ => ⟨S1x128, .f32⟩
  | .local _ .vmem, ⟨33, _⟩ => ⟨S256x2048, .f32⟩
  | .local _ .vmem, ⟨34, _⟩ => ⟨S256x2048, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18_0 : Ref sig .tc := ⟨.hbm, 34, rfl⟩
abbrev main_v18_1 : Ref sig .tc := ⟨.hbm, 35, rfl⟩
abbrev main_v18_2 : Ref sig .tc := ⟨.hbm, 36, rfl⟩
abbrev main_v18_3 : Ref sig .tc := ⟨.hbm, 37, rfl⟩
abbrev main_v18_4 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31

abbrev nD : Nat := 1
abbrev τ : Topo := Topo.v7x

variable {F : FTy → Type} [BitOps F]

abbrev grid0 : Pipeline.Grid := ⟨1, ![129], ![false]⟩

def k0_cond2 (i : grid0.Coords) : BitVec 1 :=
  let arg0 : BitVec 32 := BitVec.ofNat 32 (i 0).val
  let c1_i32_5 : BitVec 32 := 1#32
  let v13 : BitVec 1 := Scalar.cmpi .sge arg0 c1_i32_5
  let c128_i32 : BitVec 32 := 128#32
  let v14 : BitVec 1 := Scalar.cmpi .slt arg0 c128_i32
  let v15 : BitVec 1 := Scalar.andi v13 v14
  let c2_i32 : BitVec 32 := 2#32
  let c0_i32_6 : BitVec 32 := 0#32
  let v16 : BitVec 1 := Scalar.cmpi .eq c2_i32 c0_i32_6
  let c1_i32_7 : BitVec 32 := 1#32
  let v17 : BitVec 32 := Scalar.select v16 c1_i32_7 c2_i32
  let v18 : BitVec 32 := Scalar.remsi arg0 v17
  let c0_i32_9 : BitVec 32 := 0#32
  let v20 : BitVec 1 := Scalar.cmpi .slt v18 c0_i32_9
  let c0_i32_10 : BitVec 32 := 0#32
  let v21 : BitVec 1 := Scalar.cmpi .slt v17 c0_i32_10
  let v22 : BitVec 1 := Scalar.xori v20 v21
  let c0_i32_8 : BitVec 32 := 0#32
  let v19 : BitVec 1 := Scalar.cmpi .ne v18 c0_i32_8
  let v23 : BitVec 1 := Scalar.andi v22 v19
  let v24 : BitVec 32 := Scalar.addi v18 v17
  let v25 : BitVec 32 := Scalar.select v23 v24 v18
  let c0_i32_11 : BitVec 32 := 0#32
  let v26 : BitVec 1 := Scalar.cmpi .eq v25 c0_i32_11
  let v27 : BitVec 1 := Scalar.andi v15 v26
  let v28 : BitVec 32 := Scalar.extui v27
  let c0_i32_12 : BitVec 32 := 0#32
  let v29 : BitVec 1 := Scalar.cmpi .ne v28 c0_i32_12
  v29

def k0_cond3 (i : grid0.Coords) : BitVec 1 :=
  let arg0 : BitVec 32 := BitVec.ofNat 32 (i 0).val
  let c0_i32_13 : BitVec 32 := 0#32
  let v30 : BitVec 1 := Scalar.cmpi .eq arg0 c0_i32_13
  let c2_i32 : BitVec 32 := 2#32
  let c0_i32_6 : BitVec 32 := 0#32
  let v16 : BitVec 1 := Scalar.cmpi .eq c2_i32 c0_i32_6
  let c1_i32_7 : BitVec 32 := 1#32
  let v17 : BitVec 32 := Scalar.select v16 c1_i32_7 c2_i32
  let v18 : BitVec 32 := Scalar.remsi arg0 v17
  let c0_i32_9 : BitVec 32 := 0#32
  let v20 : BitVec 1 := Scalar.cmpi .slt v18 c0_i32_9
  let c0_i32_10 : BitVec 32 := 0#32
  let v21 : BitVec 1 := Scalar.cmpi .slt v17 c0_i32_10
  let v22 : BitVec 1 := Scalar.xori v20 v21
  let c0_i32_8 : BitVec 32 := 0#32
  let v19 : BitVec 1 := Scalar.cmpi .ne v18 c0_i32_8
  let v23 : BitVec 1 := Scalar.andi v22 v19
  let v24 : BitVec 32 := Scalar.addi v18 v17
  let v25 : BitVec 32 := Scalar.select v23 v24 v18
  let c0_i32_11 : BitVec 32 := 0#32
  let v26 : BitVec 1 := Scalar.cmpi .eq v25 c0_i32_11
  let v31 : BitVec 1 := Scalar.andi v30 v26
  let v32 : BitVec 32 := Scalar.extui v31
  let c0_i32_14 : BitVec 32 := 0#32
  let v33 : BitVec 1 := Scalar.cmpi .ne v32 c0_i32_14
  v33

def k0_cond5 (i : grid0.Coords) : BitVec 1 :=
  let arg0 : BitVec 32 := BitVec.ofNat 32 (i 0).val
  let c1_i32_5 : BitVec 32 := 1#32
  let v13 : BitVec 1 := Scalar.cmpi .sge arg0 c1_i32_5
  let c128_i32 : BitVec 32 := 128#32
  let v14 : BitVec 1 := Scalar.cmpi .slt arg0 c128_i32
  let v15 : BitVec 1 := Scalar.andi v13 v14
  let c2_i32_17 : BitVec 32 := 2#32
  let c0_i32_18 : BitVec 32 := 0#32
  let v38 : BitVec 1 := Scalar.cmpi .eq c2_i32_17 c0_i32_18
  let c1_i32_19 : BitVec 32 := 1#32
  let v39 : BitVec 32 := Scalar.select v38 c1_i32_19 c2_i32_17
  let v40 : BitVec 32 := Scalar.remsi arg0 v39
  let c0_i32_21 : BitVec 32 := 0#32
  let v42 : BitVec 1 := Scalar.cmpi .slt v40 c0_i32_21
  let c0_i32_22 : BitVec 32 := 0#32
  let v43 : BitVec 1 := Scalar.cmpi .slt v39 c0_i32_22
  let v44 : BitVec 1 := Scalar.xori v42 v43
  let c0_i32_20 : BitVec 32 := 0#32
  let v41 : BitVec 1 := Scalar.cmpi .ne v40 c0_i32_20
  let v45 : BitVec 1 := Scalar.andi v44 v41
  let v46 : BitVec 32 := Scalar.addi v40 v39
  let v47 : BitVec 32 := Scalar.select v45 v46 v40
  let c1_i32_23 : BitVec 32 := 1#32
  let v48 : BitVec 1 := Scalar.cmpi .eq v47 c1_i32_23
  let v49 : BitVec 1 := Scalar.andi v15 v48
  let v50 : BitVec 32 := Scalar.extui v49
  let c0_i32_24 : BitVec 32 := 0#32
  let v51 : BitVec 1 := Scalar.cmpi .ne v50 c0_i32_24
  v51

def k0_cond6 (i : grid0.Coords) : BitVec 1 :=
  let arg0 : BitVec 32 := BitVec.ofNat 32 (i 0).val
  let c0_i32_25 : BitVec 32 := 0#32
  let v52 : BitVec 1 := Scalar.cmpi .eq arg0 c0_i32_25
  let c2_i32_17 : BitVec 32 := 2#32
  let c0_i32_18 : BitVec 32 := 0#32
  let v38 : BitVec 1 := Scalar.cmpi .eq c2_i32_17 c0_i32_18
  let c1_i32_19 : BitVec 32 := 1#32
  let v39 : BitVec 32 := Scalar.select v38 c1_i32_19 c2_i32_17
  let v40 : BitVec 32 := Scalar.remsi arg0 v39
  let c0_i32_21 : BitVec 32 := 0#32
  let v42 : BitVec 1 := Scalar.cmpi .slt v40 c0_i32_21
  let c0_i32_22 : BitVec 32 := 0#32
  let v43 : BitVec 1 := Scalar.cmpi .slt v39 c0_i32_22
  let v44 : BitVec 1 := Scalar.xori v42 v43
  let c0_i32_20 : BitVec 32 := 0#32
  let v41 : BitVec 1 := Scalar.cmpi .ne v40 c0_i32_20
  let v45 : BitVec 1 := Scalar.andi v44 v41
  let v46 : BitVec 32 := Scalar.addi v40 v39
  let v47 : BitVec 32 := Scalar.select v45 v46 v40
  let c1_i32_23 : BitVec 32 := 1#32
  let v48 : BitVec 1 := Scalar.cmpi .eq v47 c1_i32_23
  let v53 : BitVec 1 := Scalar.andi v52 v48
  let v54 : BitVec 32 := Scalar.extui v53
  let c0_i32_26 : BitVec 32 := 0#32
  let v55 : BitVec 1 := Scalar.cmpi .ne v54 c0_i32_26
  v55

def k0_cond4 (i : grid0.Coords) : BitVec 1 :=
  let arg0 : BitVec 32 := BitVec.ofNat 32 (i 0).val
  let c128_i32_15 : BitVec 32 := 128#32
  let v34 : BitVec 1 := Scalar.cmpi .eq arg0 c128_i32_15
  let c2_i32 : BitVec 32 := 2#32
  let c0_i32_6 : BitVec 32 := 0#32
  let v16 : BitVec 1 := Scalar.cmpi .eq c2_i32 c0_i32_6
  let c1_i32_7 : BitVec 32 := 1#32
  let v17 : BitVec 32 := Scalar.select v16 c1_i32_7 c2_i32
  let v18 : BitVec 32 := Scalar.remsi arg0 v17
  let c0_i32_9 : BitVec 32 := 0#32
  let v20 : BitVec 1 := Scalar.cmpi .slt v18 c0_i32_9
  let c0_i32_10 : BitVec 32 := 0#32
  let v21 : BitVec 1 := Scalar.cmpi .slt v17 c0_i32_10
  let v22 : BitVec 1 := Scalar.xori v20 v21
  let c0_i32_8 : BitVec 32 := 0#32
  let v19 : BitVec 1 := Scalar.cmpi .ne v18 c0_i32_8
  let v23 : BitVec 1 := Scalar.andi v22 v19
  let v24 : BitVec 32 := Scalar.addi v18 v17
  let v25 : BitVec 32 := Scalar.select v23 v24 v18
  let c0_i32_11 : BitVec 32 := 0#32
  let v26 : BitVec 1 := Scalar.cmpi .eq v25 c0_i32_11
  let v35 : BitVec 1 := Scalar.andi v34 v26
  let v36 : BitVec 32 := Scalar.extui v35
  let c0_i32_16 : BitVec 32 := 0#32
  let v37 : BitVec 1 := Scalar.cmpi .ne v36 c0_i32_16
  v37

def k0_cond7 (i : grid0.Coords) : BitVec 1 :=
  let arg0 : BitVec 32 := BitVec.ofNat 32 (i 0).val
  let c128_i32_27 : BitVec 32 := 128#32
  let v56 : BitVec 1 := Scalar.cmpi .eq arg0 c128_i32_27
  let c2_i32_17 : BitVec 32 := 2#32
  let c0_i32_18 : BitVec 32 := 0#32
  let v38 : BitVec 1 := Scalar.cmpi .eq c2_i32_17 c0_i32_18
  let c1_i32_19 : BitVec 32 := 1#32
  let v39 : BitVec 32 := Scalar.select v38 c1_i32_19 c2_i32_17
  let v40 : BitVec 32 := Scalar.remsi arg0 v39
  let c0_i32_21 : BitVec 32 := 0#32
  let v42 : BitVec 1 := Scalar.cmpi .slt v40 c0_i32_21
  let c0_i32_22 : BitVec 32 := 0#32
  let v43 : BitVec 1 := Scalar.cmpi .slt v39 c0_i32_22
  let v44 : BitVec 1 := Scalar.xori v42 v43
  let c0_i32_20 : BitVec 32 := 0#32
  let v41 : BitVec 1 := Scalar.cmpi .ne v40 c0_i32_20
  let v45 : BitVec 1 := Scalar.andi v44 v41
  let v46 : BitVec 32 := Scalar.addi v40 v39
  let v47 : BitVec 32 := Scalar.select v45 v46 v40
  let c1_i32_23 : BitVec 32 := 1#32
  let v48 : BitVec 1 := Scalar.cmpi .eq v47 c1_i32_23
  let v57 : BitVec 1 := Scalar.andi v56 v48
  let v58 : BitVec 32 := Scalar.extui v57
  let c0_i32_28 : BitVec 32 := 0#32
  let v59 : BitVec 1 := Scalar.cmpi .ne v58 c0_i32_28
  v59

def cc0_transform_0 (i : grid0.Coords) : Fin 3 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c127_i32_4 : BitVec 32 := 127#32
  let v18 : BitVec 32 := Scalar.minsi arg0 c127_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_1 (i : grid0.Coords) : Fin 3 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c127_i32_4 : BitVec 32 := 127#32
  let v18 : BitVec 32 := Scalar.minsi arg0 c127_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_2 (i : grid0.Coords) : Fin 3 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c127_i32_4 : BitVec 32 := 127#32
  let v18 : BitVec 32 := Scalar.minsi arg0 c127_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_3 (i : grid0.Coords) : Fin 3 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c127_i32_4 : BitVec 32 := 127#32
  let v18 : BitVec 32 := Scalar.minsi arg0 c127_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c16_i32 : BitVec 32 := 16#32
  let v29 : BitVec 32 := Scalar.muli v28 c16_i32
  let c1_i32_11 : BitVec 32 := 1#32
  let v30 : BitVec 32 := Scalar.subi v29 c1_i32_11
  let c0_i32_12 : BitVec 32 := 0#32
  let v31 : BitVec 32 := Scalar.maxsi v30 c0_i32_12
  let c0_i32_13 : BitVec 32 := 0#32
  let c0_i32_14 : BitVec 32 := 0#32
  ![v17.toNat, v31.toNat, c0_i32_13.toNat]

def cc0_transform_4 (i : grid0.Coords) : Fin 3 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c127_i32_4 : BitVec 32 := 127#32
  let v18 : BitVec 32 := Scalar.minsi arg0 c127_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c1_i32_11 : BitVec 32 := 1#32
  let v29 : BitVec 32 := Scalar.addi v28 c1_i32_11
  let c16_i32 : BitVec 32 := 16#32
  let v30 : BitVec 32 := Scalar.muli v29 c16_i32
  let c127_i32_12 : BitVec 32 := 127#32
  let v31 : BitVec 32 := Scalar.minsi v30 c127_i32_12
  let c0_i32_13 : BitVec 32 := 0#32
  let c0_i32_14 : BitVec 32 := 0#32
  ![v17.toNat, v31.toNat, c0_i32_13.toNat]

def cc0_transform_5 (i : grid0.Coords) : Fin 3 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c127_i32_4 : BitVec 32 := 127#32
  let v18 : BitVec 32 := Scalar.minsi arg0 c127_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_6 (i : grid0.Coords) : Fin 3 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c127_i32_4 : BitVec 32 := 127#32
  let v18 : BitVec 32 := Scalar.minsi arg0 c127_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_7 (i : grid0.Coords) : Fin 3 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c127_i32_4 : BitVec 32 := 127#32
  let v18 : BitVec 32 := Scalar.minsi arg0 c127_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_16 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_18 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x6x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4096x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Kernel3Ideal.lean ====
variable {F : FTy → Type} [FloatOps F]
-- ==== Reference3Ideal.lean ====
abbrev S16x2048x1024 : Shape := ⟨3, ![16, 2048, 1024]⟩
abbrev S16x2048x512 : Shape := ⟨3, ![16, 2048, 512]⟩
abbrev S16x2048x2048 : Shape := ⟨3, ![16, 2048, 2048]⟩
abbrev S16x12288 : Shape := ⟨2, ![16, 12288]⟩
abbrev S2048 : Shape := ⟨1, ![2048]⟩
abbrev S3x512 : Shape := ⟨2, ![3, 512]⟩
abbrev S2048x2048 : Shape := ⟨2, ![2048, 2048]⟩
abbrev S2048x8 : Shape := ⟨2, ![2048, 8]⟩
abbrev S8 : Shape := ⟨1, ![8]⟩
abbrev S2048x64 : Shape := ⟨2, ![2048, 64]⟩
abbrev S64 : Shape := ⟨1, ![64]⟩
abbrev S16x1x12288 : Shape := ⟨3, ![16, 1, 12288]⟩
abbrev S16x1x2048 : Shape := ⟨3, ![16, 1, 2048]⟩
abbrev S_ : Shape := ⟨0, ![]⟩
abbrev S16x2050x512 : Shape := ⟨3, ![16, 2050, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 49
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x512, .f32⟩
  | .hbm, ⟨3, _⟩ => ⟨S16x2048x512, .f32⟩
  | .hbm, ⟨4, _⟩ => ⟨S16x2048x2048, .f32⟩
  | .hbm, ⟨5, _⟩ => ⟨S16x12288, .f32⟩
  | .hbm, ⟨6, _⟩ => ⟨S2048, .f32⟩
  | .hbm, ⟨7, _⟩ => ⟨S3x512, .f32⟩
  | .hbm, ⟨8, _⟩ => ⟨S2048x2048, .f32⟩
  | .hbm, ⟨9, _⟩ => ⟨S2048x8, .f32⟩
  | .hbm, ⟨10, _⟩ => ⟨S8, .f32⟩
  | .hbm, ⟨11, _⟩ => ⟨S2048x64, .f32⟩
  | .hbm, ⟨12, _⟩ => ⟨S64, .f32⟩
  | .hbm, ⟨13, _⟩ => ⟨S16x1x12288, .f32⟩
  | .hbm, ⟨14, _⟩ => ⟨S16x1x2048, .f32⟩
  | .hbm, ⟨15, _⟩ => ⟨S16x1x2048, .f32⟩
  | .hbm, ⟨16, _⟩ => ⟨S16x1x2048, .f32⟩
  | .hbm, ⟨17, _⟩ => ⟨S16x1x2048, .f32⟩
  | .hbm, ⟨18, _⟩ => ⟨S16x1x2048, .f32⟩
  | .hbm, ⟨19, _⟩ => ⟨S16x1x2048, .f32⟩
  | .hbm, ⟨20, _⟩ => ⟨S_, .i32⟩
  | .hbm, ⟨21, _⟩ => ⟨S_, .f32⟩
  | .hbm, ⟨22, _⟩ => ⟨S16x2050x512, .f32⟩
  | .hbm, ⟨23, _⟩ => ⟨S16x2048x512, .f32⟩
  | .hbm, ⟨24, _⟩ => ⟨S1x512, .f32⟩
  | .hbm, ⟨25, _⟩ => ⟨S512, .f32⟩
  | .hbm, ⟨26, _⟩ => ⟨S1x1x512, .f32⟩
  | .hbm, ⟨27, _⟩ => ⟨S16x2048x512, .f32⟩
  | .hbm, ⟨28, _⟩ => ⟨S16x2048x512, .f32⟩
  | .hbm, ⟨29, _⟩ => ⟨S16x2048x512, .f32⟩
  | .hbm, ⟨30, _⟩ => ⟨S1x512, .f32⟩
  | .hbm, ⟨31, _⟩ => ⟨S512, .f32⟩
  | .hbm, ⟨32, _⟩ => ⟨S1x1x512, .f32⟩
  | .hbm, ⟨33, _⟩ => ⟨S16x2048x512, .f32⟩
  | .hbm, ⟨34, _⟩ => ⟨S16x2048x512, .f32⟩
  | .hbm, ⟨35, _⟩ => ⟨S16x2048x512, .f32⟩
  | .hbm, ⟨36, _⟩ => ⟨S16x2048x512, .f32⟩
  | .hbm, ⟨37, _⟩ => ⟨S1x512, .f32⟩
  | .hbm, ⟨38, _⟩ => ⟨S512, .f32⟩
  | .hbm, ⟨39, _⟩ => ⟨S1x1x512, .f32⟩
  | .hbm, ⟨40, _⟩ => ⟨S16x2048x512, .f32⟩
  | .hbm, ⟨41, _⟩ => ⟨S16x2048x512, .f32⟩
  | .hbm, ⟨42, _⟩ => ⟨S16x2048x512, .f32⟩
  | .hbm, ⟨43, _⟩ => ⟨S16x2048x512, .f32⟩
  | .hbm, ⟨44, _⟩ => ⟨S16x2048x2048, .f32⟩
  | .hbm, ⟨45, _⟩ => ⟨S16x2048x2048, .f32⟩
  | .hbm, ⟨46, _⟩ => ⟨S16x2048x2048, .f32⟩
  | .hbm, ⟨47, _⟩ => ⟨S16x2048x2048, .f32⟩
  | .hbm, ⟨48, _⟩ => ⟨S16x2048x2048, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_call0_v0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== Proof.Softmax.lean ====
/- The row of a softmax-weighted mean, over the extended reals: the one the kernel computes (base-two exponentials of
   scores divided by log 2, the two groups of keys apart, one division at the end) and the one the reference computes
   (natural exponentials over all the keys, each weight divided by the sum) are equal where the scores are real. -/
module

public import Idealize.ShloMosaic.PureOps.Ideal
public import Idealize.ShloMosaic.Lib.Pointwise.Sums

@[expose] public section

noncomputable section

namespace Cert.Proof.Softmax

open Idealize.ShloMosaic

/-- The pattern of the float minus infinity denotes `⊥`. -/
theorem ofBits_neg_inf : Ideal.ofBits .f32 0xFF800000#32 = ⊥ := by simp [Ideal.ofBits, Ideal.ieee]

/-- The largest of a row of extended reals (`⊥` of an empty row). -/
def top {n : Nat} (s : Fin n → EReal) : EReal := Finset.univ.fold max ⊥ s

/-- The kernel's row: two groups of scores, base-two exponentials relative to the larger of the two maxima, the two
    weighted sums added and divided by the two plain sums added. -/
def tiled {n0 n1 : Nat} (a0 : Fin n0 → EReal) (a1 : Fin n1 → EReal) (v0 : Fin n0 → EReal) (v1 : Fin n1 → EReal) : EReal :=
  Ideal.div ((∑ x, Ideal.exp2 (a0 x - max (top a0) (top a1)) * v0 x) + ∑ x, Ideal.exp2 (a1 x - max (top a0) (top a1)) * v1 x)
    ((∑ x, Ideal.exp2 (a0 x - max (top a0) (top a1))) + ∑ x, Ideal.exp2 (a1 x - max (top a0) (top a1)))

/-- The reference's row: every weight the natural exponential relative to the maximum, divided by the sum of them all. -/
def whole {n : Nat} (s v : Fin n → EReal) : EReal :=
  ∑ j, v j * Ideal.div (Ideal.exp (s j - top s)) (∑ i, Ideal.exp (s i - top s))

/-- A row's largest entry, where one entry is known to be at least all of them. -/
theorem top_eq {n : Nat} {s : Fin n → EReal} (j : Fin n) (h : ∀ i, s i ≤ s j) : top s = s j := by
  have e : top s = Finset.univ.sup s := rfl
  rw [e]
  exact le_antisymm (Finset.sup_le fun i _ => h i) (Finset.le_sup (Finset.mem_univ j))

/-- A row's largest entry is at most any bound of the entries. -/
theorem top_le {n : Nat} {s : Fin n → EReal} {b : EReal} (h : ∀ i, s i ≤ b) : top s ≤ b := by
  have e : top s = Finset.univ.sup s := rfl
  rw [e]
  exact Finset.sup_le fun i _ => h i

/-- Every entry is at most the largest. -/
theorem le_top {n : Nat} (s : Fin n → EReal) (j : Fin n) : s j ≤ top s := by
  have e : top s = Finset.univ.sup s := rfl
  rw [e]
  exact Finset.le_sup (Finset.mem_univ j)

/-- A sum of extended reals times a nonnegative real is the sum of the products. -/
theorem sum_mul_real {ι : Type*} (S : Finset ι) (f : ι → EReal) {r : ℝ} (hr : 0 ≤ r) :
    (∑ i ∈ S, f i) * (r : EReal) = ∑ i ∈ S, f i * (r : EReal) := by
  classical
  induction S using Finset.induction_on with
  | empty => simp
  | insert a S ha ih =>
    rw [Finset.sum_insert ha, Finset.sum_insert ha,
      EReal.right_distrib_of_nonneg_of_ne_top (EReal.coe_nonneg.mpr hr) (EReal.coe_ne_top r), ih]

/-- A finite sum of reals, read as extended reals. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A base-two exponential of a real divided by log 2 is the natural exponential. -/
theorem exp2_div_log (x y : ℝ) :
    Ideal.exp2 (((x * (Real.log 2)⁻¹ : ℝ) : EReal) - ((y * (Real.log 2)⁻¹ : ℝ) : EReal)) = ((Real.exp (x - y) : ℝ) : EReal) := by
  rw [← EReal.coe_sub, Ideal.exp2_coe]
  congr 1
  show (2 : ℝ) ^ (_ : ℝ) = _
  rw [Real.rpow_def_of_pos (by norm_num)]
  congr 1
  have h : Real.log 2 ≠ 0 := (Real.log_pos (by norm_num)).ne'
  field_simp

/-- The kernel's row is the reference's, the scores being real and the row not empty. -/
theorem tiled_eq_whole {n0 n1 n : Nat} (hn : n0 + n1 = n) (h0 : 0 < n) (s : Fin n → ℝ) (v : Fin n → EReal) :
    tiled (fun x => ((s (Fin.cast hn (Fin.castAdd n1 x)) * (Real.log 2)⁻¹ : ℝ) : EReal))
        (fun x => ((s (Fin.cast hn (Fin.natAdd n0 x)) * (Real.log 2)⁻¹ : ℝ) : EReal))
        (fun x => v (Fin.cast hn (Fin.castAdd n1 x))) (fun x => v (Fin.cast hn (Fin.natAdd n0 x)))
      = whole (fun j => (s j : EReal)) v := by
  subst hn
  simp only [Fin.cast_refl, id]
  have hl : 0 < (Real.log 2)⁻¹ := inv_pos.mpr (Real.log_pos (by norm_num))
  haveI : Nonempty (Fin (n0 + n1)) := ⟨⟨0, h0⟩⟩
  obtain ⟨j, hj⟩ := Finite.exists_max s
  have ht : top (fun i => (s i : EReal)) = (s j : EReal) := top_eq (s := fun i => (s i : EReal)) j fun i => EReal.coe_le_coe_iff.mpr (hj i)
  have hm : ∀ i, ((s i * (Real.log 2)⁻¹ : ℝ) : EReal) ≤ ((s j * (Real.log 2)⁻¹ : ℝ) : EReal) := fun i =>
    EReal.coe_le_coe_iff.mpr (mul_le_mul_of_nonneg_right (hj i) hl.le)
  have hmax : max (top fun x : Fin n0 => ((s (Fin.castAdd n1 x) * (Real.log 2)⁻¹ : ℝ) : EReal))
      (top fun x : Fin n1 => ((s (Fin.natAdd n0 x) * (Real.log 2)⁻¹ : ℝ) : EReal)) = ((s j * (Real.log 2)⁻¹ : ℝ) : EReal) := by
    apply le_antisymm (max_le (top_le fun i => hm _) (top_le fun i => hm _))
    induction j using Fin.addCases with
    | left x => exact le_max_of_le_left (le_top (fun x : Fin n0 => ((s (Fin.castAdd n1 x) * (Real.log 2)⁻¹ : ℝ) : EReal)) x)
    | right x => exact le_max_of_le_right (le_top (fun x : Fin n1 => ((s (Fin.natAdd n0 x) * (Real.log 2)⁻¹ : ℝ) : EReal)) x)
  have hL : 0 < ∑ i, Real.exp (s i - s j) := Finset.sum_pos (fun i _ => Real.exp_pos _) Finset.univ_nonempty
  unfold tiled whole
  rw [ht, hmax]
  simp only [exp2_div_log]
  simp only [← EReal.coe_sub, Ideal.exp_coe]
  rw [← Fin.sum_univ_add (f := fun i => ((Real.exp (s i - s j) : ℝ) : EReal) * v i),
    ← Fin.sum_univ_add (f := fun i => ((Real.exp (s i - s j) : ℝ) : EReal)), ← coe_sum, Ideal.div_coe hL.ne',
    sum_mul_real _ _ (one_div_pos.mpr hL).le]
  refine Finset.sum_congr rfl fun i _ => ?_
  rw [Ideal.div_coe hL.ne', mul_comm _ (v i), mul_assoc]

end Cert.Proof.Softmax

end
-- ==== Proof.Body.lean ====
/- What one grid point of the attention kernel stores, read at an index: the softmax row of one query of one head. -/
module

public import proofs.«01_k».proof.Proof.Gen.KernelIdeal.Frame
public import Idealize.ShloMosaic.Lib.Pointwise
public import Idealize.ShloMosaic.Lib.Pipeline.ValueKit
public import proofs.«01_k».proof.Proof.Softmax

@[expose] public section

set_option maxRecDepth 16384

noncomputable section

namespace Cert.Proof.Attention

open Idealize.ShloMosaic Cert.KernelIdeal Cert.KernelIdeal.Gen

/-- The base-two exponential of the ideal floats. -/
theorem exp2_eq (x : EReal) : (FloatOps.exp2 (F := Ideal) (φ := .f32) x) = Ideal.exp2 x := rfl

/-- The row that a grid point stores for query `n` of head `h`, at lane `e`, of the blocks it reads. -/
def blockRow (x0 : Vec Ideal S1x2x2048x256 .bf16) (x1 : Vec Ideal S1x2x256x256 .bf16) (x2 : Vec Ideal S1x2x256x128 .bf16)
    (x3 : Vec Ideal S1x2x2048x256 .bf16) (x4 : Vec Ideal S1x2x2048x128 .bf16) (n : Fin 2048) (h : Fin 2) (e : Fin 128) : EReal :=
  Softmax.tiled (fun j : Fin 256 => ∑ d : Fin 256, x0 (ix4 0 h n d) * x1 (ix4 0 h j d))
    (fun j : Fin 2048 => ∑ d : Fin 256, x0 (ix4 0 h n d) * x3 (ix4 0 h j d))
    (fun j => x2 (ix4 0 h j e)) (fun j => x4 (ix4 0 h j e))

/-- The output block at an index. -/
theorem out_at (x0 : Vec Ideal S1x2x2048x256 .bf16) (x1 : Vec Ideal S1x2x256x256 .bf16) (x2 : Vec Ideal S1x2x256x128 .bf16)
    (x3 : Vec Ideal S1x2x2048x256 .bf16) (x4 : Vec Ideal S1x2x2048x128 .bf16) (y : S1x2048x256.Idx) (n : Fin 2048) (h : Fin 2)
    (e : Fin 128) (hn : (y 1 : Nat) = n) (hl : (y 2 : Nat) = 128 * h + e) :
    out0_5 x0 x1 x2 x3 x4 y = blockRow x0 x1 x2 x3 x4 n h e := by
  unfold_out out0_5
  obtain ⟨h, hlt⟩ := h
  have hl' : (y 2 : Nat) = 128 * h + e := hl
  clear hl
  obtain rfl | rfl : h = 0 ∨ h = 1 := by omega
  all_goals
    canon_tiles x hx
    all_goals first
    | exfalso
      have := e.isLt
      have := n.isLt
      have := (x 1).isLt
      have := (x 2).isLt
      omega
    | idx_vars x
      unfold_payloads
      pointwise [Softmax.ofBits_neg_inf, exp2_eq, blockRow, Softmax.tiled, Softmax.top]
      blk_point []

end Cert.Proof.Attention

end
-- ==== Proof.Array.lean ====
/- The array the attention call leaves: every row is the softmax row of the arrays the call reads. -/
module

public import proofs.«01_k».proof.Proof.Body
public import proofs.«01_k».proof.Proof.Gen.KernelIdeal.Value

@[expose] public section

set_option maxRecDepth 16384

noncomputable section

namespace Cert.Proof.Attention

open Idealize.ShloMosaic Idealize.ShloMosaic.TcCoe Idealize.SL.Sem Cert.KernelIdeal Cert.KernelIdeal.Gen

/-- One row of the attention of head-major arrays: query `n` of head `h` in batch `a`, at lane `e`. -/
def row (q : Vec Ideal S16x8x2048x256 .bf16) (kc : Vec Ideal S16x8x256x256 .bf16) (vc : Vec Ideal S16x8x256x128 .bf16)
    (k : Vec Ideal S16x8x2048x256 .bf16) (v : Vec Ideal S16x8x2048x128 .bf16) (a : Fin 16) (n : Fin 2048) (h : Fin 8) (e : Fin 128) : EReal :=
  Softmax.tiled (fun j : Fin 256 => ∑ d : Fin 256, q (ix4 a h n d) * kc (ix4 a h j d))
    (fun j : Fin 2048 => ∑ d : Fin 256, q (ix4 a h n d) * k (ix4 a h j d))
    (fun j => vc (ix4 a h j e)) (fun j => v (ix4 a h j e))

/-- The head of a lane. -/
def headOf (l : Fin 1024) : Fin 8 := ⟨l.val / 128, by omega⟩

/-- The lane within its head. -/
def laneOf (l : Fin 1024) : Fin 128 := ⟨l.val % 128, by omega⟩

/-- The attention of head-major arrays: lane `128 h + e` of row `n` is lane `e` of head `h`. -/
def attention (q : Vec Ideal S16x8x2048x256 .bf16) (kc : Vec Ideal S16x8x256x256 .bf16) (vc : Vec Ideal S16x8x256x128 .bf16)
    (k : Vec Ideal S16x8x2048x256 .bf16) (v : Vec Ideal S16x8x2048x128 .bf16) : Vec Ideal S16x2048x1024 .bf16 :=
  fun i => row q kc vc k v (i 0) (i 1) (headOf (i 2)) (laneOf (i 2))

/-- Where each window's block lies, at a grid point. -/
theorem where_blocks : ∀ t : Fin grid0.N, win0_0.index t = ![(grid0.coords t 0).val, (grid0.coords t 1).val, (grid0.coords t 2).val, 0]
    ∧ win0_1.index t = ![(grid0.coords t 0).val, (grid0.coords t 1).val, 0, 0]
    ∧ win0_2.index t = ![(grid0.coords t 0).val, (grid0.coords t 1).val, 0, 0]
    ∧ win0_3.index t = ![(grid0.coords t 0).val, (grid0.coords t 1).val, 0, 0]
    ∧ win0_4.index t = ![(grid0.coords t 0).val, (grid0.coords t 1).val, 0, 0]
    ∧ win0_5.index t = ![(grid0.coords t 0).val, (grid0.coords t 2).val, (grid0.coords t 1).val]
    ∧ (grid0.coords t 2).val = 0 := by
  decide +kernel

variable (m : (ℓ : Loc nD τ sig) → Buf (Elt Ideal) ℓ) (c : Dev nD)

/-- A read of the queries' block. -/
theorem block_q (t : Fin cfg0.N) (a : Fin 16) (n : Fin 2048) (h : Fin 8) (h' : Fin 2) (d : Fin 256)
    (ha : (a : Nat) = (grid0.coords t 0).val) (hh : (h : Nat) = 2 * (grid0.coords t 1).val + h') :
    iblk m c 0 t (ix4 0 h' n d) = V m c main_v7 (ix4 a h n d) := by
  obtain ⟨w0, w1, w2, w3, w4, w5, z⟩ := where_blocks t
  show V m c main_v7 ((win0_0.blk t).view.emb _) = _
  blk_ext [w0, z, ha, hh]

/-- A read of the context keys' block. -/
theorem block_kc (t : Fin cfg0.N) (a : Fin 16) (n : Fin 256) (h : Fin 8) (h' : Fin 2) (d : Fin 256)
    (ha : (a : Nat) = (grid0.coords t 0).val) (hh : (h : Nat) = 2 * (grid0.coords t 1).val + h') :
    iblk m c 1 t (ix4 0 h' n d) = V m c main_v10 (ix4 a h n d) := by
  obtain ⟨w0, w1, w2, w3, w4, w5, z⟩ := where_blocks t
  show V m c main_v10 ((win0_1.blk t).view.emb _) = _
  blk_ext [w1, z, ha, hh]

/-- A read of the context values' block. -/
theorem block_vc (t : Fin cfg0.N) (a : Fin 16) (n : Fin 256) (h : Fin 8) (h' : Fin 2) (d : Fin 128)
    (ha : (a : Nat) = (grid0.coords t 0).val) (hh : (h : Nat) = 2 * (grid0.coords t 1).val + h') :
    iblk m c 2 t (ix4 0 h' n d) = V m c main_v12 (ix4 a h n d) := by
  obtain ⟨w0, w1, w2, w3, w4, w5, z⟩ := where_blocks t
  show V m c main_v12 ((win0_2.blk t).view.emb _) = _
  blk_ext [w2, z, ha, hh]

/-- A read of the keys' block. -/
theorem block_k (t : Fin cfg0.N) (a : Fin 16) (n : Fin 2048) (h : Fin 8) (h' : Fin 2) (d : Fin 256)
    (ha : (a : Nat) = (grid0.coords t 0).val) (hh : (h : Nat) = 2 * (grid0.coords t 1).val + h') :
    iblk m c 3 t (ix4 0 h' n d) = V m c main_v15 (ix4 a h n d) := by
  obtain ⟨w0, w1, w2, w3, w4, w5, z⟩ := where_blocks t
  show V m c main_v15 ((win0_3.blk t).view.emb _) = _
  blk_ext [w3, z, ha, hh]

/-- A read of the values' block. -/
theorem block_v (t : Fin cfg0.N) (a : Fin 16) (n : Fin 2048) (h : Fin 8) (h' : Fin 2) (d : Fin 128)
    (ha : (a : Nat) = (grid0.coords t 0).val) (hh : (h : Nat) = 2 * (grid0.coords t 1).val + h') :
    iblk m c 4 t (ix4 0 h' n d) = V m c main_v17 (ix4 a h n d) := by
  obtain ⟨w0, w1, w2, w3, w4, w5, z⟩ := where_blocks t
  show V m c main_v17 ((win0_4.blk t).view.emb _) = _
  blk_ext [w4, z, ha, hh]

/-- A row of a grid point's block is a row of the arrays. -/
theorem blockRow_eq (t : Fin cfg0.N) (a : Fin 16) (n : Fin 2048) (h : Fin 8) (h' : Fin 2) (e : Fin 128)
    (ha : (a : Nat) = (grid0.coords t 0).val) (hh : (h : Nat) = 2 * (grid0.coords t 1).val + h') :
    blockRow (iblk m c 0 t) (iblk m c 1 t) (iblk m c 2 t) (iblk m c 3 t) (iblk m c 4 t) n h' e
      = row (V m c main_v7) (V m c main_v10) (V m c main_v12) (V m c main_v15) (V m c main_v17) a n h e := by
  unfold blockRow row
  simp only [block_q m c t a _ h h' _ ha hh, block_kc m c t a _ h h' _ ha hh, block_vc m c t a _ h h' _ ha hh,
    block_k m c t a _ h h' _ ha hh, block_v m c t a _ h h' _ ha hh]

/-- Where an index of the output block lies in the output array. -/
theorem out_emb (t : Fin cfg0.N) (y : S1x2048x256.Idx) :
    ((win0_5.blk t).view.emb y 0 : Nat) = (grid0.coords t 0).val ∧ ((win0_5.blk t).view.emb y 1 : Nat) = y 1
      ∧ ((win0_5.blk t).view.emb y 2 : Nat) = 256 * (grid0.coords t 1).val + y 2 := by
  obtain ⟨w0, w1, w2, w3, w4, w5, z⟩ := where_blocks t
  have := (y 0).isLt
  refine ⟨?_, ?_, ?_⟩ <;> blk_simp [w5, z] <;> omega

/-- The output array after the grid has run. -/
theorem array_eq : (dats m 0 c).arrAt 5 cfg0.N
    = attention (V m c main_v7) (V m c main_v10) (V m c main_v12) (V m c main_v15) (V m c main_v17) := by
  refine (dats m 0 c).arrAt_eq_of_covers 5 _ (by decide +kernel) fun t hf y => ?_
  obtain ⟨e0, e1, e2⟩ := out_emb t y
  have hy : (y 2 : Nat) < 256 := (y 2).isLt
  blk_simp
  rw [after0_5]
  have hd : (y 2 : Nat) = 128 * ((y 2 : Nat) / 128) + (y 2 : Nat) % 128 := by omega
  refine (out_at _ _ _ _ _ y ((win0_5.blk t).view.emb y 1) ⟨(y 2 : Nat) / 128, by omega⟩ (laneOf ((win0_5.blk t).view.emb y 2)) e1.symm ?_).trans ?_
  · show (y 2 : Nat) = 128 * ((y 2 : Nat) / 128) + ((win0_5.blk t).view.emb y 2 : Nat) % 128
    omega
  · refine blockRow_eq m c t _ _ (headOf ((win0_5.blk t).view.emb y 2)) _ _ e0 ?_
    show ((win0_5.blk t).view.emb y 2 : Nat) / 128 = 2 * (grid0.coords t 1).val + (y 2 : Nat) / 128
    omega

end Cert.Proof.Attention

end
-- ==== Proof.Entry.lean ====
/- The arrays the attention call reads, at an index: the queries scaled and padded, the keys padded, the values transposed. -/
module

public import proofs.«01_k».proof.Proof.Gen.KernelIdeal.Value
public import Idealize.ShloMosaic.Lib.Pointwise
public import Idealize.ShloMosaic.Lib.Claim
public import Idealize.ShloMosaic.Lib.Pipeline.ValueKit

@[expose] public section

set_option maxRecDepth 16384

noncomputable section

namespace Cert.Proof.Attention

open Idealize.ShloMosaic Idealize.ShloMosaic.TcCoe Idealize.SL.Sem Cert.KernelIdeal Cert.KernelIdeal.Gen

/-- The factor on the queries: the reciprocal root of the head width over the logarithm of two. -/
def factor : EReal := Ideal.div (Ideal.rsqrt (Ideal.ofBits .f32 0x43400000#32)) (Ideal.log (Ideal.ofBits .f32 0x40000000#32))

/-- A padding lane holds zero. -/
theorem pad_eq : (FloatOps.sitofp (F := Ideal) FTy.f32 0#32) = (0 : EReal) := by
  show ((_ : ℝ) : EReal) = 0
  simp

variable (m : (ℓ : Loc nD τ sig) → Buf (Elt Ideal) ℓ) (c : Dev nD)

/-- The queries as the call reads them: per head, scaled, padded with zeros to two lane groups. -/
theorem entry_q (a : Fin 16) (h : Fin 8) (n : Fin 2048) (d : Fin 256) : V m c main_v7 (ix4 a h n d)
    = (if hd : (d : Nat) < 192 then HMul.hMul (α := EReal) (m (c, Proc.tc.devRef main_arg0) (ix4 a n h ⟨d, hd⟩)) factor else 0 : EReal) := by
  simp only [V, hostOps0, hostOps0_1, hostOps0_2, hostOps0_3, hostOps0_4, hostOps0_5, hostOps0_6, List.flatten_cons,
    List.flatten_nil, List.append_nil, List.cons_append, List.nil_append]
  after_results
  simp -implicitDefEqProofs only [StableHlo.TRef.toBuf, StableHlo.TRef.ofBuf, cast_cast, cast_eq]
  pointwise [pad_eq, factor]

/-- The context keys as the call reads them: per head, padded. -/
theorem entry_kc (a : Fin 16) (h : Fin 8) (n : Fin 256) (d : Fin 256) : V m c main_v10 (ix4 a h n d)
    = (if hd : (d : Nat) < 192 then m (c, Proc.tc.devRef main_arg1) (ix4 a n h ⟨d, hd⟩) else 0 : EReal) := by
  simp only [V, hostOps0, hostOps0_1, hostOps0_2, hostOps0_3, hostOps0_4, hostOps0_5, hostOps0_6, List.flatten_cons,
    List.flatten_nil, List.append_nil, List.cons_append, List.nil_append]
  after_results
  simp -implicitDefEqProofs only [StableHlo.TRef.toBuf, StableHlo.TRef.ofBuf, cast_cast, cast_eq]
  pointwise [pad_eq]

/-- The keys as the call reads them: per head, padded. -/
theorem entry_k (a : Fin 16) (h : Fin 8) (n : Fin 2048) (d : Fin 256) : V m c main_v15 (ix4 a h n d)
    = (if hd : (d : Nat) < 192 then m (c, Proc.tc.devRef main_arg3) (ix4 a n h ⟨d, hd⟩) else 0 : EReal) := by
  simp only [V, hostOps0, hostOps0_1, hostOps0_2, hostOps0_3, hostOps0_4, hostOps0_5, hostOps0_6, List.flatten_cons,
    List.flatten_nil, List.append_nil, List.cons_append, List.nil_append]
  after_results
  simp -implicitDefEqProofs only [StableHlo.TRef.toBuf, StableHlo.TRef.ofBuf, cast_cast, cast_eq]
  pointwise [pad_eq]

/-- The context values as the call reads them: per head. -/
theorem entry_vc (a : Fin 16) (h : Fin 8) (n : Fin 256) (d : Fin 128) : V m c main_v12 (ix4 a h n d)
    = (m (c, Proc.tc.devRef main_arg2) (ix4 a n h d) : EReal) := by
  simp only [V, hostOps0, hostOps0_1, hostOps0_2, hostOps0_3, hostOps0_4, hostOps0_5, hostOps0_6, List.flatten_cons,
    List.flatten_nil, List.append_nil, List.cons_append, List.nil_append]
  after_results
  pointwise

/-- The values as the call reads them: per head. -/
theorem entry_v (a : Fin 16) (h : Fin 8) (n : Fin 2048) (d : Fin 128) : V m c main_v17 (ix4 a h n d)
    = (m (c, Proc.tc.devRef main_arg4) (ix4 a n h d) : EReal) := by
  simp only [V, hostOps0, hostOps0_1, hostOps0_2, hostOps0_3, hostOps0_4, hostOps0_5, hostOps0_6, List.flatten_cons,
    List.flatten_nil, List.append_nil, List.cons_append, List.nil_append]
  after_results
  pointwise

end Cert.Proof.Attention

end
-- ==== Proof.Reference.lean ====
/- The reference's run read at an index: each of its results is the softmax-weighted mean of the values, row by row. -/
module

public import proofs.«01_k».proof.Proof.Gen.ReferenceIdeal.Run
public import Idealize.ShloMosaic.Lib.Pointwise
public import Idealize.ShloMosaic.Lib.IdealHost
public import proofs.«01_k».proof.Proof.Softmax

@[expose] public section

set_option maxRecDepth 16384

noncomputable section

namespace Cert.Proof.Attention

open Idealize.ShloMosaic Idealize.SL.Sem Cert.ReferenceIdeal

/-- A maximum reduction along the last of four axes, at any extents: the fold of the entries along that axis. -/
theorem reduce_max_last {n0 n1 n2 n3 : Nat} {u : Shape} (x : FVec Ideal (⟨4, ![n0, n1, n2, n3]⟩ : Shape) .f32) (init : FVec Ideal u .f32)
    (h : (⟨4, ![n0, n1, n2, n3]⟩ : Shape).ReducesTo [3] ⟨3, ![n0, n1, n2]⟩) (hu : 0 < u.numel) (a : Fin n0) (b : Fin n1) (c : Fin n2) :
    Host.reduce FloatOps.maximumf x init h hu (ix3 a b c)
      = (Finset.univ : Finset (Fin n3)).fold max (init (Shape.Idx.first hu)) fun d => x (ix4 a b c d) := by
  rw [Host.reduce_eq_fold, Shape.ReducesTo.fold_fiber_r4_a3]
  rfl

/-- The scaled scores, of every query against every key (the context's keys first). -/
def scores (q : FVec Ideal S16x2048x8x192 .f32) (kc : FVec Ideal S16x256x8x192 .f32) (k : FVec Ideal S16x2048x8x192 .f32) :
    FVec Ideal S16x8x2048x2304 .f32 :=
  mulf (Host.dotGeneral dot_S16x2048x8x192_S16x2304x8x192_S16x8x2048x2304_3_3_1_1_02_02 none q
      (concatenate S16x2304x8x192 1 [⟨S16x256x8x192, kc⟩, ⟨S16x2048x8x192, k⟩]
        Gen.concatenates_S16x256x8x192_S16x2048x8x192_S16x2304x8x192_d1))
    (broadcastInDim S16x8x2048x2304 ![] Gen.bcast_S_S16x8x2048x2304 (Host.rsqrt (constant S_ .f32 0x43400000#32)))

/-- The largest score of every query. -/
def maxima (S : FVec Ideal S16x8x2048x2304 .f32) : FVec Ideal S16x8x2048 .f32 :=
  maximumf (broadcastInDim S16x8x2048 ![] Gen.bcast_S_S16x8x2048 (constant S_ .f32 0xFF800000#32))
    (Host.reduce FloatOps.maximumf S (constant S_ .f32 0xFF800000#32) Gen.reducesTo_S16x8x2048x2304_S16x8x2048_d3 Gen.h_S_)

/-- The exponentials of the scores relative to `M`. -/
def exps (S : FVec Ideal S16x8x2048x2304 .f32) (M : FVec Ideal S16x8x2048 .f32) : FVec Ideal S16x8x2048x2304 .f32 :=
  Host.exp (subf S (broadcastInDim S16x8x2048x2304 ![0, 1, 2, 3] Gen.bcast_S16x8x2048x1_S16x8x2048x2304_0_1_2_3
    (broadcastInDim S16x8x2048x1 ![0, 1, 2] Gen.bcast_S16x8x2048_S16x8x2048x1_0_1_2 M)))

/-- The exponentials divided by their sum. -/
def weights (E : FVec Ideal S16x8x2048x2304 .f32) : FVec Ideal S16x8x2048x2304 .f32 :=
  Host.divf E (broadcastInDim S16x8x2048x2304 ![0, 1, 2, 3] Gen.bcast_S16x8x2048x1_S16x8x2048x2304_0_1_2_3
    (broadcastInDim S16x8x2048x1 ![0, 1, 2] Gen.bcast_S16x8x2048_S16x8x2048x1_0_1_2
      (Host.reduceAdd E (constant S_ .f32 0x00000000#32) Gen.reducesTo_S16x8x2048x2304_S16x8x2048_d3 Gen.h_S_)))

/-- The values of all the keys, the context's first. -/
def values (vc : FVec Ideal S16x256x8x128 .f32) (v : FVec Ideal S16x2048x8x128 .f32) : FVec Ideal S16x2304x8x128 .f32 :=
  concatenate S16x2304x8x128 1 [⟨S16x256x8x128, vc⟩, ⟨S16x2048x8x128, v⟩] Gen.concatenates_S16x256x8x128_S16x2048x8x128_S16x2304x8x128_d1

/-- The weighted values, the heads beside each other along the last axis. -/
def mixed (V : FVec Ideal S16x2304x8x128 .f32) (P : FVec Ideal S16x8x2048x2304 .f32) : FVec Ideal S16x2048x1024 .bf16 :=
  truncf .bf16 (shapeCast _ (transpose S16x2048x8x128 [0, 3, 1, 2]
    (Host.dotGeneral dot_S16x2304x8x128_S16x8x2048x2304_S16x8x128x2048_1_3_3_2_02_01 none V P)
    Gen.transposes_S16x8x128x2048_S16x2048x8x128_0_3_1_2) Gen.shapeCasts_S16x2048x8x128_S16x2048x1024) Gen.bitsLt_bf16_f32

/-- A score at an index: the product of the query with the key, times one over the square root of 192. -/
theorem scores_at (q : FVec Ideal S16x2048x8x192 .f32) (kc : FVec Ideal S16x256x8x192 .f32) (k : FVec Ideal S16x2048x8x192 .f32)
    (a : Fin 16) (b : Fin 8) (c : Fin 2048) (d : Fin 2304) :
    scores q kc k (ix4 a b c d) =
      (∑ x, q (ix4 a c b x) * if h : d.val < 256 then kc (ix4 a ⟨d.val, h⟩ b x) else k (ix4 a ⟨d.val - 256, by omega⟩ b x)) *
        Ideal.rsqrt (Ideal.ofBits .f32 0x43400000#32) := by
  pointwise [scores]

/-- A value at an index: the context's, then the sequence's. -/
theorem values_at (vc : FVec Ideal S16x256x8x128 .f32) (v : FVec Ideal S16x2048x8x128 .f32) (a : Fin 16) (d : Fin 2304) (b : Fin 8) (e : Fin 128) :
    values vc v (ix4 a d b e) = if h : d.val < 256 then vc (ix4 a ⟨d.val, h⟩ b e) else v (ix4 a ⟨d.val - 256, by omega⟩ b e) := by
  pointwise [values]

/-- The maximum of a query's scores. -/
theorem maxima_at (S : FVec Ideal S16x8x2048x2304 .f32) (a : Fin 16) (b : Fin 8) (c : Fin 2048) :
    maxima S (ix3 a b c) = Softmax.top fun x => S (ix4 a b c x) := by
  unfold maxima
  rw [maximumf_apply, reduce_max_last]
  show max (Ideal.ofBits .f32 0xFF800000#32) (Finset.univ.fold max (Ideal.ofBits .f32 0xFF800000#32) _) = _
  rw [Softmax.ofBits_neg_inf, max_eq_right bot_le]
  rfl

/-- An exponential at an index. -/
theorem exps_at (S : FVec Ideal S16x8x2048x2304 .f32) (M : FVec Ideal S16x8x2048 .f32) (a : Fin 16) (b : Fin 8) (c : Fin 2048) (d : Fin 2304) :
    exps S M (ix4 a b c d) = Ideal.exp (S (ix4 a b c d) - M (ix3 a b c)) := by
  pointwise [exps]

/-- A weight at an index. -/
theorem weights_at (E : FVec Ideal S16x8x2048x2304 .f32) (a : Fin 16) (b : Fin 8) (c : Fin 2048) (d : Fin 2304) :
    weights E (ix4 a b c d) = Ideal.div (E (ix4 a b c d)) (∑ x, E (ix4 a b c x)) := by
  pointwise [weights]

/-- A result at an index: lane `l` holds head `l / 128`, element `l % 128`. -/
theorem mixed_at (V : FVec Ideal S16x2304x8x128 .f32) (P : FVec Ideal S16x8x2048x2304 .f32) (a : Fin 16) (n : Fin 2048) (l : Fin 1024) :
    mixed V P (ix3 a n l) = ∑ x, V (ix4 a x ⟨l.val / 128, by omega⟩ ⟨l.val % 128, by omega⟩) * P (ix4 a ⟨l.val / 128, by omega⟩ n x) := by
  pointwise [mixed]

/-- What the reference returns of its arguments. -/
def result (q : FVec Ideal S16x2048x8x192 .f32) (kc : FVec Ideal S16x256x8x192 .f32) (vc : FVec Ideal S16x256x8x128 .f32)
    (k : FVec Ideal S16x2048x8x192 .f32) (v : FVec Ideal S16x2048x8x128 .f32) : FVec Ideal S16x2048x1024 .bf16 :=
  mixed (values vc v) (weights (exps (scores q kc k) (maxima (scores q kc k))))

/-- A result at an index is the reference's softmax row. -/
theorem result_at (q : FVec Ideal S16x2048x8x192 .f32) (kc : FVec Ideal S16x256x8x192 .f32) (vc : FVec Ideal S16x256x8x128 .f32)
    (k : FVec Ideal S16x2048x8x192 .f32) (v : FVec Ideal S16x2048x8x128 .f32) (a : Fin 16) (n : Fin 2048) (l : Fin 1024) :
    result q kc vc k v (ix3 a n l) = Softmax.whole (fun x => scores q kc k (ix4 a ⟨l.val / 128, by omega⟩ n x))
      (fun x => values vc v (ix4 a x ⟨l.val / 128, by omega⟩ ⟨l.val % 128, by omega⟩)) := by
  unfold result
  rw [mixed_at]
  simp only [weights_at, exps_at, maxima_at]
  rfl

/-- The reference's run: its result is `result` of its arguments, which it leaves unchanged. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2⟩) (Value.run m ρ)

end Cert.Proof.Attention

end
-- ==== Proof.Pre.lean ====
/- The precondition read at an index: queries and keys are real numbers. -/
module

public import proofs.«01_k».proof.Proof.Gen.Pre_finite
public import Idealize.ShloMosaic.Lib.ReduceAll
public import Idealize.ShloMosaic.Lib.Affine
public import Idealize.ShloMosaic.Lib.Pointwise

@[expose] public section

set_option maxRecDepth 16384

noncomputable section

namespace Cert.Proof.Attention

open Idealize.ShloMosaic Cert.Pre_finite

/-- The pattern of the float infinity denotes `⊤`. -/
theorem ofBits_inf : Ideal.ofBits .f32 0x7F800000#32 = ⊤ := by simp [Ideal.ofBits, Ideal.ieee]

/-- An extended real whose absolute value is below infinity is a real. -/
theorem real_of_abs_lt {x : EReal} (h : Ideal.cmp .olt (max x (-x)) ⊤ = 1#1) : ∃ r : ℝ, x = r := by
  induction x with
  | bot => simp [Ideal.cmp] at h
  | top => simp [Ideal.cmp] at h
  | coe r => exact ⟨r, rfl⟩

/-- Under the precondition every query and every key is a real. -/
theorem real_of_pre (q : FVec Ideal S16x2048x8x192 .f32) (kc : FVec Ideal S16x256x8x192 .f32) (vc : FVec Ideal S16x256x8x128 .f32)
    (k : FVec Ideal S16x2048x8x192 .f32) (v : FVec Ideal S16x2048x8x128 .f32)
    (h : fn (F := Ideal) q kc vc k v = fun _ => 1#1) :
    (∀ i, ∃ r : ℝ, q i = r) ∧ (∀ i, ∃ r : ℝ, kc i = r) ∧ ∀ i, ∃ r : ℝ, k i = r := by
  have e := congrFun h ix0
  dsimp only [fn] at e
  obtain ⟨e01, e2⟩ := IntOp.andi_eq_one.mp e
  obtain ⟨e0, e1⟩ := IntOp.andi_eq_one.mp e01
  refine ⟨fun i => real_of_abs_lt ?_, fun i => real_of_abs_lt ?_, fun i => real_of_abs_lt ?_⟩
  · rw [← ofBits_inf]
    exact Host.reduce_andi_all _ _ _ _ _ e0 i
  · rw [← ofBits_inf]
    exact Host.reduce_andi_all _ _ _ _ _ e1 i
  · rw [← ofBits_inf]
    exact Host.reduce_andi_all _ _ _ _ _ e2 i

end Cert.Proof.Attention

end
-- ==== Proof.Rows.lean ====
/- The attention of the arrays the call reads is the reference's result of the arrays they were prepared from. -/
module

public import proofs.«01_k».proof.Proof.Array
public import proofs.«01_k».proof.Proof.Entry
public import proofs.«01_k».proof.Proof.Reference
public import proofs.«01_k».proof.Proof.Pre

@[expose] public section

set_option maxRecDepth 16384

noncomputable section

namespace Cert.Proof.Attention

open Idealize.ShloMosaic

/-- The reference's scale is one over the square root of 192. -/
theorem scale_eq : Ideal.rsqrt (Ideal.ofBits .f32 0x43400000#32) = (((Real.sqrt 192)⁻¹ : ℝ) : EReal) := by
  have e : Ideal.ofBits .f32 0x43400000#32 = ((192 : ℝ) : EReal) := by
    simp [Ideal.ofBits, Ideal.ieee, -EReal.coe_mul]
    norm_num
  rw [e, Ideal.rsqrt_coe, if_neg (by norm_num), if_neg (by norm_num)]

/-- The kernel's scale is the reference's over the logarithm of two. -/
theorem factor_eq : factor = (((Real.sqrt 192)⁻¹ * (Real.log 2)⁻¹ : ℝ) : EReal) := by
  have e : Ideal.ofBits .f32 0x40000000#32 = ((2 : ℝ) : EReal) := by
    simp [Ideal.ofBits, Ideal.ieee, -EReal.coe_mul]
    norm_num
  unfold factor
  rw [scale_eq, e, Ideal.log_coe, if_neg (by norm_num), Ideal.div_coe (Real.log_pos (by norm_num)).ne', ← EReal.coe_mul, one_div]

/-- A product of two padded rows, the first scaled, is the scaled product of the rows. -/
theorem padded_dot (f g : Fin 256 → EReal) (p w : Fin 192 → ℝ) (t : ℝ)
    (hf : ∀ d, f d = if h : d.val < 192 then HMul.hMul (α := EReal) (β := EReal) (p ⟨d.val, h⟩ : ℝ) (t : ℝ) else 0)
    (hg : ∀ d, g d = if h : d.val < 192 then ((w ⟨d.val, h⟩ : ℝ) : EReal) else 0) :
    ∑ d, f d * g d = (((∑ x, p x * w x) * t : ℝ) : EReal) := by
  have e := Fin.sum_univ_add (a := 192) (b := 64) fun d => f d * g d
  rw [show (∑ d, f d * g d) = ∑ d : Fin (192 + 64), f d * g d from rfl, e, Finset.sum_mul, Softmax.coe_sum]
  have z : ∑ i : Fin 64, f (Fin.natAdd 192 i) * g (Fin.natAdd 192 i) = 0 := by
    refine Finset.sum_eq_zero fun i _ => ?_
    rw [hf, dif_neg (by simp), zero_mul]
  rw [z, add_zero]
  refine Finset.sum_congr rfl fun x _ => ?_
  rw [hf, hg, dif_pos (by simp), dif_pos (by simp), ← EReal.coe_mul, ← EReal.coe_mul]
  congr 1
  simp only [Fin.val_castAdd, Fin.eta]
  ring

/-- Rows of equal scores and equal values are equal. -/
theorem tiled_congr {n0 n1 : Nat} {a0 b0 v0 w0 : Fin n0 → EReal} {a1 b1 v1 w1 : Fin n1 → EReal} (h0 : a0 = b0) (h1 : a1 = b1)
    (hv0 : v0 = w0) (hv1 : v1 = w1) : Softmax.tiled a0 a1 v0 v1 = Softmax.tiled b0 b1 w0 w1 := by
  rw [h0, h1, hv0, hv1]

open Cert.ReferenceIdeal in
/-- The attention of scaled and padded arrays is the reference's result, when queries and keys are reals. -/
theorem attention_eq (q : FVec Ideal S16x2048x8x192 .f32) (kc : FVec Ideal S16x256x8x192 .f32) (vc : FVec Ideal S16x256x8x128 .f32)
    (k : FVec Ideal S16x2048x8x192 .f32) (v : FVec Ideal S16x2048x8x128 .f32)
    (Q : Vec Ideal Cert.KernelIdeal.S16x8x2048x256 .bf16) (KC : Vec Ideal Cert.KernelIdeal.S16x8x256x256 .bf16)
    (VC : Vec Ideal Cert.KernelIdeal.S16x8x256x128 .bf16) (K : Vec Ideal Cert.KernelIdeal.S16x8x2048x256 .bf16)
    (W : Vec Ideal Cert.KernelIdeal.S16x8x2048x128 .bf16)
    (rq : ∀ i, ∃ r : ℝ, q i = r) (rkc : ∀ i, ∃ r : ℝ, kc i = r) (rk : ∀ i, ∃ r : ℝ, k i = r)
    (eQ : ∀ a h n d, Q (ix4 a h n d) = if hd : d.val < 192 then HMul.hMul (α := EReal) (q (ix4 a n h ⟨d.val, hd⟩)) factor else 0)
    (eKC : ∀ a h n d, KC (ix4 a h n d) = (if hd : d.val < 192 then kc (ix4 a n h ⟨d.val, hd⟩) else 0 : EReal))
    (eVC : ∀ a h n e, VC (ix4 a h n e) = vc (ix4 a n h e))
    (eK : ∀ a h n d, K (ix4 a h n d) = (if hd : d.val < 192 then k (ix4 a n h ⟨d.val, hd⟩) else 0 : EReal))
    (eW : ∀ a h n e, W (ix4 a h n e) = v (ix4 a n h e)) :
    attention Q KC VC K W = result q kc vc k v := by
  choose p hp using rq
  choose wc hwc using rkc
  choose w hw using rk
  funext i
  idx_vars i
  rw [result_at]
  show row Q KC VC K W i0 i1 (headOf i2) (laneOf i2) = Softmax.whole (fun x => scores q kc k (ix4 i0 (headOf i2) i1 x))
      (fun x => values vc v (ix4 i0 x (headOf i2) (laneOf i2)))
  generalize headOf i2 = h
  generalize laneOf i2 = e
  let s : Fin 2304 → ℝ := fun j => (∑ x, p (ix4 i0 i1 h x) *
    if hj : j.val < 256 then wc (ix4 i0 ⟨j.val, hj⟩ h x) else w (ix4 i0 ⟨j.val - 256, by omega⟩ h x)) * (Real.sqrt 192)⁻¹
  have hs : ∀ j, scores q kc k (ix4 i0 h i1 j) = ((s j : ℝ) : EReal) := by
    intro j
    rw [scores_at, scale_eq]
    simp only [s]
    rw [EReal.coe_mul, Softmax.coe_sum]
    congr 1
    refine Finset.sum_congr rfl fun x _ => ?_
    rw [hp, EReal.coe_mul]
    congr 1
    split
    · exact hwc _
    · exact hw _
  have key := Softmax.tiled_eq_whole (n0 := 256) (n1 := 2048) (n := 2304) rfl (by norm_num) s
    fun j => values vc v (ix4 i0 j h e)
  simp only [hs]
  rw [← key]
  unfold row
  have eq : ∀ d : Fin 256, Q (ix4 i0 h i1 d) = if hd : d.val < 192 then
      HMul.hMul (α := EReal) (β := EReal) (p (ix4 i0 i1 h ⟨d.val, hd⟩) : ℝ) (((Real.sqrt 192)⁻¹ * (Real.log 2)⁻¹ : ℝ) : EReal) else 0 := by
    intro d
    rw [eQ, factor_eq]
    split
    · rw [hp]
    · rfl
  refine tiled_congr ?_ ?_ ?_ ?_
  · funext j
    rw [padded_dot _ _ (fun x => p (ix4 i0 i1 h x)) (fun x => wc (ix4 i0 j h x)) _ eq fun d => by
      rw [eKC]; split <;> [rw [hwc]; rfl]]
    refine congrArg Real.toEReal ?_
    rw [← mul_assoc]
    refine congrArg (fun z => z * (Real.sqrt 192)⁻¹ * (Real.log 2)⁻¹) (Finset.sum_congr rfl fun x _ => ?_)
    exact congrArg (p (ix4 i0 i1 h x) * ·) (Eq.symm (dif_pos j.isLt))
  · funext j
    rw [padded_dot _ _ (fun x => p (ix4 i0 i1 h x)) (fun x => w (ix4 i0 j h x)) _ eq fun d => by
      rw [eK]; split <;> [rw [hw]; rfl]]
    refine congrArg Real.toEReal ?_
    rw [← mul_assoc]
    refine congrArg (fun z => z * (Real.sqrt 192)⁻¹ * (Real.log 2)⁻¹) (Finset.sum_congr rfl fun x _ => ?_)
    have ej : (⟨256 + j.val - 256, by omega⟩ : Fin 2048) = j := Fin.ext (Nat.add_sub_cancel_left 256 j.val)
    refine congrArg (p (ix4 i0 i1 h x) * ·) (Eq.trans ?_ (Eq.symm (dif_neg (Nat.not_lt.mpr (Nat.le_add_right 256 j.val)))))
    exact congrArg (fun z => w (ix4 i0 z h x)) ej.symm
  · funext j
    rw [eVC, values_at, dif_pos (by simp)]
    simp
  · funext j
    rw [eW, values_at, dif_neg (by simp)]
    simp

end Cert.Proof.Attention

end
-- ==== Proof.Norm.lean ====
/- The row formulas of the input projection: norms, head factors and rotations over the extended reals. -/
module

public import Idealize.ShloMosaic.Lib.Pointwise

@[expose] public section

noncomputable section

namespace Cert.Proof.InputProjection

open Idealize.ShloMosaic

/-- The small constant under the roots. -/
def eps : EReal := Ideal.ofBits .f32 0x358637BD#32

/-- An entry of a row divided by the root of its mean square, `N` entries to the mean, times a weight. -/
def normed {n : Nat} (N : EReal) (x w : Fin n → EReal) (j : Fin n) : EReal :=
  x j * Ideal.rsqrt (Ideal.div (∑ d, x d * x d) N + eps) * w j

/-- The factor of the queries, one over the square root of 192 and the logarithm of two. -/
def qScale : EReal := (((Real.sqrt 192)⁻¹ * (Real.log 2)⁻¹ : ℝ) : EReal)

/-- One over the root of the mean square of a head of 192 lanes kept in two vectors of 128. -/
def headScale (a b : Fin 128 → EReal) : EReal :=
  Ideal.rsqrt ((∑ e, a e * a e + ∑ e, b e * b e) * ((1 / 192 : ℝ) : EReal) + eps)

/-- The rotation of a vector of 128 lanes: each lane with the one sixteen lanes ahead or behind. -/
def turned (v c s : Fin 128 → EReal) (i : Fin 128) : EReal :=
  v i * c i + Scalar.select (IntOp.cmpi CmpIPredicate.eq (IntOp.andi (BitVec.ofNat 32 i.val) 16#32) 0#32)
    (v ⟨(i.val + 128 - 112) % 128, Nat.mod_lt _ (by norm_num)⟩) (v ⟨(i.val + 128 - 16) % 128, Nat.mod_lt _ (by norm_num)⟩) * s i

/-- The reference's rotation of a head: its first 128 lanes stay, the two halves of the last 64 turn by row and by column. -/
def rotated (v : Fin 192 → EReal) (cr sr cc sc : Fin 16 → EReal) (d : Fin 192) : EReal :=
  if h : d.val < 128 then v d
  else if h1 : d.val < 144 then v d * cr ⟨d.val - 128, by omega⟩ - v ⟨d.val + 16, by omega⟩ * sr ⟨d.val - 128, by omega⟩
  else if h2 : d.val < 160 then v d * cr ⟨d.val - 144, by omega⟩ + v ⟨d.val - 16, by omega⟩ * sr ⟨d.val - 144, by omega⟩
  else if h3 : d.val < 176 then v d * cc ⟨d.val - 160, by omega⟩ - v ⟨d.val + 16, by omega⟩ * sc ⟨d.val - 160, by omega⟩
  else v d * cc ⟨d.val - 176, by omega⟩ + v ⟨d.val - 16, by omega⟩ * sc ⟨d.val - 176, by omega⟩

/-- The rotation by the halves of the last 64 lanes, and the halves of each. -/
theorem rotated_nested (u : Fin 192 → EReal) (cr sr cc sc : Fin 16 → EReal) (d : Fin 192) : rotated u cr sr cc sc d =
    if h : d.val < 128 then u ⟨d.val, by omega⟩
    else if h1 : d.val - 128 < 32 then
      if h2 : d.val - 128 < 16 then u ⟨128 + (d.val - 128), by omega⟩ * cr ⟨d.val - 128, by omega⟩ - u ⟨128 + (16 + (d.val - 128)), by omega⟩ * sr ⟨d.val - 128, by omega⟩
      else u ⟨128 + (16 + (d.val - 128 - 16)), by omega⟩ * cr ⟨d.val - 128 - 16, by omega⟩ + u ⟨128 + (d.val - 128 - 16), by omega⟩ * sr ⟨d.val - 128 - 16, by omega⟩
    else if h2 : d.val - 128 - 32 < 16 then
      u ⟨128 + (32 + (d.val - 128 - 32)), by omega⟩ * cc ⟨d.val - 128 - 32, by omega⟩ - u ⟨128 + (32 + (16 + (d.val - 128 - 32))), by omega⟩ * sc ⟨d.val - 128 - 32, by omega⟩
    else u ⟨128 + (32 + (16 + (d.val - 128 - 32 - 16))), by omega⟩ * cc ⟨d.val - 128 - 32 - 16, by omega⟩
      + u ⟨128 + (32 + (d.val - 128 - 32 - 16)), by omega⟩ * sc ⟨d.val - 128 - 32 - 16, by omega⟩ := by
  have at_ (k l : Nat) (hk : k < 192) (hl : l < 192) (e : k = l) : u ⟨k, hk⟩ = u ⟨l, hl⟩ := by subst e; rfl
  have on (t : Fin 16 → EReal) (k l : Nat) (hk : k < 16) (hl : l < 16) (e : k = l) : t ⟨k, hk⟩ = t ⟨l, hl⟩ := by subst e; rfl
  unfold rotated
  split_ifs
  all_goals first
    | omega
    | rfl
    | refine congrArg₂ _ (congrArg₂ _ (at_ _ _ _ _ (by omega)) (on _ _ _ _ _ (by omega))) (congrArg₂ _ (at_ _ _ _ _ (by omega)) (on _ _ _ _ _ (by omega)))

/-- A row of the normed and modulated input. -/
def modulated (x w shift scale : Fin 2048 → EReal) (k : Fin 2048) : EReal :=
  normed (Ideal.ofBits .f32 0x45000000#32) x w k * (Ideal.ofBits .f32 0x3F800000#32 + scale k) + shift k

/-- A row of the input projection. -/
def projected (x w shift scale : Fin 2048 → EReal) (W : Fin 2048 → Fin 2880 → EReal) (j : Fin 2880) : EReal :=
  ∑ k, modulated x w shift scale k * W k j

/-- A head of the queries of a projected row, before it is normed. -/
def queryHead (p : Fin 2880 → EReal) (w : Fin 512 → EReal) (W : Fin 512 → Fin 1536 → EReal) (h : Fin 8) (d : Fin 192) : EReal :=
  ∑ k : Fin 512, normed (Ideal.ofBits .f32 0x44000000#32) (fun k : Fin 512 => p ⟨k.val, by omega⟩) w k * W k ⟨h.val * 192 + d.val, by omega⟩

/-- A head of the keys without positions and of the values of a projected row. -/
def pairHead (p : Fin 2880 → EReal) (w : Fin 256 → EReal) (W : Fin 256 → Fin 2048 → EReal) (h : Fin 8) (d : Fin 256) : EReal :=
  ∑ k : Fin 256, normed (Ideal.ofBits .f32 0x43800000#32) (fun k : Fin 256 => p ⟨512 + k.val, by omega⟩) w k * W k ⟨h.val * 256 + d.val, by omega⟩

/-- A head of the keys of a projected row, before it is normed: 128 lanes of its own and the 64 every head shares. -/
def keyHead (p : Fin 2880 → EReal) (w : Fin 256 → EReal) (W : Fin 256 → Fin 2048 → EReal) (h : Fin 8) (d : Fin 192) : EReal :=
  if hd : d.val < 128 then pairHead p w W h ⟨d.val, by omega⟩ else p ⟨768 + (d.val - 128), by omega⟩

end Cert.Proof.InputProjection

end
-- ==== Proof.Args2.lean ====
/- The input projection of one row, as a function of the call's arguments. -/
module

public import proofs.«01_k».proof.Proof.Norm

@[expose] public section

noncomputable section

namespace Cert.Proof.InputProjection

open Idealize.ShloMosaic

/-- The arguments of the input projection, by row and column. -/
structure Args where
  /-- The rows, -/
  x : Fin 16 → Fin 2048 → Fin 2048 → EReal
  /-- what each batch adds to a normed row -/
  shift : Fin 16 → Fin 2048 → EReal
  /-- and what it multiplies it by, less one. -/
  scale : Fin 16 → Fin 2048 → EReal
  /-- The weights of the first norm, -/
  n1 : Fin 2048 → EReal
  /-- of the projection, -/
  win : Fin 2048 → Fin 2880 → EReal
  /-- of the queries' norm, -/
  qa : Fin 512 → EReal
  /-- of the queries, -/
  uq : Fin 512 → Fin 1536 → EReal
  /-- of the norm of the keys and values, -/
  kva : Fin 256 → EReal
  /-- of the keys and values, -/
  ukv : Fin 256 → Fin 2048 → EReal
  /-- of the norm of a head's queries -/
  qn : Fin 192 → EReal
  /-- and of its keys. -/
  kn : Fin 192 → EReal
  /-- The cosines and sines by row -/
  cr : Fin 2048 → Fin 16 → EReal
  /-- (sines) -/
  sr : Fin 2048 → Fin 16 → EReal
  /-- and by column. -/
  cc : Fin 2048 → Fin 16 → EReal
  /-- (sines) -/
  sc : Fin 2048 → Fin 16 → EReal

variable (a : Args)

/-- A projected row. -/
def Args.row (b : Fin 16) (n : Fin 2048) : Fin 2880 → EReal := projected (a.x b n) a.n1 (a.shift b) (a.scale b) a.win

/-- A query: normed, turned and scaled. -/
def Args.query (b : Fin 16) (n : Fin 2048) (h : Fin 8) (d : Fin 192) : EReal :=
  rotated (normed (Ideal.ofBits .f32 0x43400000#32) (queryHead (a.row b n) a.qa a.uq h) a.qn) (a.cr n) (a.sr n) (a.cc n) (a.sc n) d * qScale

/-- A key: normed and turned. -/
def Args.key (b : Fin 16) (n : Fin 2048) (h : Fin 8) (d : Fin 192) : EReal :=
  rotated (normed (Ideal.ofBits .f32 0x43400000#32) (keyHead (a.row b n) a.kva a.ukv h) a.kn) (a.cr n) (a.sr n) (a.cc n) (a.sc n) d

/-- A value. -/
def Args.value (b : Fin 16) (n : Fin 2048) (h : Fin 8) (d : Fin 128) : EReal := pairHead (a.row b n) a.kva a.ukv h ⟨128 + d.val, by omega⟩

/-- A gate. -/
def Args.gate (b : Fin 16) (n : Fin 2048) (d : Fin 512) : EReal := a.row b n ⟨832 + d.val, by omega⟩

/-- A gated entry. -/
def Args.product (b : Fin 16) (n : Fin 2048) (d : Fin 512) : EReal := a.row b n ⟨1344 + d.val, by omega⟩ * a.row b n ⟨1856 + d.val, by omega⟩

/-- A projected row as the call keeps it: the lanes the heads share behind the others, and zeros after them. -/
def padRow (p : Fin 2880 → EReal) (j : Fin 2944) : EReal :=
  if h : j.val < 768 then p ⟨j.val, by omega⟩ else if h1 : j.val - 768 < 2048 then p ⟨832 + (j.val - 768), by omega⟩
  else if h2 : j.val - 768 - 2048 < 64 then p ⟨768 + (j.val - 768 - 2048), by omega⟩ else 0

end Cert.Proof.InputProjection

end
-- ==== Proof.Stage2i.lean ====
/- What the two halves of one grid point of the input projection leave: the projection of a tile (`outP`), and the queries, keys, values and gates finished from a projected tile. -/
module

public import proofs.«01_k».proof.Proof.Gen.Kernel2Ideal.Frame
public import proofs.«01_k».proof.Proof.Gen.Kernel2Ideal.Skeleton

@[expose] public section

set_option maxRecDepth 65536

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (x0 : Vec F S1x256x2048 .f32) (x1 : Vec F S1x6x2048 .f32) (x2 : Vec F S1x2048 .f32) (x3 : Vec F S2048x2944 .bf16) (x4 : Vec F S1x512 .f32) (x5 : Vec F S512x2048 .bf16) (x6 : Vec F S1x256 .f32) (x7 : Vec F S256x2048 .bf16) (x8 : Vec F S1x256 .f32) (x9 : Vec F S1x256 .f32) (x10 : Vec F S256x128 .f32) (x11 : Vec F S256x128 .f32) (x12 : Vec F S128x256 .bf16) (P : Vec F S256x2944 .f32) [Named F]

/-- The body's second branch condition at a grid point. -/
def cond2 (i : grid0.Coords) : BitVec 1 :=
  Scalar.cmpi .ne (Scalar.extui (Scalar.andi (Scalar.cmpi .eq (BitVec.ofNat 32 (i 0).val) 0#32) (Scalar.cmpi .eq (Scalar.select (Scalar.andi (Scalar.xori (Scalar.cmpi .slt (Scalar.remsi (BitVec.ofNat 32 (i 0).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 0).val) (Scalar.select (Scalar.cmpi .eq 2#32 0#32) 1#32 2#32)) 0#32)) (Scalar.addi (Scalar.remsi (BitVec.ofNat 32 (i 0).val) (Scalar.select (Scalar.cmpi .eq 2#32 0#32) 1#32 2#32)) (Scalar.select (Scalar.cmpi .eq 2#32 0#32) 1#32 2#32)) (Scalar.remsi (BitVec.ofNat 32 (i 0).val) (Scalar.select (Scalar.cmpi .eq 2#32 0#32) 1#32 2#32))) 0#32))) 0#32

/-- The body's fifth branch condition at a grid point. -/
def cond5 (i : grid0.Coords) : BitVec 1 :=
  Scalar.cmpi .ne (Scalar.extui (Scalar.andi (Scalar.cmpi .eq (BitVec.ofNat 32 (i 0).val) 0#32) (Scalar.cmpi .eq (Scalar.select (Scalar.andi (Scalar.xori (Scalar.cmpi .slt (Scalar.remsi (BitVec.ofNat 32 (i 0).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 0).val) (Scalar.select (Scalar.cmpi .eq 2#32 0#32) 1#32 2#32)) 0#32)) (Scalar.addi (Scalar.remsi (BitVec.ofNat 32 (i 0).val) (Scalar.select (Scalar.cmpi .eq 2#32 0#32) 1#32 2#32)) (Scalar.select (Scalar.cmpi .eq 2#32 0#32) 1#32 2#32)) (Scalar.remsi (BitVec.ofNat 32 (i 0).val) (Scalar.select (Scalar.cmpi .eq 2#32 0#32) 1#32 2#32))) 1#32))) 0#32

/-- The value `v73` in the projection of a tile, over the blocks it reads. -/
def f28_v73 : FVec F S256x2048 .bf16 :=
  (k0_pay164 (View.ld x1 (.unit _ _ inb_S1x6x2048_S1x1x2048_0_0_0)) (View.ld x1 (.unit _ _ inb_S1x6x2048_S1x1x2048_0_1_0)) (View.ld x0 (.unit _ _ inb_S1x256x2048_S1x256x2048_0_0_0)) (View.ld x2 (.unit _ _ inb_S1x2048_S1x2048_0_0)))

/-- The value `v82` in the projection of a tile, over the blocks it reads. -/
def f28_v82 : FVec F S256x512 .f32 :=
  (k0_pay166 (View.ld x1 (.unit _ _ inb_S1x6x2048_S1x1x2048_0_0_0)) (View.ld x1 (.unit _ _ inb_S1x6x2048_S1x1x2048_0_1_0)) (View.ld x0 (.unit _ _ inb_S1x256x2048_S1x256x2048_0_0_0)) (View.ld x2 (.unit _ _ inb_S1x2048_S1x2048_0_0)) (View.ld x3 (.unit _ _ inb_S2048x2944_S2048x512_0_512)))

/-- The projected tile: the modulated, normalised rows times the input weights, in its six column blocks. -/
def outP : Vec F S256x2944 .f32 :=
  View.canon [⟨(.unit _ _ inb_S256x2944_S256x384_0_2560), (k0_pay612 (f28_v73 x0 x1 x2) (View.ld x3 (.unit _ _ inb_S2048x2944_S2048x384_0_2560)))⟩, ⟨(.unit _ _ inb_S256x2944_S256x512_0_2048), (k0_pay611 (f28_v73 x0 x1 x2) (View.ld x3 (.unit _ _ inb_S2048x2944_S2048x512_0_2048)))⟩, ⟨(.unit _ _ inb_S256x2944_S256x512_0_1536), (k0_pay610 (f28_v73 x0 x1 x2) (View.ld x3 (.unit _ _ inb_S2048x2944_S2048x512_0_1536)))⟩, ⟨(.unit _ _ inb_S256x2944_S256x512_0_1024), (k0_pay609 (f28_v73 x0 x1 x2) (View.ld x3 (.unit _ _ inb_S2048x2944_S2048x512_0_1024)))⟩, ⟨(.unit _ _ inb_S256x2944_S256x512_0_512), (k0_pay608 (f28_v82 x0 x1 x2 x3))⟩, ⟨(.unit _ _ inb_S256x2944_S256x512_0_0), (k0_pay165 (View.ld x1 (.unit _ _ inb_S1x6x2048_S1x1x2048_0_0_0)) (View.ld x1 (.unit _ _ inb_S1x6x2048_S1x1x2048_0_1_0)) (View.ld x0 (.unit _ _ inb_S1x256x2048_S1x256x2048_0_0_0)) (View.ld x2 (.unit _ _ inb_S1x2048_S1x2048_0_0)) (View.ld x3 (.unit _ _ inb_S2048x2944_S2048x512_0_0)))⟩]

/-- The value `v65` over the blocks it reads. -/
def d29_v65 : FVec F S256x2048 .f32 :=
  (k0_pay167 (View.ld P (.unit _ _ inb_S256x2944_S256x256_0_512)) (View.ld x6 (.unit _ _ inb_S1x256_S1x256_0_0)) (View.ld x7 (.unit _ _ inb_S256x2048_S256x2048_0_0)))

/-- The value `v69` over the blocks it reads. -/
def d29_v69 : FVec F S256x1 .f32 :=
  (k0_pay168 (View.ld P (.unit _ _ inb_S256x2944_S256x128_0_2816)))

/-- The value `v76` over the blocks it reads. -/
def d29_v76 : FVec F S256x128 .f32 :=
  (k0_pay170 (View.ld P (.unit _ _ inb_S256x2944_S256x128_0_2816)) (View.ld x9 (.unit _ _ inb_S1x256_S1x128_0_128)) (View.ld x10 (.unit _ _ inb_S256x128_S256x128_0_0)))

/-- The value `v84` over the blocks it reads. -/
def d29_v84 : FVec F S256x128 .f32 :=
  (k0_pay171 (View.ld P (.unit _ _ inb_S256x2944_S256x128_0_2816)) (View.ld x9 (.unit _ _ inb_S1x256_S1x128_0_128)))

/-- The value `v88` over the blocks it reads. -/
def d30_v88 : FVec F S256x128 .f32 :=
  (k0_pay172 (d29_v76 x9 x10 P) (d29_v84 x9 P) (View.ld x11 (.unit _ _ inb_S256x128_S256x128_0_0)))

/-- The value `v120` over the blocks it reads. -/
def d30_v120 : FVec F S256x128 .f32 :=
  (k0_pay178 (d29_v65 x6 x7 P))

/-- The value `v122` over the blocks it reads. -/
def d30_v122 : FVec F S256 .f32 :=
  (k0_pay179 (d29_v65 x6 x7 P))

/-- The value `v151` over the blocks it reads. -/
def d31_v151 : FVec F S256x128 .f32 :=
  (k0_pay184 (d29_v65 x6 x7 P))

/-- The value `v160` over the blocks it reads. -/
def d31_v160 : FVec F S256x1 .f32 :=
  (k0_pay185 (d29_v65 x6 x7 P) (d29_v69 P))

/-- The value `v191` over the blocks it reads. -/
def d32_v191 : FVec F S256x1 .f32 :=
  (k0_pay190 (d29_v65 x6 x7 P) (d29_v69 P))

/-- The value `v198` over the blocks it reads. -/
def d32_v198 : FVec F S256x128 .bf16 :=
  (k0_pay191 (d29_v65 x6 x7 P) (d29_v69 P) (View.ld x9 (.unit _ _ inb_S1x256_S1x128_0_0)))

/-- The value `v233` over the blocks it reads. -/
def d33_v233 : FVec F S256x128 .f32 :=
  (k0_pay198 (d29_v65 x6 x7 P) (d29_v69 P))

/-- The value `v269` over the blocks it reads. -/
def d34_v269 : FVec F S1x1x256x128 .bf16 :=
  (k0_pay204 (d29_v65 x6 x7 P) (d29_v69 P) (d30_v88 x9 x10 x11 P))

/-- The value `v302` over the blocks it reads. -/
def d35_v302 : FVec F S256x128 .bf16 :=
  (k0_pay210 (d29_v65 x6 x7 P))

/-- The value `v339` over the blocks it reads. -/
def d36_v339 : FVec F S1x512 .f32 :=
  (k0_pay217 (View.ld x4 (.unit _ _ inb_S1x512_S1x512_0_0)))

/-- The value `v355` over the blocks it reads. -/
def d37_v355 : FVec F S256x2048 .f32 :=
  (k0_pay218 (View.ld P (.unit _ _ inb_S256x2944_S256x512_0_0)) (d36_v339 x4) (View.ld x5 (.unit _ _ inb_S512x2048_S512x2048_0_0)))

/-- The value `v357` over the blocks it reads. -/
def d37_v357 : FVec F S256x128 .f32 :=
  (k0_pay220 (View.ld P (.unit _ _ inb_S256x2944_S256x512_0_0)) (d36_v339 x4) (View.ld x5 (.unit _ _ inb_S512x2048_S512x2048_0_0)))

/-- The value `v371` over the blocks it reads. -/
def d37_v371 : FVec F S256x1 .f32 :=
  (k0_pay221 (View.ld P (.unit _ _ inb_S256x2944_S256x512_0_0)) (d36_v339 x4) (View.ld x5 (.unit _ _ inb_S512x2048_S512x2048_0_0)))

/-- The value `v407` over the blocks it reads. -/
def d38_v407 : FVec F S256x128 .f32 :=
  (k0_pay224 (d37_v355 x4 x5 P))

/-- The value `v408` over the blocks it reads. -/
def d38_v408 : FVec F S256x128 .f32 :=
  (k0_pay225 (d37_v355 x4 x5 P))

/-- The value `v420` over the blocks it reads. -/
def d38_v420 : FVec F S256x1 .f32 :=
  (k0_pay226 (d37_v355 x4 x5 P))

/-- The value `v421` over the blocks it reads. -/
def d38_v421  : FVec F S256x1 .f32 :=
  (k0_pay227 (F := F))

/-- The value `v458` over the blocks it reads. -/
def d39_v458 : FVec F S256x128 .f32 :=
  (k0_pay231 (d37_v355 x4 x5 P))

/-- The value `v459` over the blocks it reads. -/
def d39_v459 : FVec F S256x128 .f32 :=
  (k0_pay232 (d37_v355 x4 x5 P))

/-- The value `v492` over the blocks it reads. -/
def d40_v492 : FVec F S256x128 .f32 :=
  (k0_pay236 (d39_v458 x4 x5 P) (d39_v459 x4 x5 P) (View.ld x8 (.unit _ _ inb_S1x256_S1x128_0_128)) (View.ld x10 (.unit _ _ inb_S256x128_S256x128_0_0)))

/-- The value `v494` over the blocks it reads. -/
def d40_v494 : FVec F S256x128 .f32 :=
  (k0_pay237 (d39_v458 x4 x5 P) (d39_v459 x4 x5 P) (View.ld x8 (.unit _ _ inb_S1x256_S1x128_0_128)))

/-- The value `v495` over the blocks it reads. -/
def d40_v495 : FVec F S256x128 .f32 :=
  (k0_pay238 (d39_v458 x4 x5 P) (d39_v459 x4 x5 P) (View.ld x8 (.unit _ _ inb_S1x256_S1x128_0_128)))

/-- The value `v499` over the blocks it reads. -/
def d40_v499  : IVec S256x128 1 :=
  k0_pay239

/-- The value `v536` over the blocks it reads. -/
def d41_v536 : FVec F S256x128 .f32 :=
  (k0_pay245 (d37_v355 x4 x5 P))

/-- The value `v538` over the blocks it reads. -/
def d41_v538 : FVec F S1x128 .f32 :=
  (k0_pay246 (View.ld x8 (.unit _ _ inb_S1x256_S1x128_0_128)))

/-- The value `v561` over the blocks it reads. -/
def d42_v561 : FVec F S256x128 .f32 :=
  (k0_pay249 (d37_v355 x4 x5 P))

/-- The value `v575` over the blocks it reads. -/
def d42_v575 : FVec F S256x1 .f32 :=
  (k0_pay250 (d37_v355 x4 x5 P))

/-- The value `v577` over the blocks it reads. -/
def d42_v577 : FVec F S256x128 .f32 :=
  (k0_pay251 (d37_v355 x4 x5 P))

/-- The value `v611` over the blocks it reads. -/
def d43_v611 : FVec F S256x128 .f32 :=
  (k0_pay254 (d37_v355 x4 x5 P))

/-- The value `v612` over the blocks it reads. -/
def d43_v612 : FVec F S256x128 .f32 :=
  (k0_pay255 (d37_v355 x4 x5 P))

/-- The value `v615` over the blocks it reads. -/
def d43_v615 : FVec F S256x1 .f32 :=
  (k0_pay256 (d37_v355 x4 x5 P))

/-- The value `v616` over the blocks it reads. -/
def d43_v616 : FVec F S256x128 .f32 :=
  (k0_pay257 (d37_v355 x4 x5 P))

/-- The value `v645` over the blocks it reads. -/
def d44_v645 : FVec F S256x128 .f32 :=
  (k0_pay261 (d43_v612 x4 x5 P) (d43_v615 x4 x5 P) (d43_v616 x4 x5 P) (View.ld x8 (.unit _ _ inb_S1x256_S1x128_0_128)) (View.ld x10 (.unit _ _ inb_S256x128_S256x128_0_0)))

/-- The value `v656` over the blocks it reads. -/
def d44_v656 : FVec F S256x128 .f32 :=
  (k0_pay262 (d43_v612 x4 x5 P) (d43_v615 x4 x5 P) (d43_v616 x4 x5 P) (View.ld x8 (.unit _ _ inb_S1x256_S1x128_0_128)) (View.ld x11 (.unit _ _ inb_S256x128_S256x128_0_0)))

/-- The value `v693` over the blocks it reads. -/
def d45_v693 : FVec F S256x128 .f32 :=
  (k0_pay268 (d37_v355 x4 x5 P) (View.ld x8 (.unit _ _ inb_S1x256_S1x128_0_128)))

/-- The value `v695` over the blocks it reads. -/
def d45_v695 : FVec F S256x128 .f32 :=
  (k0_pay269 (View.ld x10 (.unit _ _ inb_S256x128_S256x128_0_0)))

/-- The value `v714` over the blocks it reads. -/
def d46_v714 : FVec F S256x128 .f32 :=
  (k0_pay272 (d37_v355 x4 x5 P))

/-- The value `v728` over the blocks it reads. -/
def d46_v728 : FVec F S256x1 .f32 :=
  (k0_pay273 (d37_v355 x4 x5 P))

/-- The value `v735` over the blocks it reads. -/
def d46_v735 : FVec F S256x128 .bf16 :=
  (k0_pay274 (d37_v355 x4 x5 P) (View.ld x8 (.unit _ _ inb_S1x256_S1x128_0_0)))

/-- The value `v785` over the blocks it reads. -/
def dp48_v785 : Vec F S1x128x128 .f32 :=
  (Memref.whole cc0_scratch2).view.readCov [⟨(.unit _ _ inb_S8x256x128_S1x256x128_0_0_0), (k0_pay280 (View.ld P (.unit _ _ inb_S256x2944_S256x128_0_2304)) (View.ld x12 (.unit _ _ inb_S128x256_S128x256_0_0)))⟩] (⟨![0, 0, 0], S1x128x128.size, ![1, 2, 1], inb_S8x256x128_S1x128x128_0_0_0_s_1_2_1⟩ : LoadRect S8x256x128)

/-- The value `v791` over the blocks it reads. -/
def dp48_v791 : Vec F S1x128x128 .f32 :=
  (Memref.whole cc0_scratch2).view.readCov [⟨(.unit _ _ inb_S8x256x128_S1x256x128_0_0_0), (k0_pay280 (View.ld P (.unit _ _ inb_S256x2944_S256x128_0_2304)) (View.ld x12 (.unit _ _ inb_S128x256_S128x256_0_0)))⟩] (⟨![0, 1, 0], S1x128x128.size, ![1, 2, 1], inb_S8x256x128_S1x128x128_0_1_0_s_1_2_1⟩ : LoadRect S8x256x128)

/-- The value `v780` over the blocks it reads. -/
def d48_v780 : FVec F S256x256 .f32 :=
  (k0_pay279 (View.ld P (.unit _ _ inb_S256x2944_S256x128_0_2304)) (View.ld x12 (.unit _ _ inb_S128x256_S128x256_0_0)))

/-- The value `v801` over the blocks it reads. -/
def dp49_v801 : Vec F S1x128x128 .f32 :=
  (Memref.whole cc0_scratch2).view.readCov [⟨(.unit _ _ inb_S8x256x128_S1x256x128_1_0_0), (k0_pay283 (d48_v780 x12 P))⟩, ⟨(.unit _ _ inb_S8x256x128_S1x256x128_0_0_0), (k0_pay280 (View.ld P (.unit _ _ inb_S256x2944_S256x128_0_2304)) (View.ld x12 (.unit _ _ inb_S128x256_S128x256_0_0)))⟩] (⟨![1, 0, 0], S1x128x128.size, ![1, 2, 1], inb_S8x256x128_S1x128x128_1_0_0_s_1_2_1⟩ : LoadRect S8x256x128)

/-- The value `v807` over the blocks it reads. -/
def dp49_v807 : Vec F S1x128x128 .f32 :=
  (Memref.whole cc0_scratch2).view.readCov [⟨(.unit _ _ inb_S8x256x128_S1x256x128_1_0_0), (k0_pay283 (d48_v780 x12 P))⟩, ⟨(.unit _ _ inb_S8x256x128_S1x256x128_0_0_0), (k0_pay280 (View.ld P (.unit _ _ inb_S256x2944_S256x128_0_2304)) (View.ld x12 (.unit _ _ inb_S128x256_S128x256_0_0)))⟩] (⟨![1, 1, 0], S1x128x128.size, ![1, 2, 1], inb_S8x256x128_S1x128x128_1_1_0_s_1_2_1⟩ : LoadRect S8x256x128)

/-- The value `v822` over the blocks it reads. -/
def dp49_v822 : Vec F S1x128x128 .f32 :=
  (Memref.whole cc0_scratch2).view.readCov [⟨(.unit _ _ inb_S8x256x128_S1x256x128_2_0_0), (k0_pay287 (View.ld P (.unit _ _ inb_S256x2944_S256x128_0_2432)) (View.ld x12 (.unit _ _ inb_S128x256_S128x256_0_0)))⟩, ⟨(.unit _ _ inb_S8x256x128_S1x256x128_1_0_0), (k0_pay283 (d48_v780 x12 P))⟩, ⟨(.unit _ _ inb_S8x256x128_S1x256x128_0_0_0), (k0_pay280 (View.ld P (.unit _ _ inb_S256x2944_S256x128_0_2304)) (View.ld x12 (.unit _ _ inb_S128x256_S128x256_0_0)))⟩] (⟨![2, 0, 0], S1x128x128.size, ![1, 2, 1], inb_S8x256x128_S1x128x128_2_0_0_s_1_2_1⟩ : LoadRect S8x256x128)

/-- The value `v817` over the blocks it reads. -/
def d49_v817 : FVec F S256x256 .f32 :=
  (k0_pay286 (View.ld P (.unit _ _ inb_S256x2944_S256x128_0_2432)) (View.ld x12 (.unit _ _ inb_S128x256_S128x256_0_0)))

/-- The value `v828` over the blocks it reads. -/
def dp50_v828 : Vec F S1x128x128 .f32 :=
  (Memref.whole cc0_scratch2).view.readCov [⟨(.unit _ _ inb_S8x256x128_S1x256x128_2_0_0), (k0_pay287 (View.ld P (.unit _ _ inb_S256x2944_S256x128_0_2432)) (View.ld x12 (.unit _ _ inb_S128x256_S128x256_0_0)))⟩, ⟨(.unit _ _ inb_S8x256x128_S1x256x128_1_0_0), (k0_pay283 (d48_v780 x12 P))⟩, ⟨(.unit _ _ inb_S8x256x128_S1x256x128_0_0_0), (k0_pay280 (View.ld P (.unit _ _ inb_S256x2944_S256x128_0_2304)) (View.ld x12 (.unit _ _ inb_S128x256_S128x256_0_0)))⟩] (⟨![2, 1, 0], S1x128x128.size, ![1, 2, 1], inb_S8x256x128_S1x128x128_2_1_0_s_1_2_1⟩ : LoadRect S8x256x128)

/-- The value `v838` over the blocks it reads. -/
def dp50_v838 : Vec F S1x128x128 .f32 :=
  (Memref.whole cc0_scratch2).view.readCov [⟨(.unit _ _ inb_S8x256x128_S1x256x128_3_0_0), (k0_pay290 (d49_v817 x12 P))⟩, ⟨(.unit _ _ inb_S8x256x128_S1x256x128_2_0_0), (k0_pay287 (View.ld P (.unit _ _ inb_S256x2944_S256x128_0_2432)) (View.ld x12 (.unit _ _ inb_S128x256_S128x256_0_0)))⟩, ⟨(.unit _ _ inb_S8x256x128_S1x256x128_1_0_0), (k0_pay283 (d48_v780 x12 P))⟩, ⟨(.unit _ _ inb_S8x256x128_S1x256x128_0_0_0), (k0_pay280 (View.ld P (.unit _ _ inb_S256x2944_S256x128_0_2304)) (View.ld x12 (.unit _ _ inb_S128x256_S128x256_0_0)))⟩] (⟨![3, 0, 0], S1x128x128.size, ![1, 2, 1], inb_S8x256x128_S1x128x128_3_0_0_s_1_2_1⟩ : LoadRect S8x256x128)

/-- The value `v844` over the blocks it reads. -/
def dp50_v844 : Vec F S1x128x128 .f32 :=
  (Memref.whole cc0_scratch2).view.readCov [⟨(.unit _ _ inb_S8x256x128_S1x256x128_3_0_0), (k0_pay290 (d49_v817 x12 P))⟩, ⟨(.unit _ _ inb_S8x256x128_S1x256x128_2_0_0), (k0_pay287 (View.ld P (.unit _ _ inb_S256x2944_S256x128_0_2432)) (View.ld x12 (.unit _ _ inb_S128x256_S128x256_0_0)))⟩, ⟨(.unit _ _ inb_S8x256x128_S1x256x128_1_0_0), (k0_pay283 (d48_v780 x12 P))⟩, ⟨(.unit _ _ inb_S8x256x128_S1x256x128_0_0_0), (k0_pay280 (View.ld P (.unit _ _ inb_S256x2944_S256x128_0_2304)) (View.ld x12 (.unit _ _ inb_S128x256_S128x256_0_0)))⟩] (⟨![3, 1, 0], S1x128x128.size, ![1, 2, 1], inb_S8x256x128_S1x128x128_3_1_0_s_1_2_1⟩ : LoadRect S8x256x128)

/-- The value `v846` over the blocks it reads. -/
def d50_v846 : FVec F S128x128 .bf16 :=
  (k0_pay292 (dp50_v844 x12 P))

/-- The value `v859` over the blocks it reads. -/
def dp51_v859 : Vec F S1x128x128 .f32 :=
  (Memref.whole cc0_scratch2).view.readCov [⟨(.unit _ _ inb_S8x256x128_S1x256x128_4_0_0), (k0_pay295 (View.ld P (.unit _ _ inb_S256x2944_S256x128_0_2560)) (View.ld x12 (.unit _ _ inb_S128x256_S128x256_0_0)))⟩, ⟨(.unit _ _ inb_S8x256x128_S1x256x128_3_0_0), (k0_pay290 (d49_v817 x12 P))⟩, ⟨(.unit _ _ inb_S8x256x128_S1x256x128_2_0_0), (k0_pay287 (View.ld P (.unit _ _ inb_S256x2944_S256x128_0_2432)) (View.ld x12 (.unit _ _ inb_S128x256_S128x256_0_0)))⟩, ⟨(.unit _ _ inb_S8x256x128_S1x256x128_1_0_0), (k0_pay283 (d48_v780 x12 P))⟩, ⟨(.unit _ _ inb_S8x256x128_S1x256x128_0_0_0), (k0_pay280 (View.ld P (.unit _ _ inb_S256x2944_S256x128_0_2304)) (View.ld x12 (.unit _ _ inb_S128x256_S128x256_0_0)))⟩] (⟨![4, 0, 0], S1x128x128.size, ![1, 2, 1], inb_S8x256x128_S1x128x128_4_0_0_s_1_2_1⟩ : LoadRect S8x256x128)

/-- The value `v865` over the blocks it reads. -/
def dp51_v865 : Vec F S1x128x128 .f32 :=
  (Memref.whole cc0_scratch2).view.readCov [⟨(.unit _ _ inb_S8x256x128_S1x256x128_4_0_0), (k0_pay295 (View.ld P (.unit _ _ inb_S256x2944_S256x128_0_2560)) (View.ld x12 (.unit _ _ inb_S128x256_S128x256_0_0)))⟩, ⟨(.unit _ _ inb_S8x256x128_S1x256x128_3_0_0), (k0_pay290 (d49_v817 x12 P))⟩, ⟨(.unit _ _ inb_S8x256x128_S1x256x128_2_0_0), (k0_pay287 (View.ld P (.unit _ _ inb_S256x2944_S256x128_0_2432)) (View.ld x12 (.unit _ _ inb_S128x256_S128x256_0_0)))⟩, ⟨(.unit _ _ inb_S8x256x128_S1x256x128_1_0_0), (k0_pay283 (d48_v780 x12 P))⟩, ⟨(.unit _ _ inb_S8x256x128_S1x256x128_0_0_0), (k0_pay280 (View.ld P (.unit _ _ inb_S256x2944_S256x128_0_2304)) (View.ld x12 (.unit _ _ inb_S128x256_S128x256_0_0)))⟩] (⟨![4, 1, 0], S1x128x128.size, ![1, 2, 1], inb_S8x256x128_S1x128x128_4_1_0_s_1_2_1⟩ : LoadRect S8x256x128)

/-- The value `v875` over the blocks it reads. -/
def dp52_v875 : Vec F S1x128x128 .f32 :=
  (Memref.whole cc0_scratch2).view.readCov [⟨(.unit _ _ inb_S8x256x128_S1x256x128_5_0_0), (k0_pay298 (View.ld P (.unit _ _ inb_S256x2944_S256x128_0_2560)) (View.ld x12 (.unit _ _ inb_S128x256_S128x256_0_0)))⟩, ⟨(.unit _ _ inb_S8x256x128_S1x256x128_4_0_0), (k0_pay295 (View.ld P (.unit _ _ inb_S256x2944_S256x128_0_2560)) (View.ld x12 (.unit _ _ inb_S128x256_S128x256_0_0)))⟩, ⟨(.unit _ _ inb_S8x256x128_S1x256x128_3_0_0), (k0_pay290 (d49_v817 x12 P))⟩, ⟨(.unit _ _ inb_S8x256x128_S1x256x128_2_0_0), (k0_pay287 (View.ld P (.unit _ _ inb_S256x2944_S256x128_0_2432)) (View.ld x12 (.unit _ _ inb_S128x256_S128x256_0_0)))⟩, ⟨(.unit _ _ inb_S8x256x128_S1x256x128_1_0_0), (k0_pay283 (d48_v780 x12 P))⟩, ⟨(.unit _ _ inb_S8x256x128_S1x256x128_0_0_0), (k0_pay280 (View.ld P (.unit _ _ inb_S256x2944_S256x128_0_2304)) (View.ld x12 (.unit _ _ inb_S128x256_S128x256_0_0)))⟩] (⟨![5, 0, 0], S1x128x128.size, ![1, 2, 1], inb_S8x256x128_S1x128x128_5_0_0_s_1_2_1⟩ : LoadRect S8x256x128)

/-- The value `v881` over the blocks it reads. -/
def dp52_v881 : Vec F S1x128x128 .f32 :=
  (Memref.whole cc0_scratch2).view.readCov [⟨(.unit _ _ inb_S8x256x128_S1x256x128_5_0_0), (k0_pay298 (View.ld P (.unit _ _ inb_S256x2944_S256x128_0_2560)) (View.ld x12 (.unit _ _ inb_S128x256_S128x256_0_0)))⟩, ⟨(.unit _ _ inb_S8x256x128_S1x256x128_4_0_0), (k0_pay295 (View.ld P (.unit _ _ inb_S256x2944_S256x128_0_2560)) (View.ld x12 (.unit _ _ inb_S128x256_S128x256_0_0)))⟩, ⟨(.unit _ _ inb_S8x256x128_S1x256x128_3_0_0), (k0_pay290 (d49_v817 x12 P))⟩, ⟨(.unit _ _ inb_S8x256x128_S1x256x128_2_0_0), (k0_pay287 (View.ld P (.unit _ _ inb_S256x2944_S256x128_0_2432)) (View.ld x12 (.unit _ _ inb_S128x256_S128x256_0_0)))⟩, ⟨(.unit _ _ inb_S8x256x128_S1x256x128_1_0_0), (k0_pay283 (d48_v780 x12 P))⟩, ⟨(.unit _ _ inb_S8x256x128_S1x256x128_0_0_0), (k0_pay280 (View.ld P (.unit _ _ inb_S256x2944_S256x128_0_2304)) (View.ld x12 (.unit _ _ inb_S128x256_S128x256_0_0)))⟩] (⟨![5, 1, 0], S1x128x128.size, ![1, 2, 1], inb_S8x256x128_S1x128x128_5_1_0_s_1_2_1⟩ : LoadRect S8x256x128)

/-- The value `v896` over the blocks it reads. -/
def dp52_v896 : Vec F S1x128x128 .f32 :=
  (Memref.whole cc0_scratch2).view.readCov [⟨(.unit _ _ inb_S8x256x128_S1x256x128_6_0_0), (k0_pay302 (View.ld P (.unit _ _ inb_S256x2944_S256x128_0_2688)) (View.ld x12 (.unit _ _ inb_S128x256_S128x256_0_0)))⟩, ⟨(.unit _ _ inb_S8x256x128_S1x256x128_5_0_0), (k0_pay298 (View.ld P (.unit _ _ inb_S256x2944_S256x128_0_2560)) (View.ld x12 (.unit _ _ inb_S128x256_S128x256_0_0)))⟩, ⟨(.unit _ _ inb_S8x256x128_S1x256x128_4_0_0), (k0_pay295 (View.ld P (.unit _ _ inb_S256x2944_S256x128_0_2560)) (View.ld x12 (.unit _ _ inb_S128x256_S128x256_0_0)))⟩, ⟨(.unit _ _ inb_S8x256x128_S1x256x128_3_0_0), (k0_pay290 (d49_v817 x12 P))⟩, ⟨(.unit _ _ inb_S8x256x128_S1x256x128_2_0_0), (k0_pay287 (View.ld P (.unit _ _ inb_S256x2944_S256x128_0_2432)) (View.ld x12 (.unit _ _ inb_S128x256_S128x256_0_0)))⟩, ⟨(.unit _ _ inb_S8x256x128_S1x256x128_1_0_0), (k0_pay283 (d48_v780 x12 P))⟩, ⟨(.unit _ _ inb_S8x256x128_S1x256x128_0_0_0), (k0_pay280 (View.ld P (.unit _ _ inb_S256x2944_S256x128_0_2304)) (View.ld x12 (.unit _ _ inb_S128x256_S128x256_0_0)))⟩] (⟨![6, 0, 0], S1x128x128.size, ![1, 2, 1], inb_S8x256x128_S1x128x128_6_0_0_s_1_2_1⟩ : LoadRect S8x256x128)

/-- The value `v891` over the blocks it reads. -/
def d52_v891 : FVec F S256x256 .f32 :=
  (k0_pay301 (View.ld P (.unit _ _ inb_S256x2944_S256x128_0_2688)) (View.ld x12 (.unit _ _ inb_S128x256_S128x256_0_0)))

/-- The value `v898` over the blocks it reads. -/
def d52_v898 : FVec F S128x128 .bf16 :=
  (k0_pay303 (dp52_v896 x12 P))

/-- The value `v902` over the blocks it reads. -/
def dp53_v902 : Vec F S1x128x128 .f32 :=
  (Memref.whole cc0_scratch2).view.readCov [⟨(.unit _ _ inb_S8x256x128_S1x256x128_6_0_0), (k0_pay302 (View.ld P (.unit _ _ inb_S256x2944_S256x128_0_2688)) (View.ld x12 (.unit _ _ inb_S128x256_S128x256_0_0)))⟩, ⟨(.unit _ _ inb_S8x256x128_S1x256x128_5_0_0), (k0_pay298 (View.ld P (.unit _ _ inb_S256x2944_S256x128_0_2560)) (View.ld x12 (.unit _ _ inb_S128x256_S128x256_0_0)))⟩, ⟨(.unit _ _ inb_S8x256x128_S1x256x128_4_0_0), (k0_pay295 (View.ld P (.unit _ _ inb_S256x2944_S256x128_0_2560)) (View.ld x12 (.unit _ _ inb_S128x256_S128x256_0_0)))⟩, ⟨(.unit _ _ inb_S8x256x128_S1x256x128_3_0_0), (k0_pay290 (d49_v817 x12 P))⟩, ⟨(.unit _ _ inb_S8x256x128_S1x256x128_2_0_0), (k0_pay287 (View.ld P (.unit _ _ inb_S256x2944_S256x128_0_2432)) (View.ld x12 (.unit _ _ inb_S128x256_S128x256_0_0)))⟩, ⟨(.unit _ _ inb_S8x256x128_S1x256x128_1_0_0), (k0_pay283 (d48_v780 x12 P))⟩, ⟨(.unit _ _ inb_S8x256x128_S1x256x128_0_0_0), (k0_pay280 (View.ld P (.unit _ _ inb_S256x2944_S256x128_0_2304)) (View.ld x12 (.unit _ _ inb_S128x256_S128x256_0_0)))⟩] (⟨![6, 1, 0], S1x128x128.size, ![1, 2, 1], inb_S8x256x128_S1x128x128_6_1_0_s_1_2_1⟩ : LoadRect S8x256x128)

/-- The value `v912` over the blocks it reads. -/
def dp53_v912 : Vec F S1x128x128 .f32 :=
  (Memref.whole cc0_scratch2).view.readCov [⟨(.unit _ _ inb_S8x256x128_S1x256x128_7_0_0), (k0_pay306 (d52_v891 x12 P))⟩, ⟨(.unit _ _ inb_S8x256x128_S1x256x128_6_0_0), (k0_pay302 (View.ld P (.unit _ _ inb_S256x2944_S256x128_0_2688)) (View.ld x12 (.unit _ _ inb_S128x256_S128x256_0_0)))⟩, ⟨(.unit _ _ inb_S8x256x128_S1x256x128_5_0_0), (k0_pay298 (View.ld P (.unit _ _ inb_S256x2944_S256x128_0_2560)) (View.ld x12 (.unit _ _ inb_S128x256_S128x256_0_0)))⟩, ⟨(.unit _ _ inb_S8x256x128_S1x256x128_4_0_0), (k0_pay295 (View.ld P (.unit _ _ inb_S256x2944_S256x128_0_2560)) (View.ld x12 (.unit _ _ inb_S128x256_S128x256_0_0)))⟩, ⟨(.unit _ _ inb_S8x256x128_S1x256x128_3_0_0), (k0_pay290 (d49_v817 x12 P))⟩, ⟨(.unit _ _ inb_S8x256x128_S1x256x128_2_0_0), (k0_pay287 (View.ld P (.unit _ _ inb_S256x2944_S256x128_0_2432)) (View.ld x12 (.unit _ _ inb_S128x256_S128x256_0_0)))⟩, ⟨(.unit _ _ inb_S8x256x128_S1x256x128_1_0_0), (k0_pay283 (d48_v780 x12 P))⟩, ⟨(.unit _ _ inb_S8x256x128_S1x256x128_0_0_0), (k0_pay280 (View.ld P (.unit _ _ inb_S256x2944_S256x128_0_2304)) (View.ld x12 (.unit _ _ inb_S128x256_S128x256_0_0)))⟩] (⟨![7, 0, 0], S1x128x128.size, ![1, 2, 1], inb_S8x256x128_S1x128x128_7_0_0_s_1_2_1⟩ : LoadRect S8x256x128)

/-- The value `v914` over the blocks it reads. -/
def d53_v914 : FVec F S128x128 .bf16 :=
  (k0_pay307 (dp53_v912 x12 P))

/-- The value `v918` over the blocks it reads. -/
def db3_v918 : Vec F S1x128x128 .f32 :=
  (Memref.whole cc0_scratch2).view.readCov [⟨(.unit _ _ inb_S8x256x128_S1x256x128_7_0_0), (k0_pay306 (d52_v891 x12 P))⟩, ⟨(.unit _ _ inb_S8x256x128_S1x256x128_6_0_0), (k0_pay302 (View.ld P (.unit _ _ inb_S256x2944_S256x128_0_2688)) (View.ld x12 (.unit _ _ inb_S128x256_S128x256_0_0)))⟩, ⟨(.unit _ _ inb_S8x256x128_S1x256x128_5_0_0), (k0_pay298 (View.ld P (.unit _ _ inb_S256x2944_S256x128_0_2560)) (View.ld x12 (.unit _ _ inb_S128x256_S128x256_0_0)))⟩, ⟨(.unit _ _ inb_S8x256x128_S1x256x128_4_0_0), (k0_pay295 (View.ld P (.unit _ _ inb_S256x2944_S256x128_0_2560)) (View.ld x12 (.unit _ _ inb_S128x256_S128x256_0_0)))⟩, ⟨(.unit _ _ inb_S8x256x128_S1x256x128_3_0_0), (k0_pay290 (d49_v817 x12 P))⟩, ⟨(.unit _ _ inb_S8x256x128_S1x256x128_2_0_0), (k0_pay287 (View.ld P (.unit _ _ inb_S256x2944_S256x128_0_2432)) (View.ld x12 (.unit _ _ inb_S128x256_S128x256_0_0)))⟩, ⟨(.unit _ _ inb_S8x256x128_S1x256x128_1_0_0), (k0_pay283 (d48_v780 x12 P))⟩, ⟨(.unit _ _ inb_S8x256x128_S1x256x128_0_0_0), (k0_pay280 (View.ld P (.unit _ _ inb_S256x2944_S256x128_0_2304)) (View.ld x12 (.unit _ _ inb_S128x256_S128x256_0_0)))⟩] (⟨![7, 1, 0], S1x128x128.size, ![1, 2, 1], inb_S8x256x128_S1x128x128_7_1_0_s_1_2_1⟩ : LoadRect S8x256x128)

/-- The queries finished from a projected tile, every head in its slot of 256 lanes. -/
def outQ : Vec F S1x8x256x256 .bf16 :=
  View.canon [⟨(.unit _ _ inb_S1x8x256x256_S1x1x256x128_0_7_0_128), (k0_pay276 (d46_v714 x4 x5 P) (d46_v728 x4 x5 P) (View.ld x8 (.unit _ _ inb_S1x256_S1x128_0_128)) (View.ld x10 (.unit _ _ inb_S256x128_S256x128_0_0)) (View.ld x11 (.unit _ _ inb_S256x128_S256x128_0_0)))⟩, ⟨(.unit _ _ inb_S1x8x256x256_S1x1x256x128_0_7_0_0), (k0_pay275 (d46_v735 x4 x5 x8 P))⟩, ⟨(.unit _ _ inb_S1x8x256x256_S1x1x256x128_0_6_0_128), (k0_pay270 (d45_v693 x4 x5 x8 P) (d45_v695 x10) (View.ld x11 (.unit _ _ inb_S256x128_S256x128_0_0)))⟩, ⟨(.unit _ _ inb_S1x8x256x256_S1x1x256x128_0_6_0_0), (k0_pay267 (d37_v355 x4 x5 P) (View.ld x8 (.unit _ _ inb_S1x256_S1x128_0_0)))⟩, ⟨(.unit _ _ inb_S1x8x256x256_S1x1x256x128_0_5_0_128), (k0_pay263 (d44_v645 x4 x5 x8 x10 P) (d44_v656 x4 x5 x8 x11 P))⟩, ⟨(.unit _ _ inb_S1x8x256x256_S1x1x256x128_0_5_0_0), (k0_pay259 (d43_v611 x4 x5 P) (d43_v615 x4 x5 P) (d43_v616 x4 x5 P) (View.ld x8 (.unit _ _ inb_S1x256_S1x128_0_0)))⟩, ⟨(.unit _ _ inb_S1x8x256x256_S1x1x256x128_0_4_0_128), (k0_pay253 (d42_v561 x4 x5 P) (d42_v575 x4 x5 P) (View.ld x8 (.unit _ _ inb_S1x256_S1x128_0_128)) (View.ld x10 (.unit _ _ inb_S256x128_S256x128_0_0)) (View.ld x11 (.unit _ _ inb_S256x128_S256x128_0_0)))⟩, ⟨(.unit _ _ inb_S1x8x256x256_S1x1x256x128_0_4_0_0), (k0_pay252 (d42_v577 x4 x5 P) (View.ld x8 (.unit _ _ inb_S1x256_S1x128_0_0)))⟩, ⟨(.unit _ _ inb_S1x8x256x256_S1x1x256x128_0_3_0_128), (k0_pay247 (d41_v536 x4 x5 P) (d41_v538 x8) (View.ld x10 (.unit _ _ inb_S256x128_S256x128_0_0)) (View.ld x11 (.unit _ _ inb_S256x128_S256x128_0_0)))⟩, ⟨(.unit _ _ inb_S1x8x256x256_S1x1x256x128_0_3_0_0), (k0_pay244 (d37_v355 x4 x5 P) (View.ld x8 (.unit _ _ inb_S1x256_S1x128_0_0)))⟩, ⟨(.unit _ _ inb_S1x8x256x256_S1x1x256x128_0_2_0_128), (k0_pay240 (d40_v492 x4 x5 x8 x10 P) (d40_v494 x4 x5 x8 P) (d40_v495 x4 x5 x8 P) d40_v499 (View.ld x11 (.unit _ _ inb_S256x128_S256x128_0_0)))⟩, ⟨(.unit _ _ inb_S1x8x256x256_S1x1x256x128_0_2_0_0), (k0_pay234 (d39_v458 x4 x5 P) (d39_v459 x4 x5 P) (View.ld x8 (.unit _ _ inb_S1x256_S1x128_0_0)))⟩, ⟨(.unit _ _ inb_S1x8x256x256_S1x1x256x128_0_1_0_128), (k0_pay230 (d38_v408 x4 x5 P) (d38_v420 x4 x5 P) d38_v421 (View.ld x8 (.unit _ _ inb_S1x256_S1x128_0_128)) (View.ld x10 (.unit _ _ inb_S256x128_S256x128_0_0)) (View.ld x11 (.unit _ _ inb_S256x128_S256x128_0_0)))⟩, ⟨(.unit _ _ inb_S1x8x256x256_S1x1x256x128_0_1_0_0), (k0_pay229 (d38_v407 x4 x5 P) (d38_v420 x4 x5 P) d38_v421 (View.ld x8 (.unit _ _ inb_S1x256_S1x128_0_0)))⟩, ⟨(.unit _ _ inb_S1x8x256x256_S1x1x256x128_0_0_0_128), (k0_pay223 (d37_v357 x4 x5 P) (d37_v371 x4 x5 P) (View.ld x8 (.unit _ _ inb_S1x256_S1x128_0_128)) (View.ld x10 (.unit _ _ inb_S256x128_S256x128_0_0)) (View.ld x11 (.unit _ _ inb_S256x128_S256x128_0_0)))⟩, ⟨(.unit _ _ inb_S1x8x256x256_S1x1x256x128_0_0_0_0), (k0_pay222 (View.ld P (.unit _ _ inb_S256x2944_S256x512_0_0)) (d36_v339 x4) (View.ld x5 (.unit _ _ inb_S512x2048_S512x2048_0_0)) (View.ld x8 (.unit _ _ inb_S1x256_S1x128_0_0)))⟩]

/-- The keys finished from a projected tile, every head in its slot of 256 lanes. -/
def outK : Vec F S1x8x256x256 .bf16 :=
  View.canon [⟨(.unit _ _ inb_S1x8x256x256_S1x1x256x128_0_7_0_128), (k0_pay215 (d29_v65 x6 x7 P) (d29_v69 P) (d30_v88 x9 x10 x11 P))⟩, ⟨(.unit _ _ inb_S1x8x256x256_S1x1x256x128_0_7_0_0), (k0_pay214 (d29_v65 x6 x7 P) (d29_v69 P) (View.ld x9 (.unit _ _ inb_S1x256_S1x128_0_0)))⟩, ⟨(.unit _ _ inb_S1x8x256x256_S1x1x256x128_0_6_0_128), (k0_pay209 (d29_v65 x6 x7 P) (d29_v69 P) (d30_v88 x9 x10 x11 P))⟩, ⟨(.unit _ _ inb_S1x8x256x256_S1x1x256x128_0_6_0_0), (k0_pay208 (d29_v65 x6 x7 P) (d29_v69 P) (View.ld x9 (.unit _ _ inb_S1x256_S1x128_0_0)))⟩, ⟨(.unit _ _ inb_S1x8x256x256_S1x1x256x128_0_5_0_128), (d34_v269 x6 x7 x9 x10 x11 P)⟩, ⟨(.unit _ _ inb_S1x8x256x256_S1x1x256x128_0_5_0_0), (k0_pay203 (d29_v65 x6 x7 P) (d29_v69 P) (View.ld x9 (.unit _ _ inb_S1x256_S1x128_0_0)))⟩, ⟨(.unit _ _ inb_S1x8x256x256_S1x1x256x128_0_4_0_128), (k0_pay199 (d30_v88 x9 x10 x11 P) (d33_v233 x6 x7 P))⟩, ⟨(.unit _ _ inb_S1x8x256x256_S1x1x256x128_0_4_0_0), (k0_pay197 (d29_v65 x6 x7 P) (d29_v69 P) (View.ld x9 (.unit _ _ inb_S1x256_S1x128_0_0)))⟩, ⟨(.unit _ _ inb_S1x8x256x256_S1x1x256x128_0_3_0_128), (k0_pay193 (d30_v88 x9 x10 x11 P) (d32_v191 x6 x7 P))⟩, ⟨(.unit _ _ inb_S1x8x256x256_S1x1x256x128_0_3_0_0), (k0_pay192 (d32_v198 x6 x7 x9 P))⟩, ⟨(.unit _ _ inb_S1x8x256x256_S1x1x256x128_0_2_0_128), (k0_pay187 (d30_v88 x9 x10 x11 P) (d31_v160 x6 x7 P))⟩, ⟨(.unit _ _ inb_S1x8x256x256_S1x1x256x128_0_2_0_0), (k0_pay186 (d31_v151 x6 x7 P) (d31_v160 x6 x7 P) (View.ld x9 (.unit _ _ inb_S1x256_S1x128_0_0)))⟩, ⟨(.unit _ _ inb_S1x8x256x256_S1x1x256x128_0_1_0_128), (k0_pay182 (d29_v69 P) (d30_v88 x9 x10 x11 P) (d30_v122 x6 x7 P))⟩, ⟨(.unit _ _ inb_S1x8x256x256_S1x1x256x128_0_1_0_0), (k0_pay181 (d29_v69 P) (d30_v120 x6 x7 P) (d30_v122 x6 x7 P) (View.ld x9 (.unit _ _ inb_S1x256_S1x128_0_0)))⟩, ⟨(.unit _ _ inb_S1x8x256x256_S1x1x256x128_0_0_0_128), (k0_pay176 (d29_v65 x6 x7 P) (d29_v69 P) (d29_v76 x9 x10 P) (d29_v84 x9 P) (View.ld x11 (.unit _ _ inb_S256x128_S256x128_0_0)))⟩, ⟨(.unit _ _ inb_S1x8x256x256_S1x1x256x128_0_0_0_0), (k0_pay175 (d29_v65 x6 x7 P) (d29_v69 P) (View.ld x9 (.unit _ _ inb_S1x256_S1x128_0_0)))⟩]

/-- The values finished from a projected tile, head by head. -/
def outV : Vec F S1x8x256x128 .bf16 :=
  View.canon [⟨(.unit _ _ inb_S1x8x256x128_S1x1x256x128_0_7_0_0), (k0_pay216 (d29_v65 x6 x7 P))⟩, ⟨(.unit _ _ inb_S1x8x256x128_S1x1x256x128_0_6_0_0), (k0_pay211 (d35_v302 x6 x7 P))⟩, ⟨(.unit _ _ inb_S1x8x256x128_S1x1x256x128_0_5_0_0), (k0_pay205 (d29_v65 x6 x7 P))⟩, ⟨(.unit _ _ inb_S1x8x256x128_S1x1x256x128_0_4_0_0), (k0_pay200 (d29_v65 x6 x7 P))⟩, ⟨(.unit _ _ inb_S1x8x256x128_S1x1x256x128_0_3_0_0), (k0_pay194 (d29_v65 x6 x7 P))⟩, ⟨(.unit _ _ inb_S1x8x256x128_S1x1x256x128_0_2_0_0), (k0_pay188 (d29_v65 x6 x7 P))⟩, ⟨(.unit _ _ inb_S1x8x256x128_S1x1x256x128_0_1_0_0), (k0_pay183 (d29_v65 x6 x7 P))⟩, ⟨(.unit _ _ inb_S1x8x256x128_S1x1x256x128_0_0_0_0), (k0_pay177 (d29_v65 x6 x7 P))⟩]

/-- The gate that multiplies the convolution, read off a projected tile. -/
def outGb : Vec F S1x256x512 .bf16 :=
  View.canon [⟨(.unit _ _ inb_S1x256x512_S1x256x512_0_0_0), (k0_pay277 (View.ld P (.unit _ _ inb_S256x2944_S256x512_0_768)))⟩]

/-- The gated input of the convolution: the product of two column ranges of a projected tile. -/
def outG : Vec F S1x256x512 .bf16 :=
  View.canon [⟨(.unit _ _ inb_S1x256x512_S1x256x512_0_0_0), (k0_pay278 (View.ld P (.unit _ _ inb_S256x2944_S256x512_0_1280)) (View.ld P (.unit _ _ inb_S256x2944_S256x512_0_1792)))⟩]

/-- The transforms along the channels of each Fourier group, cosine and sine parts, rows split by parity. -/
def outFab : Vec F S1x2x2x128x512 .bf16 :=
  View.canon [⟨(.unit _ _ inb_S1x2x2x128x512_S1x1x1x128x128_0_1_1_0_384), (k0_pay614 (db3_v918 x12 P))⟩, ⟨(.unit _ _ inb_S1x2x2x128x512_S1x1x1x128x128_0_1_0_0_384), (k0_pay613 (d53_v914 x12 P))⟩, ⟨(.unit _ _ inb_S1x2x2x128x512_S1x1x1x128x128_0_0_1_0_384), (k0_pay305 (dp53_v902 x12 P))⟩, ⟨(.unit _ _ inb_S1x2x2x128x512_S1x1x1x128x128_0_0_0_0_384), (k0_pay304 (d52_v898 x12 P))⟩, ⟨(.unit _ _ inb_S1x2x2x128x512_S1x1x1x128x128_0_1_1_0_256), (k0_pay300 (dp52_v881 x12 P))⟩, ⟨(.unit _ _ inb_S1x2x2x128x512_S1x1x1x128x128_0_1_0_0_256), (k0_pay299 (dp52_v875 x12 P))⟩, ⟨(.unit _ _ inb_S1x2x2x128x512_S1x1x1x128x128_0_0_1_0_256), (k0_pay297 (dp51_v865 x12 P))⟩, ⟨(.unit _ _ inb_S1x2x2x128x512_S1x1x1x128x128_0_0_0_0_256), (k0_pay296 (dp51_v859 x12 P))⟩, ⟨(.unit _ _ inb_S1x2x2x128x512_S1x1x1x128x128_0_1_1_0_128), (k0_pay293 (d50_v846 x12 P))⟩, ⟨(.unit _ _ inb_S1x2x2x128x512_S1x1x1x128x128_0_1_0_0_128), (k0_pay291 (dp50_v838 x12 P))⟩, ⟨(.unit _ _ inb_S1x2x2x128x512_S1x1x1x128x128_0_0_1_0_128), (k0_pay289 (dp50_v828 x12 P))⟩, ⟨(.unit _ _ inb_S1x2x2x128x512_S1x1x1x128x128_0_0_0_0_128), (k0_pay288 (dp49_v822 x12 P))⟩, ⟨(.unit _ _ inb_S1x2x2x128x512_S1x1x1x128x128_0_1_1_0_0), (k0_pay285 (dp49_v807 x12 P))⟩, ⟨(.unit _ _ inb_S1x2x2x128x512_S1x1x1x128x128_0_1_0_0_0), (k0_pay284 (dp49_v801 x12 P))⟩, ⟨(.unit _ _ inb_S1x2x2x128x512_S1x1x1x128x128_0_0_1_0_0), (k0_pay282 (dp48_v791 x12 P))⟩, ⟨(.unit _ _ inb_S1x2x2x128x512_S1x1x1x128x128_0_0_0_0_0), (k0_pay281 (dp48_v785 x12 P))⟩]

/-- The column blocks stored of the projected tile cover it. -/
theorem coverP (p0 : Vec F S256x384 .f32) (p1 : Vec F S256x512 .f32) (p2 : Vec F S256x512 .f32) (p3 : Vec F S256x512 .f32) (p4 : Vec F S256x512 .f32) (p5 : Vec F S256x512 .f32) (y : S256x2944.Idx) :
    ∃ pc ∈ ([⟨(.unit _ _ inb_S256x2944_S256x384_0_2560), p0⟩, ⟨(.unit _ _ inb_S256x2944_S256x512_0_2048), p1⟩, ⟨(.unit _ _ inb_S256x2944_S256x512_0_1536), p2⟩, ⟨(.unit _ _ inb_S256x2944_S256x512_0_1024), p3⟩, ⟨(.unit _ _ inb_S256x2944_S256x512_0_512), p4⟩, ⟨(.unit _ _ inb_S256x2944_S256x512_0_0), p5⟩] : List (View.Piece (Elt F) S256x2944 .f32)), y ∈ pc.1.set :=
  by
  have h1 : (y 1).val < 2944 := (y 1).isLt
  have h0 : (y 0).val < 256 := (y 0).isLt
  by_cases g0 : 2560 ≤ (y 1).val
  · exact ⟨⟨(.unit _ _ inb_S256x2944_S256x384_0_2560), p0⟩, (.head _), (Rect.mem_set_unit (inb := inb_S256x2944_S256x384_0_2560)).mpr (Fin.forall_fin_two.mpr ⟨⟨Nat.zero_le _, h0⟩, ⟨g0, (by omega : (y 1).val < 2560 + 384)⟩⟩)⟩
  by_cases g1 : 2048 ≤ (y 1).val
  · exact ⟨⟨(.unit _ _ inb_S256x2944_S256x512_0_2048), p1⟩, (.tail _ (.head _)), (Rect.mem_set_unit (inb := inb_S256x2944_S256x512_0_2048)).mpr (Fin.forall_fin_two.mpr ⟨⟨Nat.zero_le _, h0⟩, ⟨g1, (by omega : (y 1).val < 2048 + 512)⟩⟩)⟩
  by_cases g2 : 1536 ≤ (y 1).val
  · exact ⟨⟨(.unit _ _ inb_S256x2944_S256x512_0_1536), p2⟩, (.tail _ (.tail _ (.head _))), (Rect.mem_set_unit (inb := inb_S256x2944_S256x512_0_1536)).mpr (Fin.forall_fin_two.mpr ⟨⟨Nat.zero_le _, h0⟩, ⟨g2, (by omega : (y 1).val < 1536 + 512)⟩⟩)⟩
  by_cases g3 : 1024 ≤ (y 1).val
  · exact ⟨⟨(.unit _ _ inb_S256x2944_S256x512_0_1024), p3⟩, (.tail _ (.tail _ (.tail _ (.head _)))), (Rect.mem_set_unit (inb := inb_S256x2944_S256x512_0_1024)).mpr (Fin.forall_fin_two.mpr ⟨⟨Nat.zero_le _, h0⟩, ⟨g3, (by omega : (y 1).val < 1024 + 512)⟩⟩)⟩
  by_cases g4 : 512 ≤ (y 1).val
  · exact ⟨⟨(.unit _ _ inb_S256x2944_S256x512_0_512), p4⟩, (.tail _ (.tail _ (.tail _ (.tail _ (.head _))))), (Rect.mem_set_unit (inb := inb_S256x2944_S256x512_0_512)).mpr (Fin.forall_fin_two.mpr ⟨⟨Nat.zero_le _, h0⟩, ⟨g4, (by omega : (y 1).val < 512 + 512)⟩⟩)⟩
  exact ⟨⟨(.unit _ _ inb_S256x2944_S256x512_0_0), p5⟩, (.tail _ (.tail _ (.tail _ (.tail _ (.tail _ (.head _)))))), (Rect.mem_set_unit (inb := inb_S256x2944_S256x512_0_0)).mpr (Fin.forall_fin_two.mpr ⟨⟨Nat.zero_le _, h0⟩, ⟨Nat.zero_le _, (by omega : (y 1).val < 0 + 512)⟩⟩)⟩

/-- The query heads stored cover the block of queries. -/
theorem coverQ (p0 : Vec F S1x1x256x128 .bf16) (p1 : Vec F S1x1x256x128 .bf16) (p2 : Vec F S1x1x256x128 .bf16) (p3 : Vec F S1x1x256x128 .bf16) (p4 : Vec F S1x1x256x128 .bf16) (p5 : Vec F S1x1x256x128 .bf16) (p6 : Vec F S1x1x256x128 .bf16) (p7 : Vec F S1x1x256x128 .bf16) (p8 : Vec F S1x1x256x128 .bf16) (p9 : Vec F S1x1x256x128 .bf16) (p10 : Vec F S1x1x256x128 .bf16) (p11 : Vec F S1x1x256x128 .bf16) (p12 : Vec F S1x1x256x128 .bf16) (p13 : Vec F S1x1x256x128 .bf16) (p14 : Vec F S1x1x256x128 .bf16) (p15 : Vec F S1x1x256x128 .bf16) (y : S1x8x256x256.Idx) :
    ∃ pc ∈ ([⟨(.unit _ _ inb_S1x8x256x256_S1x1x256x128_0_7_0_128), p0⟩, ⟨(.unit _ _ inb_S1x8x256x256_S1x1x256x128_0_7_0_0), p1⟩, ⟨(.unit _ _ inb_S1x8x256x256_S1x1x256x128_0_6_0_128), p2⟩, ⟨(.unit _ _ inb_S1x8x256x256_S1x1x256x128_0_6_0_0), p3⟩, ⟨(.unit _ _ inb_S1x8x256x256_S1x1x256x128_0_5_0_128), p4⟩, ⟨(.unit _ _ inb_S1x8x256x256_S1x1x256x128_0_5_0_0), p5⟩, ⟨(.unit _ _ inb_S1x8x256x256_S1x1x256x128_0_4_0_128), p6⟩, ⟨(.unit _ _ inb_S1x8x256x256_S1x1x256x128_0_4_0_0), p7⟩, ⟨(.unit _ _ inb_S1x8x256x256_S1x1x256x128_0_3_0_128), p8⟩, ⟨(.unit _ _ inb_S1x8x256x256_S1x1x256x128_0_3_0_0), p9⟩, ⟨(.unit _ _ inb_S1x8x256x256_S1x1x256x128_0_2_0_128), p10⟩, ⟨(.unit _ _ inb_S1x8x256x256_S1x1x256x128_0_2_0_0), p11⟩, ⟨(.unit _ _ inb_S1x8x256x256_S1x1x256x128_0_1_0_128), p12⟩, ⟨(.unit _ _ inb_S1x8x256x256_S1x1x256x128_0_1_0_0), p13⟩, ⟨(.unit _ _ inb_S1x8x256x256_S1x1x256x128_0_0_0_128), p14⟩, ⟨(.unit _ _ inb_S1x8x256x256_S1x1x256x128_0_0_0_0), p15⟩] : List (View.Piece (Elt F) S1x8x256x256 .bf16)), y ∈ pc.1.set :=
  View.cover_of_tiled [⟨(.unit _ _ inb_S1x8x256x256_S1x1x256x128_0_7_0_128), p0⟩, ⟨(.unit _ _ inb_S1x8x256x256_S1x1x256x128_0_7_0_0), p1⟩, ⟨(.unit _ _ inb_S1x8x256x256_S1x1x256x128_0_6_0_128), p2⟩, ⟨(.unit _ _ inb_S1x8x256x256_S1x1x256x128_0_6_0_0), p3⟩, ⟨(.unit _ _ inb_S1x8x256x256_S1x1x256x128_0_5_0_128), p4⟩, ⟨(.unit _ _ inb_S1x8x256x256_S1x1x256x128_0_5_0_0), p5⟩, ⟨(.unit _ _ inb_S1x8x256x256_S1x1x256x128_0_4_0_128), p6⟩, ⟨(.unit _ _ inb_S1x8x256x256_S1x1x256x128_0_4_0_0), p7⟩, ⟨(.unit _ _ inb_S1x8x256x256_S1x1x256x128_0_3_0_128), p8⟩, ⟨(.unit _ _ inb_S1x8x256x256_S1x1x256x128_0_3_0_0), p9⟩, ⟨(.unit _ _ inb_S1x8x256x256_S1x1x256x128_0_2_0_128), p10⟩, ⟨(.unit _ _ inb_S1x8x256x256_S1x1x256x128_0_2_0_0), p11⟩, ⟨(.unit _ _ inb_S1x8x256x256_S1x1x256x128_0_1_0_128), p12⟩, ⟨(.unit _ _ inb_S1x8x256x256_S1x1x256x128_0_1_0_0), p13⟩, ⟨(.unit _ _ inb_S1x8x256x256_S1x1x256x128_0_0_0_128), p14⟩, ⟨(.unit _ _ inb_S1x8x256x256_S1x1x256x128_0_0_0_0), p15⟩] ![1, 1, 256, 128] (by rfl) y
/-- The key heads stored cover the block of keys. -/
theorem coverK (p0 : Vec F S1x1x256x128 .bf16) (p1 : Vec F S1x1x256x128 .bf16) (p2 : Vec F S1x1x256x128 .bf16) (p3 : Vec F S1x1x256x128 .bf16) (p4 : Vec F S1x1x256x128 .bf16) (p5 : Vec F S1x1x256x128 .bf16) (p6 : Vec F S1x1x256x128 .bf16) (p7 : Vec F S1x1x256x128 .bf16) (p8 : Vec F S1x1x256x128 .bf16) (p9 : Vec F S1x1x256x128 .bf16) (p10 : Vec F S1x1x256x128 .bf16) (p11 : Vec F S1x1x256x128 .bf16) (p12 : Vec F S1x1x256x128 .bf16) (p13 : Vec F S1x1x256x128 .bf16) (p14 : Vec F S1x1x256x128 .bf16) (p15 : Vec F S1x1x256x128 .bf16) (y : S1x8x256x256.Idx) :
    ∃ pc ∈ ([⟨(.unit _ _ inb_S1x8x256x256_S1x1x256x128_0_7_0_128), p0⟩, ⟨(.unit _ _ inb_S1x8x256x256_S1x1x256x128_0_7_0_0), p1⟩, ⟨(.unit _ _ inb_S1x8x256x256_S1x1x256x128_0_6_0_128), p2⟩, ⟨(.unit _ _ inb_S1x8x256x256_S1x1x256x128_0_6_0_0), p3⟩, ⟨(.unit _ _ inb_S1x8x256x256_S1x1x256x128_0_5_0_128), p4⟩, ⟨(.unit _ _ inb_S1x8x256x256_S1x1x256x128_0_5_0_0), p5⟩, ⟨(.unit _ _ inb_S1x8x256x256_S1x1x256x128_0_4_0_128), p6⟩, ⟨(.unit _ _ inb_S1x8x256x256_S1x1x256x128_0_4_0_0), p7⟩, ⟨(.unit _ _ inb_S1x8x256x256_S1x1x256x128_0_3_0_128), p8⟩, ⟨(.unit _ _ inb_S1x8x256x256_S1x1x256x128_0_3_0_0), p9⟩, ⟨(.unit _ _ inb_S1x8x256x256_S1x1x256x128_0_2_0_128), p10⟩, ⟨(.unit _ _ inb_S1x8x256x256_S1x1x256x128_0_2_0_0), p11⟩, ⟨(.unit _ _ inb_S1x8x256x256_S1x1x256x128_0_1_0_128), p12⟩, ⟨(.unit _ _ inb_S1x8x256x256_S1x1x256x128_0_1_0_0), p13⟩, ⟨(.unit _ _ inb_S1x8x256x256_S1x1x256x128_0_0_0_128), p14⟩, ⟨(.unit _ _ inb_S1x8x256x256_S1x1x256x128_0_0_0_0), p15⟩] : List (View.Piece (Elt F) S1x8x256x256 .bf16)), y ∈ pc.1.set :=
  View.cover_of_tiled [⟨(.unit _ _ inb_S1x8x256x256_S1x1x256x128_0_7_0_128), p0⟩, ⟨(.unit _ _ inb_S1x8x256x256_S1x1x256x128_0_7_0_0), p1⟩, ⟨(.unit _ _ inb_S1x8x256x256_S1x1x256x128_0_6_0_128), p2⟩, ⟨(.unit _ _ inb_S1x8x256x256_S1x1x256x128_0_6_0_0), p3⟩, ⟨(.unit _ _ inb_S1x8x256x256_S1x1x256x128_0_5_0_128), p4⟩, ⟨(.unit _ _ inb_S1x8x256x256_S1x1x256x128_0_5_0_0), p5⟩, ⟨(.unit _ _ inb_S1x8x256x256_S1x1x256x128_0_4_0_128), p6⟩, ⟨(.unit _ _ inb_S1x8x256x256_S1x1x256x128_0_4_0_0), p7⟩, ⟨(.unit _ _ inb_S1x8x256x256_S1x1x256x128_0_3_0_128), p8⟩, ⟨(.unit _ _ inb_S1x8x256x256_S1x1x256x128_0_3_0_0), p9⟩, ⟨(.unit _ _ inb_S1x8x256x256_S1x1x256x128_0_2_0_128), p10⟩, ⟨(.unit _ _ inb_S1x8x256x256_S1x1x256x128_0_2_0_0), p11⟩, ⟨(.unit _ _ inb_S1x8x256x256_S1x1x256x128_0_1_0_128), p12⟩, ⟨(.unit _ _ inb_S1x8x256x256_S1x1x256x128_0_1_0_0), p13⟩, ⟨(.unit _ _ inb_S1x8x256x256_S1x1x256x128_0_0_0_128), p14⟩, ⟨(.unit _ _ inb_S1x8x256x256_S1x1x256x128_0_0_0_0), p15⟩] ![1, 1, 256, 128] (by rfl) y
/-- The value heads stored cover the block of values. -/
theorem coverV (p0 : Vec F S1x1x256x128 .bf16) (p1 : Vec F S1x1x256x128 .bf16) (p2 : Vec F S1x1x256x128 .bf16) (p3 : Vec F S1x1x256x128 .bf16) (p4 : Vec F S1x1x256x128 .bf16) (p5 : Vec F S1x1x256x128 .bf16) (p6 : Vec F S1x1x256x128 .bf16) (p7 : Vec F S1x1x256x128 .bf16) (y : S1x8x256x128.Idx) :
    ∃ pc ∈ ([⟨(.unit _ _ inb_S1x8x256x128_S1x1x256x128_0_7_0_0), p0⟩, ⟨(.unit _ _ inb_S1x8x256x128_S1x1x256x128_0_6_0_0), p1⟩, ⟨(.unit _ _ inb_S1x8x256x128_S1x1x256x128_0_5_0_0), p2⟩, ⟨(.unit _ _ inb_S1x8x256x128_S1x1x256x128_0_4_0_0), p3⟩, ⟨(.unit _ _ inb_S1x8x256x128_S1x1x256x128_0_3_0_0), p4⟩, ⟨(.unit _ _ inb_S1x8x256x128_S1x1x256x128_0_2_0_0), p5⟩, ⟨(.unit _ _ inb_S1x8x256x128_S1x1x256x128_0_1_0_0), p6⟩, ⟨(.unit _ _ inb_S1x8x256x128_S1x1x256x128_0_0_0_0), p7⟩] : List (View.Piece (Elt F) S1x8x256x128 .bf16)), y ∈ pc.1.set :=
  View.cover_of_tiled [⟨(.unit _ _ inb_S1x8x256x128_S1x1x256x128_0_7_0_0), p0⟩, ⟨(.unit _ _ inb_S1x8x256x128_S1x1x256x128_0_6_0_0), p1⟩, ⟨(.unit _ _ inb_S1x8x256x128_S1x1x256x128_0_5_0_0), p2⟩, ⟨(.unit _ _ inb_S1x8x256x128_S1x1x256x128_0_4_0_0), p3⟩, ⟨(.unit _ _ inb_S1x8x256x128_S1x1x256x128_0_3_0_0), p4⟩, ⟨(.unit _ _ inb_S1x8x256x128_S1x1x256x128_0_2_0_0), p5⟩, ⟨(.unit _ _ inb_S1x8x256x128_S1x1x256x128_0_1_0_0), p6⟩, ⟨(.unit _ _ inb_S1x8x256x128_S1x1x256x128_0_0_0_0), p7⟩] ![1, 1, 256, 128] (by rfl) y
/-- The one store of the gate covers its block. -/
theorem coverGb (p0 : Vec F S1x256x512 .bf16) (y : S1x256x512.Idx) :
    ∃ pc ∈ ([⟨(.unit _ _ inb_S1x256x512_S1x256x512_0_0_0), p0⟩] : List (View.Piece (Elt F) S1x256x512 .bf16)), y ∈ pc.1.set :=
  View.cover_of_tiled [⟨(.unit _ _ inb_S1x256x512_S1x256x512_0_0_0), p0⟩] ![1, 256, 512] (by rfl) y
/-- The one store of the gated product covers its block. -/
theorem coverG (p0 : Vec F S1x256x512 .bf16) (y : S1x256x512.Idx) :
    ∃ pc ∈ ([⟨(.unit _ _ inb_S1x256x512_S1x256x512_0_0_0), p0⟩] : List (View.Piece (Elt F) S1x256x512 .bf16)), y ∈ pc.1.set :=
  View.cover_of_tiled [⟨(.unit _ _ inb_S1x256x512_S1x256x512_0_0_0), p0⟩] ![1, 256, 512] (by rfl) y
/-- The group transforms stored cover their block. -/
theorem coverFab (p0 : Vec F S1x1x1x128x128 .bf16) (p1 : Vec F S1x1x1x128x128 .bf16) (p2 : Vec F S1x1x1x128x128 .bf16) (p3 : Vec F S1x1x1x128x128 .bf16) (p4 : Vec F S1x1x1x128x128 .bf16) (p5 : Vec F S1x1x1x128x128 .bf16) (p6 : Vec F S1x1x1x128x128 .bf16) (p7 : Vec F S1x1x1x128x128 .bf16) (p8 : Vec F S1x1x1x128x128 .bf16) (p9 : Vec F S1x1x1x128x128 .bf16) (p10 : Vec F S1x1x1x128x128 .bf16) (p11 : Vec F S1x1x1x128x128 .bf16) (p12 : Vec F S1x1x1x128x128 .bf16) (p13 : Vec F S1x1x1x128x128 .bf16) (p14 : Vec F S1x1x1x128x128 .bf16) (p15 : Vec F S1x1x1x128x128 .bf16) (y : S1x2x2x128x512.Idx) :
    ∃ pc ∈ ([⟨(.unit _ _ inb_S1x2x2x128x512_S1x1x1x128x128_0_1_1_0_384), p0⟩, ⟨(.unit _ _ inb_S1x2x2x128x512_S1x1x1x128x128_0_1_0_0_384), p1⟩, ⟨(.unit _ _ inb_S1x2x2x128x512_S1x1x1x128x128_0_0_1_0_384), p2⟩, ⟨(.unit _ _ inb_S1x2x2x128x512_S1x1x1x128x128_0_0_0_0_384), p3⟩, ⟨(.unit _ _ inb_S1x2x2x128x512_S1x1x1x128x128_0_1_1_0_256), p4⟩, ⟨(.unit _ _ inb_S1x2x2x128x512_S1x1x1x128x128_0_1_0_0_256), p5⟩, ⟨(.unit _ _ inb_S1x2x2x128x512_S1x1x1x128x128_0_0_1_0_256), p6⟩, ⟨(.unit _ _ inb_S1x2x2x128x512_S1x1x1x128x128_0_0_0_0_256), p7⟩, ⟨(.unit _ _ inb_S1x2x2x128x512_S1x1x1x128x128_0_1_1_0_128), p8⟩, ⟨(.unit _ _ inb_S1x2x2x128x512_S1x1x1x128x128_0_1_0_0_128), p9⟩, ⟨(.unit _ _ inb_S1x2x2x128x512_S1x1x1x128x128_0_0_1_0_128), p10⟩, ⟨(.unit _ _ inb_S1x2x2x128x512_S1x1x1x128x128_0_0_0_0_128), p11⟩, ⟨(.unit _ _ inb_S1x2x2x128x512_S1x1x1x128x128_0_1_1_0_0), p12⟩, ⟨(.unit _ _ inb_S1x2x2x128x512_S1x1x1x128x128_0_1_0_0_0), p13⟩, ⟨(.unit _ _ inb_S1x2x2x128x512_S1x1x1x128x128_0_0_1_0_0), p14⟩, ⟨(.unit _ _ inb_S1x2x2x128x512_S1x1x1x128x128_0_0_0_0_0), p15⟩] : List (View.Piece (Elt F) S1x2x2x128x512 .bf16)), y ∈ pc.1.set :=
  View.cover_of_tiled [⟨(.unit _ _ inb_S1x2x2x128x512_S1x1x1x128x128_0_1_1_0_384), p0⟩, ⟨(.unit _ _ inb_S1x2x2x128x512_S1x1x1x128x128_0_1_0_0_384), p1⟩, ⟨(.unit _ _ inb_S1x2x2x128x512_S1x1x1x128x128_0_0_1_0_384), p2⟩, ⟨(.unit _ _ inb_S1x2x2x128x512_S1x1x1x128x128_0_0_0_0_384), p3⟩, ⟨(.unit _ _ inb_S1x2x2x128x512_S1x1x1x128x128_0_1_1_0_256), p4⟩, ⟨(.unit _ _ inb_S1x2x2x128x512_S1x1x1x128x128_0_1_0_0_256), p5⟩, ⟨(.unit _ _ inb_S1x2x2x128x512_S1x1x1x128x128_0_0_1_0_256), p6⟩, ⟨(.unit _ _ inb_S1x2x2x128x512_S1x1x1x128x128_0_0_0_0_256), p7⟩, ⟨(.unit _ _ inb_S1x2x2x128x512_S1x1x1x128x128_0_1_1_0_128), p8⟩, ⟨(.unit _ _ inb_S1x2x2x128x512_S1x1x1x128x128_0_1_0_0_128), p9⟩, ⟨(.unit _ _ inb_S1x2x2x128x512_S1x1x1x128x128_0_0_1_0_128), p10⟩, ⟨(.unit _ _ inb_S1x2x2x128x512_S1x1x1x128x128_0_0_0_0_128), p11⟩, ⟨(.unit _ _ inb_S1x2x2x128x512_S1x1x1x128x128_0_1_1_0_0), p12⟩, ⟨(.unit _ _ inb_S1x2x2x128x512_S1x1x1x128x128_0_1_0_0_0), p13⟩, ⟨(.unit _ _ inb_S1x2x2x128x512_S1x1x1x128x128_0_0_1_0_0), p14⟩, ⟨(.unit _ _ inb_S1x2x2x128x512_S1x1x1x128x128_0_0_0_0_0), p15⟩] ![1, 1, 1, 128, 128] (by rfl) y

end Cert.Kernel2Ideal.Gen

end
-- ==== Proof.Tile2.lean ====
/- What one grid point of the input projection leaves, read at an index. -/
module

public import proofs.«01_k».proof.Proof.Stage2i
public import proofs.«01_k».proof.Proof.Norm
public import Idealize.ShloMosaic.Lib.Pointwise
public import Idealize.ShloMosaic.Lib.Pipeline.ValueKit

@[expose] public section

set_option maxRecDepth 65536

noncomputable section

namespace Cert.Proof.InputProjection

open Idealize.ShloMosaic Cert.Kernel2Ideal Cert.Kernel2Ideal.Gen

/-- The queries' products of a tile, before they are normed. -/
theorem qraw_at (x4 : Vec Ideal S1x512 .f32) (x5 : Vec Ideal S512x2048 .bf16) (P : Vec Ideal S256x2944 .f32) (r : Fin 256) (c : Fin 2048) :
    d37_v355 x4 x5 P (ix2 r c) = ∑ k : Fin 512, normed (Ideal.ofBits .f32 0x44000000#32) (fun k : Fin 512 => P (ix2 r ⟨k.val, by omega⟩)) (fun k => x4 (ix2 0 k)) k * x5 (ix2 k c) := by
  unfold d37_v355 d36_v339
  unfold_payloads
  pointwise [normed, eps]

/-- The keys' and values' products of a tile, before they are normed. -/
theorem kvraw_at (x6 : Vec Ideal S1x256 .f32) (x7 : Vec Ideal S256x2048 .bf16) (P : Vec Ideal S256x2944 .f32) (r : Fin 256) (c : Fin 2048) :
    d29_v65 x6 x7 P (ix2 r c) = ∑ k : Fin 256, normed (Ideal.ofBits .f32 0x43800000#32) (fun k : Fin 256 => P (ix2 r ⟨512 + k.val, by omega⟩)) (fun k => x6 (ix2 0 k)) k * x7 (ix2 k c) := by
  unfold d29_v65
  unfold_payloads
  pointwise [normed, eps]

/-- The modulated tile. -/
theorem mod_at (x0 : Vec Ideal S1x256x2048 .f32) (x1 : Vec Ideal S1x6x2048 .f32) (x2 : Vec Ideal S1x2048 .f32) (r : Fin 256) (k : Fin 2048) :
    f28_v73 x0 x1 x2 (ix2 r k) = normed (Ideal.ofBits .f32 0x45000000#32) (fun k => x0 (ix3 0 r k)) (fun k => x2 (ix2 0 k)) k
      * (Ideal.ofBits .f32 0x3F800000#32 + x1 (ix3 0 1 k)) + x1 (ix3 0 0 k) := by
  unfold f28_v73
  unfold_payloads
  pointwise [normed, eps]

/-- The projected tile. -/
theorem outP_at (x0 : Vec Ideal S1x256x2048 .f32) (x1 : Vec Ideal S1x6x2048 .f32) (x2 : Vec Ideal S1x2048 .f32) (x3 : Vec Ideal S2048x2944 .bf16)
    (r : Fin 256) (j : Fin 2944) :
    outP x0 x1 x2 x3 (ix2 r j) = ∑ k : Fin 2048, f28_v73 x0 x1 x2 (ix2 r k) * x3 (ix2 k j) := by
  simp only [mod_at]
  unfold outP f28_v82
  canon_tiles x hx using coverP _ _ _ _ _ _ (ix2 r j)
  all_goals
    idx_vars x
    unfold_payloads
    pointwise [mod_at, normed, eps]
    blk_point []

/-- The first named constant's value, -/
theorem inv_head_eq : Named.named (F := Ideal) κ "inv_head" (φ := .f32) 0x3BAAAAAB#32 = ((1 / 192 : ℝ) : EReal) := rfl

/-- and the second's. -/
theorem q_scale_eq : Named.named (F := Ideal) κ "q_scale" (φ := .f32) 0x3DD53B95#32 = qScale := rfl

/-- A tile's queries, the first 128 lanes. -/
theorem outQ_lo (x4 : Vec Ideal S1x512 .f32) (x5 : Vec Ideal S512x2048 .bf16) (x8 : Vec Ideal S1x256 .f32) (x10 x11 : Vec Ideal S256x128 .f32)
    (P : Vec Ideal S256x2944 .f32) (h : Fin 8) (r : Fin 256) (d : Fin 128) :
    outQ x4 x5 x8 x10 x11 P (ix4 0 h r ⟨d.val, by omega⟩)
      = d37_v355 x4 x5 P (ix2 r ⟨256 * h.val + d.val, by omega⟩)
        * (headScale (fun e => d37_v355 x4 x5 P (ix2 r ⟨256 * h.val + e.val, by omega⟩)) (fun e => d37_v355 x4 x5 P (ix2 r ⟨256 * h.val + (128 + e.val), by omega⟩))
          * qScale) * x8 (ix2 0 ⟨d.val, by omega⟩) := by
  unfold outQ
  canon_tiles x hx using coverQ _ _ _ _ _ _ _ _ _ _ _ _ _ _ _ _ (ix4 0 h r ⟨d.val, by omega⟩)
  all_goals
    idx_vars x
    first
    | exfalso; omega
    | simp only [headScale, eps, normed, qraw_at, d36_v339, d37_v357, d37_v371, d38_v407, d38_v408, d38_v420, d38_v421, d39_v458, d39_v459, d40_v492, d40_v494, d40_v495, d40_v499, d41_v536, d41_v538, d42_v561, d42_v575, d42_v577, d43_v611, d43_v612, d43_v615, d43_v616, d44_v645, d44_v656, d45_v693, d45_v695, d46_v714, d46_v728, d46_v735]
      unfold_payloads
      pointwise [qraw_at, normed, eps, inv_head_eq, q_scale_eq]
      blk_point []

/-- A tile's queries, the last 128 lanes. -/
theorem outQ_hi (x4 : Vec Ideal S1x512 .f32) (x5 : Vec Ideal S512x2048 .bf16) (x8 : Vec Ideal S1x256 .f32) (x10 x11 : Vec Ideal S256x128 .f32)
    (P : Vec Ideal S256x2944 .f32) (h : Fin 8) (r : Fin 256) (d : Fin 128) :
    outQ x4 x5 x8 x10 x11 P (ix4 0 h r ⟨128 + d.val, by omega⟩)
      = turned (fun i => d37_v355 x4 x5 P (ix2 r ⟨256 * h.val + (128 + i.val), by omega⟩)
        * (headScale (fun e => d37_v355 x4 x5 P (ix2 r ⟨256 * h.val + e.val, by omega⟩)) (fun e => d37_v355 x4 x5 P (ix2 r ⟨256 * h.val + (128 + e.val), by omega⟩))
          * qScale) * x8 (ix2 0 ⟨128 + i.val, by omega⟩)) (fun i => x10 (ix2 r i)) (fun i => x11 (ix2 r i)) d := by
  unfold outQ
  canon_tiles x hx using coverQ _ _ _ _ _ _ _ _ _ _ _ _ _ _ _ _ (ix4 0 h r ⟨128 + d.val, by omega⟩)
  all_goals
    idx_vars x
    first
    | exfalso; omega
    | obtain rfl : x3 = d := Fin.ext (by omega)
      obtain rfl : x2 = r := Fin.ext (by omega)
      simp only [turned, headScale, eps, normed, qraw_at, d36_v339, d37_v357, d37_v371, d38_v407, d38_v408, d38_v420, d38_v421, d39_v458, d39_v459, d40_v492, d40_v494, d40_v495, d40_v499, d41_v536, d41_v538, d42_v561, d42_v575, d42_v577, d43_v611, d43_v612, d43_v615, d43_v616, d44_v645, d44_v656, d45_v693, d45_v695, d46_v714, d46_v728, d46_v735]
      unfold_payloads
      pointwise [qraw_at, normed, eps, inv_head_eq, q_scale_eq]
      blk_point []

/-- A tile's keys, the first 128 lanes. -/
theorem outK_lo (x6 : Vec Ideal S1x256 .f32) (x7 : Vec Ideal S256x2048 .bf16) (x9 : Vec Ideal S1x256 .f32) (x10 x11 : Vec Ideal S256x128 .f32)
    (P : Vec Ideal S256x2944 .f32) (h : Fin 8) (r : Fin 256) (d : Fin 128) :
    outK x6 x7 x9 x10 x11 P (ix4 0 h r ⟨d.val, by omega⟩)
      = d29_v65 x6 x7 P (ix2 r ⟨128 * h.val + d.val, by omega⟩)
        * headScale (fun e => d29_v65 x6 x7 P (ix2 r ⟨128 * h.val + e.val, by omega⟩)) (fun e => P (ix2 r ⟨2816 + e.val, by omega⟩))
        * x9 (ix2 0 ⟨d.val, by omega⟩) := by
  unfold outK
  canon_tiles x hx using coverK _ _ _ _ _ _ _ _ _ _ _ _ _ _ _ _ (ix4 0 h r ⟨d.val, by omega⟩)
  all_goals
    idx_vars x
    first
    | exfalso; omega
    | simp only [headScale, eps, normed, kvraw_at, d29_v69, d29_v76, d29_v84, d30_v120, d30_v122, d30_v88, d31_v151, d31_v160, d32_v191, d32_v198, d33_v233, d34_v269]
      unfold_payloads
      pointwise [kvraw_at, normed, eps, inv_head_eq]
      blk_point []

/-- A tile's keys, the last 128 lanes. -/
theorem outK_hi (x6 : Vec Ideal S1x256 .f32) (x7 : Vec Ideal S256x2048 .bf16) (x9 : Vec Ideal S1x256 .f32) (x10 x11 : Vec Ideal S256x128 .f32)
    (P : Vec Ideal S256x2944 .f32) (h : Fin 8) (r : Fin 256) (d : Fin 128) :
    outK x6 x7 x9 x10 x11 P (ix4 0 h r ⟨128 + d.val, by omega⟩)
      = turned (fun i => P (ix2 r ⟨2816 + i.val, by omega⟩) * x9 (ix2 0 ⟨128 + i.val, by omega⟩)) (fun i => x10 (ix2 r i)) (fun i => x11 (ix2 r i)) d
        * headScale (fun e => d29_v65 x6 x7 P (ix2 r ⟨128 * h.val + e.val, by omega⟩)) (fun e => P (ix2 r ⟨2816 + e.val, by omega⟩)) := by
  unfold outK
  canon_tiles x hx using coverK _ _ _ _ _ _ _ _ _ _ _ _ _ _ _ _ (ix4 0 h r ⟨128 + d.val, by omega⟩)
  all_goals
    idx_vars x
    first
    | exfalso; omega
    | obtain rfl : x3 = d := Fin.ext (by omega)
      obtain rfl : x2 = r := Fin.ext (by omega)
      simp only [turned, headScale, eps, normed, kvraw_at, d29_v69, d29_v76, d29_v84, d30_v120, d30_v122, d30_v88, d31_v151, d31_v160, d32_v191, d32_v198, d33_v233, d34_v269]
      unfold_payloads
      pointwise [kvraw_at, normed, eps, inv_head_eq]
      blk_point []

/-- A tile's values. -/
theorem outV_at (x6 : Vec Ideal S1x256 .f32) (x7 : Vec Ideal S256x2048 .bf16) (P : Vec Ideal S256x2944 .f32) (h : Fin 8) (r : Fin 256) (d : Fin 128) :
    outV x6 x7 P (ix4 0 h r d) = d29_v65 x6 x7 P (ix2 r ⟨1024 + 128 * h.val + d.val, by omega⟩) := by
  unfold outV
  canon_tiles x hx using coverV _ _ _ _ _ _ _ _ (ix4 0 h r d)
  all_goals
    idx_vars x
    simp only [kvraw_at, d35_v302]
    unfold_payloads
    pointwise [kvraw_at]
    blk_point []

/-- A tile's first gate. -/
theorem outGb_at (P : Vec Ideal S256x2944 .f32) (r : Fin 256) (d : Fin 512) : outGb P (ix3 0 r d) = P (ix2 r ⟨768 + d.val, by omega⟩) := by
  unfold outGb
  canon_tiles x hx using coverGb _ (ix3 0 r d)
  idx_vars x
  unfold_payloads
  pointwise []
  blk_point []

/-- A tile's second gate times its input. -/
theorem outG_at (P : Vec Ideal S256x2944 .f32) (r : Fin 256) (d : Fin 512) :
    outG P (ix3 0 r d) = HMul.hMul (α := EReal) (P (ix2 r ⟨1280 + d.val, by omega⟩)) (P (ix2 r ⟨1792 + d.val, by omega⟩)) := by
  unfold outG
  canon_tiles x hx using coverG _ (ix3 0 r d)
  idx_vars x
  unfold_payloads
  pointwise []
  blk_point []

end Cert.Proof.InputProjection

end
-- ==== Proof.Entry2.lean ====
/- The arrays the input projection reads, at an index: the weights permuted and padded, the tables put beside each other. -/
module

public import proofs.«01_k».proof.Proof.Gen.Kernel2Ideal.Frame
public import proofs.«01_k».proof.Proof.Entry
public import Idealize.ShloMosaic.Lib.StableHlo.RunRead

@[expose] public section

set_option maxRecDepth 16384

noncomputable section

namespace Cert.Proof.InputProjection

open Idealize.ShloMosaic Idealize.ShloMosaic.TcCoe Idealize.SL.Sem Cert.Kernel2Ideal Cert.Kernel2Ideal.Gen

/-- A lane of zeros. -/
theorem zero_eq : Ideal.ofBits .f32 0x00000000#32 = 0 := by simp [Ideal.ofBits, Ideal.ieee]

variable (m : (ℓ : Loc nD τ sig) → Buf (Elt Ideal) ℓ) (c : Dev nD)

/-- The modulation, six rows to a batch. -/
theorem entry_mod (b : Fin 16) (i : Fin 6) (k : Fin 2048) : V m c main_v45 (ix3 b i k)
    = (m (c, Proc.tc.devRef main_arg1) (ix2 b ⟨i.val * 2048 + k.val, by omega⟩) : EReal) := by
  simp only [V, V0, hostOps0, hostOps0_1, hostOps0_2, hostOps0_3, hostOps0_4, hostOps0_5, hostOps0_6, hostOps0_7, hostOps0_8, List.flatten_cons,
    List.flatten_nil, List.append_nil, List.cons_append, List.nil_append]
  after_reads_simp
  try simp -implicitDefEqProofs only [StableHlo.TRef.toBuf, StableHlo.TRef.ofBuf, cast_cast, cast_eq]
  pointwise [Attention.pad_eq, zero_eq]

/-- The first norm's weights. -/
theorem entry_n1w (k : Fin 2048) : V m c main_v14 (ix2 0 k)
    = (m (c, Proc.tc.devRef main_arg2) (ix1 k) : EReal) := by
  simp only [V, V0, hostOps0, hostOps0_1, hostOps0_2, hostOps0_3, hostOps0_4, hostOps0_5, hostOps0_6, hostOps0_7, hostOps0_8, List.flatten_cons,
    List.flatten_nil, List.append_nil, List.cons_append, List.nil_append]
  after_reads_simp
  try simp -implicitDefEqProofs only [StableHlo.TRef.toBuf, StableHlo.TRef.ofBuf, cast_cast, cast_eq]
  pointwise [Attention.pad_eq, zero_eq]

/-- The queries' first norm's weights. -/
theorem entry_qanw (k : Fin 512) : V m c main_v15 (ix2 0 k)
    = (m (c, Proc.tc.devRef main_arg4) (ix1 k) : EReal) := by
  simp only [V, V0, hostOps0, hostOps0_1, hostOps0_2, hostOps0_3, hostOps0_4, hostOps0_5, hostOps0_6, hostOps0_7, hostOps0_8, List.flatten_cons,
    List.flatten_nil, List.append_nil, List.cons_append, List.nil_append]
  after_reads_simp
  try simp -implicitDefEqProofs only [StableHlo.TRef.toBuf, StableHlo.TRef.ofBuf, cast_cast, cast_eq]
  pointwise [Attention.pad_eq, zero_eq]

/-- The keys' and values' norm's weights. -/
theorem entry_kvanw (k : Fin 256) : V m c main_v16 (ix2 0 k)
    = (m (c, Proc.tc.devRef main_arg6) (ix1 k) : EReal) := by
  simp only [V, V0, hostOps0, hostOps0_1, hostOps0_2, hostOps0_3, hostOps0_4, hostOps0_5, hostOps0_6, hostOps0_7, hostOps0_8, List.flatten_cons,
    List.flatten_nil, List.append_nil, List.cons_append, List.nil_append]
  after_reads_simp
  try simp -implicitDefEqProofs only [StableHlo.TRef.toBuf, StableHlo.TRef.ofBuf, cast_cast, cast_eq]
  pointwise [Attention.pad_eq, zero_eq]

/-- The projection's weights: the shared key lanes moved behind the others, and padded. -/
theorem entry_win (k : Fin 2048) (j : Fin 2944) : V m c main_v5 (ix2 k j)
    = (if h : j.val < 768 then m (c, Proc.tc.devRef main_arg3) (ix2 k ⟨j.val, by omega⟩) else if h1 : j.val - 768 < 2048 then m (c, Proc.tc.devRef main_arg3) (ix2 k ⟨832 + (j.val - 768), by omega⟩)
      else if h2 : j.val - 768 - 2048 < 64 then m (c, Proc.tc.devRef main_arg3) (ix2 k ⟨768 + (j.val - 768 - 2048), by omega⟩) else 0 : EReal) := by
  simp only [V, V0, hostOps0, hostOps0_1, hostOps0_2, hostOps0_3, hostOps0_4, hostOps0_5, hostOps0_6, hostOps0_7, hostOps0_8, List.flatten_cons,
    List.flatten_nil, List.append_nil, List.cons_append, List.nil_append]
  after_reads_simp
  try simp -implicitDefEqProofs only [StableHlo.TRef.toBuf, StableHlo.TRef.ofBuf, cast_cast, cast_eq]
  pointwise [Attention.pad_eq, zero_eq]
  after_reads_simp
  pointwise [zero_eq]

/-- The queries' weights, each head padded to 256 columns. -/
theorem entry_wuq (k : Fin 512) (j : Fin 2048) : V m c main_v9 (ix2 k j)
    = (if h : j.val / 256 < 8 ∧ j.val % 256 < 192 then m (c, Proc.tc.devRef main_arg5) (ix2 k ⟨j.val / 256 * 192 + j.val % 256, by omega⟩) else 0 : EReal) := by
  simp only [V, V0, hostOps0, hostOps0_1, hostOps0_2, hostOps0_3, hostOps0_4, hostOps0_5, hostOps0_6, hostOps0_7, hostOps0_8, List.flatten_cons,
    List.flatten_nil, List.append_nil, List.cons_append, List.nil_append]
  after_reads_simp
  try simp -implicitDefEqProofs only [StableHlo.TRef.toBuf, StableHlo.TRef.ofBuf, cast_cast, cast_eq]
  pointwise [Attention.pad_eq, zero_eq]

/-- The keys' and values' weights, all the keys' columns first. -/
theorem entry_wukv (k : Fin 256) (j : Fin 2048) : V m c main_v13 (ix2 k j)
    = (m (c, Proc.tc.devRef main_arg7) (ix2 k ⟨j.val / 128 % 8 * 256 + j.val / 1024 * 128 + j.val % 128, by omega⟩) : EReal) := by
  simp only [V, V0, hostOps0, hostOps0_1, hostOps0_2, hostOps0_3, hostOps0_4, hostOps0_5, hostOps0_6, hostOps0_7, hostOps0_8, List.flatten_cons,
    List.flatten_nil, List.append_nil, List.cons_append, List.nil_append]
  after_reads_simp
  try simp -implicitDefEqProofs only [StableHlo.TRef.toBuf, StableHlo.TRef.ofBuf, cast_cast, cast_eq]
  pointwise [Attention.pad_eq, zero_eq]

/-- The queries' norm's weights, padded. -/
theorem entry_qnw (d : Fin 256) : V m c main_v18 (ix2 0 d)
    = (if h : d.val < 192 then m (c, Proc.tc.devRef main_arg8) (ix1 ⟨d.val, h⟩) else 0 : EReal) := by
  simp only [V, V0, hostOps0, hostOps0_1, hostOps0_2, hostOps0_3, hostOps0_4, hostOps0_5, hostOps0_6, hostOps0_7, hostOps0_8, List.flatten_cons,
    List.flatten_nil, List.append_nil, List.cons_append, List.nil_append]
  after_reads_simp
  try simp -implicitDefEqProofs only [StableHlo.TRef.toBuf, StableHlo.TRef.ofBuf, cast_cast, cast_eq]
  pointwise [Attention.pad_eq, zero_eq]

/-- The keys' norm's weights, padded. -/
theorem entry_knw (d : Fin 256) : V m c main_v20 (ix2 0 d)
    = (if h : d.val < 192 then m (c, Proc.tc.devRef main_arg9) (ix1 ⟨d.val, h⟩) else 0 : EReal) := by
  simp only [V, V0, hostOps0, hostOps0_1, hostOps0_2, hostOps0_3, hostOps0_4, hostOps0_5, hostOps0_6, hostOps0_7, hostOps0_8, List.flatten_cons,
    List.flatten_nil, List.append_nil, List.cons_append, List.nil_append]
  after_reads_simp
  try simp -implicitDefEqProofs only [StableHlo.TRef.toBuf, StableHlo.TRef.ofBuf, cast_cast, cast_eq]
  pointwise [Attention.pad_eq, zero_eq]

/-- The cosines: by row twice, by column twice, then zeros. -/
theorem entry_rc (n : Fin 2048) (e : Fin 128) : V m c main_v26 (ix2 n e)
    = (if h : e.val < 16 then m (c, Proc.tc.devRef main_arg10) (ix3 n 0 ⟨e.val, by omega⟩) else if h1 : e.val - 16 < 16 then m (c, Proc.tc.devRef main_arg10) (ix3 n 0 ⟨e.val - 16, by omega⟩)
      else if h2 : e.val - 16 - 16 < 16 then m (c, Proc.tc.devRef main_arg12) (ix3 n 0 ⟨e.val - 16 - 16, by omega⟩) else if h3 : e.val - 16 - 16 - 16 < 16 then m (c, Proc.tc.devRef main_arg12) (ix3 n 0 ⟨e.val - 16 - 16 - 16, by omega⟩) else 0 : EReal) := by
  simp only [V, V0, hostOps0, hostOps0_1, hostOps0_2, hostOps0_3, hostOps0_4, hostOps0_5, hostOps0_6, hostOps0_7, hostOps0_8, List.flatten_cons,
    List.flatten_nil, List.append_nil, List.cons_append, List.nil_append]
  after_reads_simp
  try simp -implicitDefEqProofs only [StableHlo.TRef.toBuf, StableHlo.TRef.ofBuf, cast_cast, cast_eq]
  pointwise [Attention.pad_eq, zero_eq]
  after_reads_simp
  pointwise [zero_eq]

/-- The sines: by row, the first negated, by column likewise, then zeros. -/
theorem entry_rs (n : Fin 2048) (e : Fin 128) : V m c main_v29 (ix2 n e)
    = (if h : e.val < 16 then Neg.neg (α := EReal) (m (c, Proc.tc.devRef main_arg11) (ix3 n 0 ⟨e.val, by omega⟩)) else if h1 : e.val - 16 < 16 then m (c, Proc.tc.devRef main_arg11) (ix3 n 0 ⟨e.val - 16, by omega⟩)
      else if h2 : e.val - 16 - 16 < 16 then Neg.neg (α := EReal) (m (c, Proc.tc.devRef main_arg13) (ix3 n 0 ⟨e.val - 16 - 16, by omega⟩)) else if h3 : e.val - 16 - 16 - 16 < 16 then m (c, Proc.tc.devRef main_arg13) (ix3 n 0 ⟨e.val - 16 - 16 - 16, by omega⟩) else 0 : EReal) := by
  simp only [V, V0, hostOps0, hostOps0_1, hostOps0_2, hostOps0_3, hostOps0_4, hostOps0_5, hostOps0_6, hostOps0_7, hostOps0_8, List.flatten_cons,
    List.flatten_nil, List.append_nil, List.cons_append, List.nil_append]
  after_reads_simp
  try simp -implicitDefEqProofs only [StableHlo.TRef.toBuf, StableHlo.TRef.ofBuf, cast_cast, cast_eq]
  pointwise [Attention.pad_eq, zero_eq]
  after_reads_simp
  pointwise [zero_eq]

end Cert.Proof.InputProjection

end
-- ==== Proof.Fill2i.lean ====
/- The first grid point: it projects its own tile and finishes none. -/
module

public import proofs.«01_k».proof.Proof.Stage2i

@[expose] public section

set_option maxRecDepth 65536

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The first grid point: it projects its own tile and finishes none. -/
theorem triple_fill (c : Dev nD) (E : Set ℕ) (i : grid0.Coords) (h1 : ¬ k0_cond1 i = 1#1) (h2 : cond2 i = 1#1) (h3 : ¬ k0_cond3 i = 1#1) (h4 : ¬ k0_cond4 i = 1#1) (h5 : ¬ cond5 i = 1#1) (h6 : ¬ k0_cond6 i = 1#1) (arg1 : Memref sig .tc .vmem S1x256x2048 .f32) (harg1 : arg1.IsWhole) (arg2 : Memref sig .tc .vmem S1x6x2048 .f32) (harg2 : arg2.IsWhole) (arg3 : Memref sig .tc .vmem S1x2048 .f32) (harg3 : arg3.IsWhole) (arg4 : Memref sig .tc .vmem S2048x2944 .bf16) (harg4 : arg4.IsWhole) (arg5 : Memref sig .tc .vmem S1x512 .f32) (harg5 : arg5.IsWhole) (arg6 : Memref sig .tc .vmem S512x2048 .bf16) (harg6 : arg6.IsWhole) (arg7 : Memref sig .tc .vmem S1x256 .f32) (harg7 : arg7.IsWhole) (arg8 : Memref sig .tc .vmem S256x2048 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S128x256 .bf16) (harg13 : arg13.IsWhole) (arg14 : Memref sig .tc .vmem S1x8x256x256 .bf16) (harg14 : arg14.IsWhole) (arg15 : Memref sig .tc .vmem S1x8x256x256 .bf16) (harg15 : arg15.IsWhole) (arg16 : Memref sig .tc .vmem S1x8x256x128 .bf16) (harg16 : arg16.IsWhole) (arg17 : Memref sig .tc .vmem S1x256x512 .bf16) (harg17 : arg17.IsWhole) (arg18 : Memref sig .tc .vmem S1x256x512 .bf16) (harg18 : arg18.IsWhole) (arg19 : Memref sig .tc .vmem S1x2x2x128x512 .bf16) (harg19 : arg19.IsWhole) (arg20 : Memref sig .tc .vmem S256x2944 .f32) (harg20 : arg20.IsWhole) (arg21 : Memref sig .tc .vmem S256x2944 .f32) (harg21 : arg21.IsWhole)
    (x0 : Vec F S1x256x2048 .f32) (x1 : Vec F S1x6x2048 .f32) (x2 : Vec F S1x2048 .f32) (x3 : Vec F S2048x2944 .bf16) (x4 : Vec F S1x512 .f32) (x5 : Vec F S512x2048 .bf16) (x6 : Vec F S1x256 .f32) (x7 : Vec F S256x2048 .bf16) (x8 : Vec F S1x256 .f32) (x9 : Vec F S1x256 .f32) (x10 : Vec F S256x128 .f32) (x11 : Vec F S256x128 .f32) (x12 : Vec F S128x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg20 fullShare d) ∗ (∃ d, owns (c : Thread nD τ) arg21 fullShare d) ∗ (∃ d, owns (c : Thread nD τ) (Memref.whole cc0_scratch2) fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg20 fullShare (outP x0 x1 x2 x3) ∗ (∃ d, owns (c : Thread nD τ) arg21 fullShare d) ∗ (∃ d, owns (c : Thread nD τ) (Memref.whole cc0_scratch2) fullShare d)) -∗ K ⟨⟩))
      ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Memref.whole cc0_scratch2) (Memref.isWhole_whole _)) K := by
  unfold cond2 at h2; unfold cond5 at h5
  simp only [cc0_inproj_eq_skeleton]; unfold cc0_inproj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d19, %f19, -, H19⟩, ⟨%d20, %f20, -, H20⟩, ⟨%d21, %f21, -, H21⟩, Hk⟩
  subst hf0 hf1 hf2 hf3 hf4 hf5 hf6 hf7 hf8 hf9 hf10 hf11 hf12
  sl_exec (disch := first | sl_exact h1 | sl_exact h2 | sl_exact h3 | sl_exact h4 | sl_exact h5 | sl_exact h6)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H19]
  · iexists _; isplitr
    swap; · iexact H19
    ipureintro
    refine (View.read_writes_eq_canon _ _ _ (coverP _ _ _ _ _ _)).trans ?_
    rfl
  isplitl [H20]
  · iexists _; iexists _; isplitr
    swap; · iexact H20
    ipureintro; rfl
  iexists _; iexists _; isplitr
  swap; · iexact H21
  ipureintro; rfl

end Cert.Kernel2Ideal.Gen

end
-- ==== Proof.Even2i.lean ====
/- An even grid point between the first and the last: it projects its own tile into the first buffer and finishes the tile held by the second. -/
module

public import proofs.«01_k».proof.Proof.Stage2i

@[expose] public section

set_option maxRecDepth 65536

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- An even grid point between the first and the last: it projects its own tile into the first buffer and finishes the tile held by the second. -/
theorem triple_even (c : Dev nD) (E : Set ℕ) (i : grid0.Coords) (h1 : k0_cond1 i = 1#1) (h2 : ¬ cond2 i = 1#1) (h3 : ¬ k0_cond3 i = 1#1) (h4 : ¬ k0_cond4 i = 1#1) (h5 : ¬ cond5 i = 1#1) (h6 : ¬ k0_cond6 i = 1#1) (arg1 : Memref sig .tc .vmem S1x256x2048 .f32) (harg1 : arg1.IsWhole) (arg2 : Memref sig .tc .vmem S1x6x2048 .f32) (harg2 : arg2.IsWhole) (arg3 : Memref sig .tc .vmem S1x2048 .f32) (harg3 : arg3.IsWhole) (arg4 : Memref sig .tc .vmem S2048x2944 .bf16) (harg4 : arg4.IsWhole) (arg5 : Memref sig .tc .vmem S1x512 .f32) (harg5 : arg5.IsWhole) (arg6 : Memref sig .tc .vmem S512x2048 .bf16) (harg6 : arg6.IsWhole) (arg7 : Memref sig .tc .vmem S1x256 .f32) (harg7 : arg7.IsWhole) (arg8 : Memref sig .tc .vmem S256x2048 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S128x256 .bf16) (harg13 : arg13.IsWhole) (arg14 : Memref sig .tc .vmem S1x8x256x256 .bf16) (harg14 : arg14.IsWhole) (arg15 : Memref sig .tc .vmem S1x8x256x256 .bf16) (harg15 : arg15.IsWhole) (arg16 : Memref sig .tc .vmem S1x8x256x128 .bf16) (harg16 : arg16.IsWhole) (arg17 : Memref sig .tc .vmem S1x256x512 .bf16) (harg17 : arg17.IsWhole) (arg18 : Memref sig .tc .vmem S1x256x512 .bf16) (harg18 : arg18.IsWhole) (arg19 : Memref sig .tc .vmem S1x2x2x128x512 .bf16) (harg19 : arg19.IsWhole) (arg20 : Memref sig .tc .vmem S256x2944 .f32) (harg20 : arg20.IsWhole) (arg21 : Memref sig .tc .vmem S256x2944 .f32) (harg21 : arg21.IsWhole)
    (x0 : Vec F S1x256x2048 .f32) (x1 : Vec F S1x6x2048 .f32) (x2 : Vec F S1x2048 .f32) (x3 : Vec F S2048x2944 .bf16) (x4 : Vec F S1x512 .f32) (x5 : Vec F S512x2048 .bf16) (x6 : Vec F S1x256 .f32) (x7 : Vec F S256x2048 .bf16) (x8 : Vec F S1x256 .f32) (x9 : Vec F S1x256 .f32) (x10 : Vec F S256x128 .f32) (x11 : Vec F S256x128 .f32) (x12 : Vec F S128x256 .bf16) (P : Vec F S256x2944 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare P ∗ (∃ d, owns (c : Thread nD τ) (Memref.whole cc0_scratch2) fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (outQ x4 x5 x8 x10 x11 P) ∗ owns (c : Thread nD τ) arg15 fullShare (outK x6 x7 x9 x10 x11 P) ∗ owns (c : Thread nD τ) arg16 fullShare (outV x6 x7 P) ∗ owns (c : Thread nD τ) arg17 fullShare (outGb P) ∗ owns (c : Thread nD τ) arg18 fullShare (outG P) ∗ owns (c : Thread nD τ) arg19 fullShare (outFab x12 P) ∗ owns (c : Thread nD τ) arg20 fullShare (outP x0 x1 x2 x3) ∗ (∃ d, owns (c : Thread nD τ) arg21 fullShare d) ∗ (∃ d, owns (c : Thread nD τ) (Memref.whole cc0_scratch2) fullShare d)) -∗ K ⟨⟩))
      ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Memref.whole cc0_scratch2) (Memref.isWhole_whole _)) K := by
  unfold cond2 at h2; unfold cond5 at h5
  simp only [cc0_inproj_eq_skeleton]; unfold cc0_inproj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%f20, %hf20, H20⟩, ⟨%d21, %f21, -, H21⟩, Hk⟩
  subst hf0 hf1 hf2 hf3 hf4 hf5 hf6 hf7 hf8 hf9 hf10 hf11 hf12 hf20
  sl_exec (disch := first | sl_exact h1 | sl_exact h2 | sl_exact h3 | sl_exact h4 | sl_exact h5 | sl_exact h6)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    refine (View.read_writes_eq_canon _ _ _ (coverQ _ _ _ _ _ _ _ _ _ _ _ _ _ _ _ _)).trans ?_
    rfl
  isplitl [H14]
  · iexists _; isplitr
    swap; · iexact H14
    ipureintro
    refine (View.read_writes_eq_canon _ _ _ (coverK _ _ _ _ _ _ _ _ _ _ _ _ _ _ _ _)).trans ?_
    rfl
  isplitl [H15]
  · iexists _; isplitr
    swap; · iexact H15
    ipureintro
    refine (View.read_writes_eq_canon _ _ _ (coverV _ _ _ _ _ _ _ _)).trans ?_
    rfl
  isplitl [H16]
  · iexists _; isplitr
    swap; · iexact H16
    ipureintro
    refine (View.read_writes_eq_canon _ _ _ (coverGb _)).trans ?_
    rfl
  isplitl [H17]
  · iexists _; isplitr
    swap; · iexact H17
    ipureintro
    refine (View.read_writes_eq_canon _ _ _ (coverG _)).trans ?_
    rfl
  isplitl [H18]
  · iexists _; isplitr
    swap; · iexact H18
    ipureintro
    refine (View.read_writes_eq_canon _ _ _ (coverFab _ _ _ _ _ _ _ _ _ _ _ _ _ _ _ _)).trans ?_
    rfl
  isplitl [H19]
  · iexists _; isplitr
    swap; · iexact H19
    ipureintro
    refine (View.read_writes_eq_canon _ _ _ (coverP _ _ _ _ _ _)).trans ?_
    rfl
  isplitl [H20]
  · iexists _; iexists _; isplitr
    swap; · iexact H20
    ipureintro; rfl
  iexists _; iexists _; isplitr
  swap; · iexact H21
  ipureintro; rfl

end Cert.Kernel2Ideal.Gen

end
-- ==== Proof.Odd2i.lean ====
/- An odd grid point between the first and the last: it projects its own tile into the second buffer and finishes the tile held by the first. -/
module

public import proofs.«01_k».proof.Proof.Stage2i

@[expose] public section

set_option maxRecDepth 65536

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- An odd grid point between the first and the last: it projects its own tile into the second buffer and finishes the tile held by the first. -/
theorem triple_odd (c : Dev nD) (E : Set ℕ) (i : grid0.Coords) (h1 : ¬ k0_cond1 i = 1#1) (h2 : ¬ cond2 i = 1#1) (h3 : ¬ k0_cond3 i = 1#1) (h4 : k0_cond4 i = 1#1) (h5 : ¬ cond5 i = 1#1) (h6 : ¬ k0_cond6 i = 1#1) (arg1 : Memref sig .tc .vmem S1x256x2048 .f32) (harg1 : arg1.IsWhole) (arg2 : Memref sig .tc .vmem S1x6x2048 .f32) (harg2 : arg2.IsWhole) (arg3 : Memref sig .tc .vmem S1x2048 .f32) (harg3 : arg3.IsWhole) (arg4 : Memref sig .tc .vmem S2048x2944 .bf16) (harg4 : arg4.IsWhole) (arg5 : Memref sig .tc .vmem S1x512 .f32) (harg5 : arg5.IsWhole) (arg6 : Memref sig .tc .vmem S512x2048 .bf16) (harg6 : arg6.IsWhole) (arg7 : Memref sig .tc .vmem S1x256 .f32) (harg7 : arg7.IsWhole) (arg8 : Memref sig .tc .vmem S256x2048 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S128x256 .bf16) (harg13 : arg13.IsWhole) (arg14 : Memref sig .tc .vmem S1x8x256x256 .bf16) (harg14 : arg14.IsWhole) (arg15 : Memref sig .tc .vmem S1x8x256x256 .bf16) (harg15 : arg15.IsWhole) (arg16 : Memref sig .tc .vmem S1x8x256x128 .bf16) (harg16 : arg16.IsWhole) (arg17 : Memref sig .tc .vmem S1x256x512 .bf16) (harg17 : arg17.IsWhole) (arg18 : Memref sig .tc .vmem S1x256x512 .bf16) (harg18 : arg18.IsWhole) (arg19 : Memref sig .tc .vmem S1x2x2x128x512 .bf16) (harg19 : arg19.IsWhole) (arg20 : Memref sig .tc .vmem S256x2944 .f32) (harg20 : arg20.IsWhole) (arg21 : Memref sig .tc .vmem S256x2944 .f32) (harg21 : arg21.IsWhole)
    (x0 : Vec F S1x256x2048 .f32) (x1 : Vec F S1x6x2048 .f32) (x2 : Vec F S1x2048 .f32) (x3 : Vec F S2048x2944 .bf16) (x4 : Vec F S1x512 .f32) (x5 : Vec F S512x2048 .bf16) (x6 : Vec F S1x256 .f32) (x7 : Vec F S256x2048 .bf16) (x8 : Vec F S1x256 .f32) (x9 : Vec F S1x256 .f32) (x10 : Vec F S256x128 .f32) (x11 : Vec F S256x128 .f32) (x12 : Vec F S128x256 .bf16) (P : Vec F S256x2944 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare P ∗ (∃ d, owns (c : Thread nD τ) arg21 fullShare d) ∗ (∃ d, owns (c : Thread nD τ) (Memref.whole cc0_scratch2) fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (outQ x4 x5 x8 x10 x11 P) ∗ owns (c : Thread nD τ) arg15 fullShare (outK x6 x7 x9 x10 x11 P) ∗ owns (c : Thread nD τ) arg16 fullShare (outV x6 x7 P) ∗ owns (c : Thread nD τ) arg17 fullShare (outGb P) ∗ owns (c : Thread nD τ) arg18 fullShare (outG P) ∗ owns (c : Thread nD τ) arg19 fullShare (outFab x12 P) ∗ (∃ d, owns (c : Thread nD τ) arg20 fullShare d) ∗ owns (c : Thread nD τ) arg21 fullShare (outP x0 x1 x2 x3) ∗ (∃ d, owns (c : Thread nD τ) (Memref.whole cc0_scratch2) fullShare d)) -∗ K ⟨⟩))
      ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Memref.whole cc0_scratch2) (Memref.isWhole_whole _)) K := by
  unfold cond2 at h2; unfold cond5 at h5
  simp only [cc0_inproj_eq_skeleton]; unfold cc0_inproj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%f19, %hf19, H19⟩, ⟨%d20, %f20, -, H20⟩, ⟨%d21, %f21, -, H21⟩, Hk⟩
  subst hf0 hf1 hf2 hf3 hf4 hf5 hf6 hf7 hf8 hf9 hf10 hf11 hf12 hf19
  sl_exec (disch := first | sl_exact h1 | sl_exact h2 | sl_exact h3 | sl_exact h4 | sl_exact h5 | sl_exact h6)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    refine (View.read_writes_eq_canon _ _ _ (coverQ _ _ _ _ _ _ _ _ _ _ _ _ _ _ _ _)).trans ?_
    rfl
  isplitl [H14]
  · iexists _; isplitr
    swap; · iexact H14
    ipureintro
    refine (View.read_writes_eq_canon _ _ _ (coverK _ _ _ _ _ _ _ _ _ _ _ _ _ _ _ _)).trans ?_
    rfl
  isplitl [H15]
  · iexists _; isplitr
    swap; · iexact H15
    ipureintro
    refine (View.read_writes_eq_canon _ _ _ (coverV _ _ _ _ _ _ _ _)).trans ?_
    rfl
  isplitl [H16]
  · iexists _; isplitr
    swap; · iexact H16
    ipureintro
    refine (View.read_writes_eq_canon _ _ _ (coverGb _)).trans ?_
    rfl
  isplitl [H17]
  · iexists _; isplitr
    swap; · iexact H17
    ipureintro
    refine (View.read_writes_eq_canon _ _ _ (coverG _)).trans ?_
    rfl
  isplitl [H18]
  · iexists _; isplitr
    swap; · iexact H18
    ipureintro
    refine (View.read_writes_eq_canon _ _ _ (coverFab _ _ _ _ _ _ _ _ _ _ _ _ _ _ _ _)).trans ?_
    rfl
  isplitl [H19]
  · iexists _; iexists _; isplitr
    swap; · iexact H19
    ipureintro; rfl
  isplitl [H20]
  · iexists _; isplitr
    swap; · iexact H20
    ipureintro
    refine (View.read_writes_eq_canon _ _ _ (coverP _ _ _ _ _ _)).trans ?_
    rfl
  iexists _; iexists _; isplitr
  swap; · iexact H21
  ipureintro; rfl

end Cert.Kernel2Ideal.Gen

end
-- ==== Proof.Drain2i.lean ====
/- The last grid point: it finishes the tile held by the second buffer and projects none. -/
module

public import proofs.«01_k».proof.Proof.Stage2i

@[expose] public section

set_option maxRecDepth 65536

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The last grid point: it finishes the tile held by the second buffer and projects none. -/
theorem triple_drain (c : Dev nD) (E : Set ℕ) (i : grid0.Coords) (h1 : ¬ k0_cond1 i = 1#1) (h2 : ¬ cond2 i = 1#1) (h3 : k0_cond3 i = 1#1) (h4 : ¬ k0_cond4 i = 1#1) (h5 : ¬ cond5 i = 1#1) (h6 : ¬ k0_cond6 i = 1#1) (arg1 : Memref sig .tc .vmem S1x256x2048 .f32) (harg1 : arg1.IsWhole) (arg2 : Memref sig .tc .vmem S1x6x2048 .f32) (harg2 : arg2.IsWhole) (arg3 : Memref sig .tc .vmem S1x2048 .f32) (harg3 : arg3.IsWhole) (arg4 : Memref sig .tc .vmem S2048x2944 .bf16) (harg4 : arg4.IsWhole) (arg5 : Memref sig .tc .vmem S1x512 .f32) (harg5 : arg5.IsWhole) (arg6 : Memref sig .tc .vmem S512x2048 .bf16) (harg6 : arg6.IsWhole) (arg7 : Memref sig .tc .vmem S1x256 .f32) (harg7 : arg7.IsWhole) (arg8 : Memref sig .tc .vmem S256x2048 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S128x256 .bf16) (harg13 : arg13.IsWhole) (arg14 : Memref sig .tc .vmem S1x8x256x256 .bf16) (harg14 : arg14.IsWhole) (arg15 : Memref sig .tc .vmem S1x8x256x256 .bf16) (harg15 : arg15.IsWhole) (arg16 : Memref sig .tc .vmem S1x8x256x128 .bf16) (harg16 : arg16.IsWhole) (arg17 : Memref sig .tc .vmem S1x256x512 .bf16) (harg17 : arg17.IsWhole) (arg18 : Memref sig .tc .vmem S1x256x512 .bf16) (harg18 : arg18.IsWhole) (arg19 : Memref sig .tc .vmem S1x2x2x128x512 .bf16) (harg19 : arg19.IsWhole) (arg20 : Memref sig .tc .vmem S256x2944 .f32) (harg20 : arg20.IsWhole) (arg21 : Memref sig .tc .vmem S256x2944 .f32) (harg21 : arg21.IsWhole)
    (x0 : Vec F S1x256x2048 .f32) (x1 : Vec F S1x6x2048 .f32) (x2 : Vec F S1x2048 .f32) (x3 : Vec F S2048x2944 .bf16) (x4 : Vec F S1x512 .f32) (x5 : Vec F S512x2048 .bf16) (x6 : Vec F S1x256 .f32) (x7 : Vec F S256x2048 .bf16) (x8 : Vec F S1x256 .f32) (x9 : Vec F S1x256 .f32) (x10 : Vec F S256x128 .f32) (x11 : Vec F S256x128 .f32) (x12 : Vec F S128x256 .bf16) (P : Vec F S256x2944 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare P ∗ (∃ d, owns (c : Thread nD τ) (Memref.whole cc0_scratch2) fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (outQ x4 x5 x8 x10 x11 P) ∗ owns (c : Thread nD τ) arg15 fullShare (outK x6 x7 x9 x10 x11 P) ∗ owns (c : Thread nD τ) arg16 fullShare (outV x6 x7 P) ∗ owns (c : Thread nD τ) arg17 fullShare (outGb P) ∗ owns (c : Thread nD τ) arg18 fullShare (outG P) ∗ owns (c : Thread nD τ) arg19 fullShare (outFab x12 P) ∗ (∃ d, owns (c : Thread nD τ) arg20 fullShare d) ∗ (∃ d, owns (c : Thread nD τ) arg21 fullShare d) ∗ (∃ d, owns (c : Thread nD τ) (Memref.whole cc0_scratch2) fullShare d)) -∗ K ⟨⟩))
      ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (Memref.whole cc0_scratch2) (Memref.isWhole_whole _)) K := by
  unfold cond2 at h2; unfold cond5 at h5
  simp only [cc0_inproj_eq_skeleton]; unfold cc0_inproj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%f20, %hf20, H20⟩, ⟨%d21, %f21, -, H21⟩, Hk⟩
  subst hf0 hf1 hf2 hf3 hf4 hf5 hf6 hf7 hf8 hf9 hf10 hf11 hf12 hf20
  sl_exec (disch := first | sl_exact h1 | sl_exact h2 | sl_exact h3 | sl_exact h4 | sl_exact h5 | sl_exact h6)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    refine (View.read_writes_eq_canon _ _ _ (coverQ _ _ _ _ _ _ _ _ _ _ _ _ _ _ _ _)).trans ?_
    rfl
  isplitl [H14]
  · iexists _; isplitr
    swap; · iexact H14
    ipureintro
    refine (View.read_writes_eq_canon _ _ _ (coverK _ _ _ _ _ _ _ _ _ _ _ _ _ _ _ _)).trans ?_
    rfl
  isplitl [H15]
  · iexists _; isplitr
    swap; · iexact H15
    ipureintro
    refine (View.read_writes_eq_canon _ _ _ (coverV _ _ _ _ _ _ _ _)).trans ?_
    rfl
  isplitl [H16]
  · iexists _; isplitr
    swap; · iexact H16
    ipureintro
    refine (View.read_writes_eq_canon _ _ _ (coverGb _)).trans ?_
    rfl
  isplitl [H17]
  · iexists _; isplitr
    swap; · iexact H17
    ipureintro
    refine (View.read_writes_eq_canon _ _ _ (coverG _)).trans ?_
    rfl
  isplitl [H18]
  · iexists _; isplitr
    swap; · iexact H18
    ipureintro
    refine (View.read_writes_eq_canon _ _ _ (coverFab _ _ _ _ _ _ _ _ _ _ _ _ _ _ _ _)).trans ?_
    rfl
  isplitl [H19]
  · iexists _; iexists _; isplitr
    swap; · iexact H19
    ipureintro; rfl
  isplitl [H20]
  · iexists _; iexists _; isplitr
    swap; · iexact H20
    ipureintro; rfl
  iexists _; iexists _; isplitr
  swap; · iexact H21
  ipureintro; rfl

end Cert.Kernel2Ideal.Gen

end
-- ==== Proof.Data2i.lean ====
/- The run of the input projection: at each grid point the body leaves the tile's projection in one scratch buffer and finishes the tile before it from the other. -/
module

public import proofs.«01_k».proof.Proof.Fill2i
public import proofs.«01_k».proof.Proof.Even2i
public import proofs.«01_k».proof.Proof.Odd2i
public import proofs.«01_k».proof.Proof.Drain2i

@[expose] public section

set_option maxRecDepth 65536

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The projection of the tile at point `t`. -/
def tileP (c : Dev nD) (t : Fin cfg0.N) : Vec F S256x2944 .f32 :=
  outP (iblk m c 0 t) (iblk m c 1 t) (iblk m c 2 t) (iblk m c 3 t)

/-- The point before `t`. -/
def prevPt (t : Fin cfg0.N) : Fin cfg0.N := ⟨t.val - 1, Nat.lt_of_le_of_lt (Nat.sub_le _ _) t.isLt⟩

/-- Between the points: after `n` points the tile projected last is in the first scratch buffer when `n` is odd and in
    the second when `n` is even. -/
def PhiS (c : Dev nD) (n : ℕ) (h : n ≤ cfg0.N) : sProp 𝕄 :=
  iprop((∃ d, ⌜∀ h0 : 0 < n, n < 129 → n % 2 = 1 → d = tileP m c ⟨n - 1, by omega⟩⌝ ∗ owns (c : Thread nD τ) (Memref.whole cc0_scratch0) fullShare d)
    ∗ (∃ d, ⌜∀ h0 : 0 < n, n < 129 → n % 2 = 0 → d = tileP m c ⟨n - 1, by omega⟩⌝ ∗ owns (c : Thread nD τ) (Memref.whole cc0_scratch1) fullShare d)
    ∗ (∃ d, owns (c : Thread nD τ) (Memref.whole cc0_scratch2) fullShare d) ∗ (∃ r, prngReg c r))

/-- What the run leaves: each input's buffer at its block, each output's at what the body finishes of the tile before. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outQ (iblk m c 4 t) (iblk m c 5 t) (iblk m c 8 t) (iblk m c 10 t) (iblk m c 11 t) (tileP m c (prevPt t))
    | ⟨14, _⟩ => outK (iblk m c 6 t) (iblk m c 7 t) (iblk m c 9 t) (iblk m c 10 t) (iblk m c 11 t) (tileP m c (prevPt t))
    | ⟨15, _⟩ => outV (iblk m c 6 t) (iblk m c 7 t) (tileP m c (prevPt t))
    | ⟨16, _⟩ => outGb (tileP m c (prevPt t))
    | ⟨17, _⟩ => outG (tileP m c (prevPt t))
    | ⟨18, _⟩ => outFab (iblk m c 12 t) (tileP m c (prevPt t))
    | ⟨_ + 19, h⟩ => absurd h (Nat.not_lt.2 (Nat.le_add_left _ _))
  Φ t := PhiS m c t.val (Nat.le_of_lt_succ t.isLt)
  q _ := fullShare
  owed _ := 0

/-- The arrays are as the region finds them. -/
theorem A_eq (c : Dev nD) (w : Fin cfg0.W) : (dats m 0 c).A w = V m c (Pipeline.arrRef spec0 w) := by
  dsimp only [dats]

/-- The scratch buffers before a point. -/
theorem Phi_before (c : Dev nD) (t : Fin cfg0.N) : (dats m 0 c).Φ t.castSucc = PhiS m c t.val (Nat.le_of_lt t.isLt) := by
  dsimp only [dats]; exact Pipeline.Dat.Φ_castSucc (PhiS m c) t

/-- The scratch buffers after a point. -/
theorem Phi_after (c : Dev nD) (t : Fin cfg0.N) : (dats m 0 c).Φ t.succ = PhiS m c (t.val + 1) t.isLt := by
  dsimp only [dats]; rfl

/-- Input window 0 after a point. -/
theorem after0_0 (c : Dev nD) (t : Fin cfg0.N) : (dats m 0 c).after 0 t = iblk m c 0 t := by dsimp only [dats]
/-- Input window 1 after a point. -/
theorem after0_1 (c : Dev nD) (t : Fin cfg0.N) : (dats m 0 c).after 1 t = iblk m c 1 t := by dsimp only [dats]
/-- Input window 2 after a point. -/
theorem after0_2 (c : Dev nD) (t : Fin cfg0.N) : (dats m 0 c).after 2 t = iblk m c 2 t := by dsimp only [dats]
/-- Input window 3 after a point. -/
theorem after0_3 (c : Dev nD) (t : Fin cfg0.N) : (dats m 0 c).after 3 t = iblk m c 3 t := by dsimp only [dats]
/-- Input window 4 after a point. -/
theorem after0_4 (c : Dev nD) (t : Fin cfg0.N) : (dats m 0 c).after 4 t = iblk m c 4 t := by dsimp only [dats]
/-- Input window 5 after a point. -/
theorem after0_5 (c : Dev nD) (t : Fin cfg0.N) : (dats m 0 c).after 5 t = iblk m c 5 t := by dsimp only [dats]
/-- Input window 6 after a point. -/
theorem after0_6 (c : Dev nD) (t : Fin cfg0.N) : (dats m 0 c).after 6 t = iblk m c 6 t := by dsimp only [dats]
/-- Input window 7 after a point. -/
theorem after0_7 (c : Dev nD) (t : Fin cfg0.N) : (dats m 0 c).after 7 t = iblk m c 7 t := by dsimp only [dats]
/-- Input window 8 after a point. -/
theorem after0_8 (c : Dev nD) (t : Fin cfg0.N) : (dats m 0 c).after 8 t = iblk m c 8 t := by dsimp only [dats]
/-- Input window 9 after a point. -/
theorem after0_9 (c : Dev nD) (t : Fin cfg0.N) : (dats m 0 c).after 9 t = iblk m c 9 t := by dsimp only [dats]
/-- Input window 10 after a point. -/
theorem after0_10 (c : Dev nD) (t : Fin cfg0.N) : (dats m 0 c).after 10 t = iblk m c 10 t := by dsimp only [dats]
/-- Input window 11 after a point. -/
theorem after0_11 (c : Dev nD) (t : Fin cfg0.N) : (dats m 0 c).after 11 t = iblk m c 11 t := by dsimp only [dats]
/-- Input window 12 after a point. -/
theorem after0_12 (c : Dev nD) (t : Fin cfg0.N) : (dats m 0 c).after 12 t = iblk m c 12 t := by dsimp only [dats]
/-- Output window 13 after a point. -/
theorem after0_13 (c : Dev nD) (t : Fin cfg0.N) : (dats m 0 c).after 13 t = outQ (iblk m c 4 t) (iblk m c 5 t) (iblk m c 8 t) (iblk m c 10 t) (iblk m c 11 t) (tileP m c (prevPt t)) := by dsimp only [dats]
/-- Output window 14 after a point. -/
theorem after0_14 (c : Dev nD) (t : Fin cfg0.N) : (dats m 0 c).after 14 t = outK (iblk m c 6 t) (iblk m c 7 t) (iblk m c 9 t) (iblk m c 10 t) (iblk m c 11 t) (tileP m c (prevPt t)) := by dsimp only [dats]
/-- Output window 15 after a point. -/
theorem after0_15 (c : Dev nD) (t : Fin cfg0.N) : (dats m 0 c).after 15 t = outV (iblk m c 6 t) (iblk m c 7 t) (tileP m c (prevPt t)) := by dsimp only [dats]
/-- Output window 16 after a point. -/
theorem after0_16 (c : Dev nD) (t : Fin cfg0.N) : (dats m 0 c).after 16 t = outGb (tileP m c (prevPt t)) := by dsimp only [dats]
/-- Output window 17 after a point. -/
theorem after0_17 (c : Dev nD) (t : Fin cfg0.N) : (dats m 0 c).after 17 t = outG (tileP m c (prevPt t)) := by dsimp only [dats]
/-- Output window 18 after a point. -/
theorem after0_18 (c : Dev nD) (t : Fin cfg0.N) : (dats m 0 c).after 18 t = outFab (iblk m c 12 t) (tileP m c (prevPt t)) := by dsimp only [dats]
/-- Input window 0 before a point. -/
theorem before0_0 (c : Dev nD) (t : Fin cfg0.N) (d) : (dats m 0 c).before 0 t d = iblk m c 0 t :=
  before0_0_of m (dats m 0 c) (A_eq m c 0) (after0_0 m c) t d
/-- Input window 1 before a point. -/
theorem before0_1 (c : Dev nD) (t : Fin cfg0.N) (d) : (dats m 0 c).before 1 t d = iblk m c 1 t :=
  before0_1_of m (dats m 0 c) (A_eq m c 1) (after0_1 m c) t d
/-- Input window 2 before a point. -/
theorem before0_2 (c : Dev nD) (t : Fin cfg0.N) (d) : (dats m 0 c).before 2 t d = iblk m c 2 t :=
  before0_2_of m (dats m 0 c) (A_eq m c 2) (after0_2 m c) t d
/-- Input window 3 before a point. -/
theorem before0_3 (c : Dev nD) (t : Fin cfg0.N) (d) : (dats m 0 c).before 3 t d = iblk m c 3 t :=
  before0_3_of m (dats m 0 c) (A_eq m c 3) (after0_3 m c) t d
/-- Input window 4 before a point. -/
theorem before0_4 (c : Dev nD) (t : Fin cfg0.N) (d) : (dats m 0 c).before 4 t d = iblk m c 4 t :=
  before0_4_of m (dats m 0 c) (A_eq m c 4) (after0_4 m c) t d
/-- Input window 5 before a point. -/
theorem before0_5 (c : Dev nD) (t : Fin cfg0.N) (d) : (dats m 0 c).before 5 t d = iblk m c 5 t :=
  before0_5_of m (dats m 0 c) (A_eq m c 5) (after0_5 m c) t d
/-- Input window 6 before a point. -/
theorem before0_6 (c : Dev nD) (t : Fin cfg0.N) (d) : (dats m 0 c).before 6 t d = iblk m c 6 t :=
  before0_6_of m (dats m 0 c) (A_eq m c 6) (after0_6 m c) t d
/-- Input window 7 before a point. -/
theorem before0_7 (c : Dev nD) (t : Fin cfg0.N) (d) : (dats m 0 c).before 7 t d = iblk m c 7 t :=
  before0_7_of m (dats m 0 c) (A_eq m c 7) (after0_7 m c) t d
/-- Input window 8 before a point. -/
theorem before0_8 (c : Dev nD) (t : Fin cfg0.N) (d) : (dats m 0 c).before 8 t d = iblk m c 8 t :=
  before0_8_of m (dats m 0 c) (A_eq m c 8) (after0_8 m c) t d
/-- Input window 9 before a point. -/
theorem before0_9 (c : Dev nD) (t : Fin cfg0.N) (d) : (dats m 0 c).before 9 t d = iblk m c 9 t :=
  before0_9_of m (dats m 0 c) (A_eq m c 9) (after0_9 m c) t d
/-- Input window 10 before a point. -/
theorem before0_10 (c : Dev nD) (t : Fin cfg0.N) (d) : (dats m 0 c).before 10 t d = iblk m c 10 t :=
  before0_10_of m (dats m 0 c) (A_eq m c 10) (after0_10 m c) t d
/-- Input window 11 before a point. -/
theorem before0_11 (c : Dev nD) (t : Fin cfg0.N) (d) : (dats m 0 c).before 11 t d = iblk m c 11 t :=
  before0_11_of m (dats m 0 c) (A_eq m c 11) (after0_11 m c) t d
/-- Input window 12 before a point. -/
theorem before0_12 (c : Dev nD) (t : Fin cfg0.N) (d) : (dats m 0 c).before 12 t d = iblk m c 12 t :=
  before0_12_of m (dats m 0 c) (A_eq m c 12) (after0_12 m c) t d

/-- At the first point only the first projection runs. -/
theorem branch_fill : ∀ t : Fin grid0.N, t.val = 0 → ¬ k0_cond1 (grid0.coords t) = 1#1 ∧ cond2 (grid0.coords t) = 1#1 ∧ ¬ k0_cond3 (grid0.coords t) = 1#1 ∧ ¬ k0_cond4 (grid0.coords t) = 1#1 ∧ ¬ cond5 (grid0.coords t) = 1#1 ∧ ¬ k0_cond6 (grid0.coords t) = 1#1 := by
  decide +kernel

/-- At an even point between, only the even steady branch runs. -/
theorem branch_even : ∀ t : Fin grid0.N, t.val ≠ 0 → t.val ≠ 128 → t.val % 2 = 0 → k0_cond1 (grid0.coords t) = 1#1 ∧ ¬ cond2 (grid0.coords t) = 1#1 ∧ ¬ k0_cond3 (grid0.coords t) = 1#1 ∧ ¬ k0_cond4 (grid0.coords t) = 1#1 ∧ ¬ cond5 (grid0.coords t) = 1#1 ∧ ¬ k0_cond6 (grid0.coords t) = 1#1 := by
  decide +kernel

/-- At an odd point only the odd steady branch runs. -/
theorem branch_odd : ∀ t : Fin grid0.N, t.val % 2 = 1 → ¬ k0_cond1 (grid0.coords t) = 1#1 ∧ ¬ cond2 (grid0.coords t) = 1#1 ∧ ¬ k0_cond3 (grid0.coords t) = 1#1 ∧ k0_cond4 (grid0.coords t) = 1#1 ∧ ¬ cond5 (grid0.coords t) = 1#1 ∧ ¬ k0_cond6 (grid0.coords t) = 1#1 := by
  decide +kernel

/-- At the last point only the last finish runs. -/
theorem branch_drain : ∀ t : Fin grid0.N, t.val = 128 → ¬ k0_cond1 (grid0.coords t) = 1#1 ∧ ¬ cond2 (grid0.coords t) = 1#1 ∧ k0_cond3 (grid0.coords t) = 1#1 ∧ ¬ k0_cond4 (grid0.coords t) = 1#1 ∧ ¬ cond5 (grid0.coords t) = 1#1 ∧ ¬ k0_cond6 (grid0.coords t) = 1#1 := by
  decide +kernel

/-- Output window 13 is idle at the first point only, -/
theorem idle0_13 : ∀ t : Fin grid0.N, idle0 13 (grid0.coords t) = decide (t.val = 0) := by
  decide +kernel

/-- and written back at every other. -/
theorem flush0_13 : ∀ t : Fin grid0.N, win0_13.flush t = !decide (t.val = 0) := by
  decide +kernel

/-- Output window 14 is idle at the first point only, -/
theorem idle0_14 : ∀ t : Fin grid0.N, idle0 14 (grid0.coords t) = decide (t.val = 0) := by
  decide +kernel

/-- and written back at every other. -/
theorem flush0_14 : ∀ t : Fin grid0.N, win0_14.flush t = !decide (t.val = 0) := by
  decide +kernel

/-- Output window 15 is idle at the first point only, -/
theorem idle0_15 : ∀ t : Fin grid0.N, idle0 15 (grid0.coords t) = decide (t.val = 0) := by
  decide +kernel

/-- and written back at every other. -/
theorem flush0_15 : ∀ t : Fin grid0.N, win0_15.flush t = !decide (t.val = 0) := by
  decide +kernel

/-- Output window 16 is idle at the first point only, -/
theorem idle0_16 : ∀ t : Fin grid0.N, idle0 16 (grid0.coords t) = decide (t.val = 0) := by
  decide +kernel

/-- and written back at every other. -/
theorem flush0_16 : ∀ t : Fin grid0.N, win0_16.flush t = !decide (t.val = 0) := by
  decide +kernel

/-- Output window 17 is idle at the first point only, -/
theorem idle0_17 : ∀ t : Fin grid0.N, idle0 17 (grid0.coords t) = decide (t.val = 0) := by
  decide +kernel

/-- and written back at every other. -/
theorem flush0_17 : ∀ t : Fin grid0.N, win0_17.flush t = !decide (t.val = 0) := by
  decide +kernel

/-- Output window 18 is idle at the first point only, -/
theorem idle0_18 : ∀ t : Fin grid0.N, idle0 18 (grid0.coords t) = decide (t.val = 0) := by
  decide +kernel

/-- and written back at every other. -/
theorem flush0_18 : ∀ t : Fin grid0.N, win0_18.flush t = !decide (t.val = 0) := by
  decide +kernel

end Cert.Kernel2Ideal.Gen

end
-- ==== Proof.Block2.lean ====
/- A grid point's blocks of the input projection: which rows of the arrays they hold. -/
module

public import proofs.«01_k».proof.Proof.Args2
public import proofs.«01_k».proof.Proof.Tile2
public import proofs.«01_k».proof.Proof.Entry2
public import proofs.«01_k».proof.Proof.Data2i

@[expose] public section

set_option maxRecDepth 65536

noncomputable section

namespace Cert.Proof.InputProjection

open Idealize.ShloMosaic Idealize.ShloMosaic.TcCoe Idealize.SL.Sem Cert.Kernel2Ideal Cert.Kernel2Ideal.Gen

/-- Where each input block lies, at a grid point. -/
theorem where_inputs : ∀ t : Fin grid0.N, win0_0.index t = ![min t.val 127 / 8, min t.val 127 % 8, 0]
    ∧ win0_1.index t = ![min t.val 127 / 8, 0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![(t.val - 1) % 8, 0] ∧ win0_11.index t = ![(t.val - 1) % 8, 0] := by
  decide +kernel

/-- Where each output block lies, at a grid point. -/
theorem where_outputs : ∀ t : Fin grid0.N, win0_13.index t = ![(t.val - 1) / 8, 0, (t.val - 1) % 8, 0]
    ∧ win0_14.index t = ![(t.val - 1) / 8, 0, (t.val - 1) % 8, 0]
    ∧ win0_15.index t = ![(t.val - 1) / 8, 0, (t.val - 1) % 8, 0]
    ∧ win0_16.index t = ![(t.val - 1) / 8, (t.val - 1) % 8, 0]
    ∧ win0_17.index t = ![(t.val - 1) / 8, (t.val - 1) % 8, 0] := by
  decide +kernel

variable (m : (ℓ : Loc nD τ sig) → Buf (Elt Ideal) ℓ) (c : Dev nD)

/-- The call's arguments, by row and column. -/
def args : Args where
  x b n k := (m (c, Proc.tc.devRef main_arg0) (ix3 b n k) : EReal)
  shift b k := (m (c, Proc.tc.devRef main_arg1) (ix2 b ⟨k.val, by omega⟩) : EReal)
  scale b k := (m (c, Proc.tc.devRef main_arg1) (ix2 b ⟨2048 + k.val, by omega⟩) : EReal)
  n1 k := (m (c, Proc.tc.devRef main_arg2) (ix1 k) : EReal)
  win k j := (m (c, Proc.tc.devRef main_arg3) (ix2 k j) : EReal)
  qa k := (m (c, Proc.tc.devRef main_arg4) (ix1 k) : EReal)
  uq k j := (m (c, Proc.tc.devRef main_arg5) (ix2 k j) : EReal)
  kva k := (m (c, Proc.tc.devRef main_arg6) (ix1 k) : EReal)
  ukv k j := (m (c, Proc.tc.devRef main_arg7) (ix2 k j) : EReal)
  qn d := (m (c, Proc.tc.devRef main_arg8) (ix1 d) : EReal)
  kn d := (m (c, Proc.tc.devRef main_arg9) (ix1 d) : EReal)
  cr n e := (m (c, Proc.tc.devRef main_arg10) (ix3 n 0 e) : EReal)
  sr n e := (m (c, Proc.tc.devRef main_arg11) (ix3 n 0 e) : EReal)
  cc n e := (m (c, Proc.tc.devRef main_arg12) (ix3 n 0 e) : EReal)
  sc n e := (m (c, Proc.tc.devRef main_arg13) (ix3 n 0 e) : EReal)

/-- A read of the rows' block. -/
theorem block_x (t : Fin cfg0.N) (b : Fin 16) (n : Fin 2048) (r : Fin 256) (k : Fin 2048) (ht : t.val = 8 * b.val + n.val / 256)
    (hr : r.val = n.val % 256) : iblk m c 0 t (ix3 0 r k) = (args m c).x b n k := by
  obtain ⟨w0, -⟩ := where_inputs t
  show V m c main_arg0 ((win0_0.blk t).view.emb _) = _
  rw [V_main_arg0]
  refine congrArg (m (c, Proc.tc.devRef main_arg0)) (?_ : _ = ix3 b n k)
  blk_ext [w0, ht, hr]

/-- A read of the modulation's block. -/
theorem block_mod (t : Fin cfg0.N) (b : Fin 16) (n : Fin 2048) (i : Fin 6) (k : Fin 2048) (ht : t.val = 8 * b.val + n.val / 256) :
    iblk m c 1 t (ix3 0 i k) = V m c main_v45 (ix3 b i k) := by
  obtain ⟨w0, w1, -⟩ := where_inputs t
  show V m c main_v45 ((win0_1.blk t).view.emb _) = _
  refine congrArg (V m c main_v45) (?_ : _ = ix3 b i k)
  blk_ext [w1, ht]

/-- A read of the first norm's weights. -/
theorem block_n1w (t : Fin cfg0.N) (k : Fin 2048) : iblk m c 2 t (ix2 0 k) = (args m c).n1 k := by
  obtain ⟨w0, w1, w2, -⟩ := where_inputs t
  refine Eq.trans ?_ (entry_n1w m c k)
  show V m c main_v14 ((win0_2.blk t).view.emb _) = _
  refine congrArg (V m c main_v14) (?_ : _ = ix2 0 k)
  blk_ext [w2]

/-- A read of the projection's weights. -/
theorem block_win (t : Fin cfg0.N) (k : Fin 2048) (j : Fin 2944) : iblk m c 3 t (ix2 k j) = padRow ((args m c).win k) j := by
  obtain ⟨w0, w1, w2, w3, -⟩ := where_inputs t
  refine Eq.trans ?_ (entry_win m c k j)
  show V m c main_v5 ((win0_3.blk t).view.emb _) = _
  refine congrArg (V m c main_v5) (?_ : _ = ix2 k j)
  blk_ext [w3]

/-- A read of the queries' first norm's weights. -/
theorem block_qa (t : Fin cfg0.N) (k : Fin 512) : iblk m c 4 t (ix2 0 k) = (args m c).qa k := by
  obtain ⟨w0, w1, w2, w3, w4, -⟩ := where_inputs t
  refine Eq.trans ?_ (entry_qanw m c k)
  show V m c main_v15 ((win0_4.blk t).view.emb _) = _
  refine congrArg (V m c main_v15) (?_ : _ = ix2 0 k)
  blk_ext [w4]

/-- A read of the queries' weights. -/
theorem block_uq (t : Fin cfg0.N) (k : Fin 512) (h : Fin 8) (d : Fin 256) : iblk m c 5 t (ix2 k ⟨256 * h.val + d.val, by omega⟩)
    = if hd : d.val < 192 then (args m c).uq k ⟨h.val * 192 + d.val, by omega⟩ else 0 := by
  obtain ⟨w0, w1, w2, w3, w4, w5, -⟩ := where_inputs t
  refine Eq.trans (b := V m c main_v9 (ix2 k ⟨256 * h.val + d.val, by omega⟩)) ?_ ?_
  · show V m c main_v9 ((win0_5.blk t).view.emb _) = _
    refine congrArg (V m c main_v9) (?_ : _ = ix2 k ⟨256 * h.val + d.val, by omega⟩)
    blk_ext [w5]
  · rw [entry_wuq]
    have e0 : (256 * h.val + d.val) / 256 = h.val := by omega
    have e1 : (256 * h.val + d.val) % 256 = d.val := by omega
    simp only [e0, e1]
    by_cases hd : d.val < 192
    · rw [dif_pos ⟨h.isLt, hd⟩, dif_pos hd]; rfl
    · rw [dif_neg (fun h => hd h.2), dif_neg hd]

/-- A read of the norm's weights of the keys and values. -/
theorem block_kva (t : Fin cfg0.N) (k : Fin 256) : iblk m c 6 t (ix2 0 k) = (args m c).kva k := by
  obtain ⟨w0, w1, w2, w3, w4, w5, w6, -⟩ := where_inputs t
  refine Eq.trans ?_ (entry_kvanw m c k)
  show V m c main_v16 ((win0_6.blk t).view.emb _) = _
  refine congrArg (V m c main_v16) (?_ : _ = ix2 0 k)
  blk_ext [w6]

/-- A read of the weights of the keys and values: the keys' columns first. -/
theorem block_ukv (t : Fin cfg0.N) (k : Fin 256) (j i : Fin 2048) (hj : i.val = j.val / 128 % 8 * 256 + j.val / 1024 * 128 + j.val % 128) :
    iblk m c 7 t (ix2 k j) = (args m c).ukv k i := by
  obtain ⟨w0, w1, w2, w3, w4, w5, w6, w7, -⟩ := where_inputs t
  refine Eq.trans ?_ ((entry_wukv m c k j).trans (congrArg (fun i => m (c, Proc.tc.devRef main_arg7) (ix2 k i)) (Fin.ext hj.symm)))
  show V m c main_v13 ((win0_7.blk t).view.emb _) = _
  refine congrArg (V m c main_v13) (?_ : _ = ix2 k j)
  blk_ext [w7]

/-- A read of the weights of a head's queries. -/
theorem block_qn (t : Fin cfg0.N) (d : Fin 256) (hd : d.val < 192) : iblk m c 8 t (ix2 0 d) = (args m c).qn ⟨d.val, hd⟩ := by
  obtain ⟨w0, w1, w2, w3, w4, w5, w6, w7, w8, -⟩ := where_inputs t
  refine Eq.trans ?_ ((entry_qnw m c d).trans (dif_pos hd))
  show V m c main_v18 ((win0_8.blk t).view.emb _) = _
  refine congrArg (V m c main_v18) (?_ : _ = ix2 0 d)
  blk_ext [w8]

/-- A read of the weights of a head's keys. -/
theorem block_kn (t : Fin cfg0.N) (d : Fin 256) (hd : d.val < 192) : iblk m c 9 t (ix2 0 d) = (args m c).kn ⟨d.val, hd⟩ := by
  obtain ⟨w0, w1, w2, w3, w4, w5, w6, w7, w8, w9, -⟩ := where_inputs t
  refine Eq.trans ?_ ((entry_knw m c d).trans (dif_pos hd))
  show V m c main_v20 ((win0_9.blk t).view.emb _) = _
  refine congrArg (V m c main_v20) (?_ : _ = ix2 0 d)
  blk_ext [w9]

/-- A read of the cosines' block. -/
theorem block_rc (t : Fin cfg0.N) (b : Fin 16) (n : Fin 2048) (r : Fin 256) (e : Fin 128) (ht : t.val = 8 * b.val + n.val / 256 + 1)
    (hr : r.val = n.val % 256) : iblk m c 10 t (ix2 r e) = V m c main_v26 (ix2 n e) := by
  obtain ⟨w0, w1, w2, w3, w4, w5, w6, w7, w8, w9, w10, -⟩ := where_inputs t
  show V m c main_v26 ((win0_10.blk t).view.emb _) = _
  refine congrArg (V m c main_v26) (?_ : _ = ix2 n e)
  blk_ext [w10, ht, hr]

/-- A read of the sines' block. -/
theorem block_rs (t : Fin cfg0.N) (b : Fin 16) (n : Fin 2048) (r : Fin 256) (e : Fin 128) (ht : t.val = 8 * b.val + n.val / 256 + 1)
    (hr : r.val = n.val % 256) : iblk m c 11 t (ix2 r e) = V m c main_v29 (ix2 n e) := by
  obtain ⟨w0, w1, w2, w3, w4, w5, w6, w7, w8, w9, w10, w11⟩ := where_inputs t
  show V m c main_v29 ((win0_11.blk t).view.emb _) = _
  refine congrArg (V m c main_v29) (?_ : _ = ix2 n e)
  blk_ext [w11, ht, hr]

end Cert.Proof.InputProjection

end
-- ==== Proof.Heads2.lean ====
/- The padded and factored forms of the input projection's heads are the reference's. -/
module

public import proofs.«01_k».proof.Proof.Norm

@[expose] public section

noncomputable section

namespace Cert.Proof.InputProjection

open Idealize.ShloMosaic

/-- The pattern of the head width. -/
theorem ofBits_head : Ideal.ofBits .f32 0x43400000#32 = ((192 : ℝ) : EReal) := by
  simp [Ideal.ofBits, Ideal.ieee, -EReal.coe_mul]
  norm_num

/-- The small constant is a positive real. -/
theorem eps_pos : ∃ e : ℝ, 0 < e ∧ eps = (e : EReal) := by
  refine ⟨8796093 / 2 ^ 43, by positivity, ?_⟩
  unfold eps
  simp [Ideal.ofBits, Ideal.ieee, -EReal.coe_mul]
  norm_num

/-- A square is nonnegative. -/
theorem square_nonneg (x : EReal) : 0 ≤ x * x := by
  rcases le_total 0 x with h | h
  · exact EReal.mul_nonneg h h
  · rw [← neg_mul_neg]
    exact EReal.mul_nonneg (EReal.neg_nonneg.mpr h) (EReal.neg_nonneg.mpr h)

/-- One over the root of the mean square of a head of 192 lanes. -/
def headRoot (x : Fin 192 → EReal) : EReal := Ideal.rsqrt (Ideal.div (∑ d, x d * x d) (Ideal.ofBits .f32 0x43400000#32) + eps)

/-- A normed head is its entries times the root times the weights. -/
theorem normed_head (x w : Fin 192 → EReal) : normed (Ideal.ofBits .f32 0x43400000#32) x w = fun d => x d * headRoot x * w d := rfl

/-- The root of a head lies between zero and infinity. -/
theorem headRoot_bounds (x : Fin 192 → EReal) : 0 ≤ headRoot x ∧ headRoot x ≠ ⊤ := by
  obtain ⟨e, he, e_eq⟩ := eps_pos
  have hs : 0 ≤ ∑ d, x d * x d := Finset.sum_nonneg fun d _ => square_nonneg _
  unfold headRoot
  rw [ofBits_head, Ideal.div_coe (by norm_num), e_eq]
  have h0 : 0 ≤ (∑ d, x d * x d) * ((1 / 192 : ℝ) : EReal) := EReal.mul_nonneg hs (by exact_mod_cast (by norm_num : (0 : ℝ) ≤ 1 / 192))
  generalize (∑ d, x d * x d) * ((1 / 192 : ℝ) : EReal) = s at h0
  induction s using EReal.rec with
  | bot => simp at h0
  | top => simp
  | coe s =>
    have h1 : 0 ≤ s := by exact_mod_cast h0
    rw [← EReal.coe_add, Ideal.rsqrt_coe, if_neg (by linarith), if_neg (by linarith)]
    exact ⟨by exact_mod_cast inv_nonneg.mpr (Real.sqrt_nonneg _), EReal.coe_ne_top _⟩

/-- The root of a head kept in two vectors of 128 lanes, the last 64 of them zero. -/
theorem headScale_eq (x : Fin 192 → EReal) (a b : Fin 128 → EReal) (ha : ∀ e : Fin 128, a e = x ⟨e.val, by omega⟩)
    (hb : ∀ e : Fin 128, b e = if h : e.val < 64 then x ⟨128 + e.val, by omega⟩ else 0) : headScale a b = headRoot x := by
  unfold headScale headRoot
  rw [ofBits_head, Ideal.div_coe (by norm_num)]
  have e0 := Fin.sum_univ_add (a := 128) (b := 64) fun d => x d * x d
  have e1 := Fin.sum_univ_add (a := 64) (b := 64) fun d => b d * b d
  have z : ∑ i : Fin 64, b (Fin.natAdd 64 i) * b (Fin.natAdd 64 i) = 0 :=
    Finset.sum_eq_zero fun i _ => by rw [hb, dif_neg (by simp), zero_mul]
  rw [show (∑ d, b d * b d) = ∑ d : Fin (64 + 64), b d * b d from rfl, e1, z, add_zero,
    show (∑ d, x d * x d) = ∑ d : Fin (128 + 64), x d * x d from rfl, e0]
  have h0 : ∀ i : Fin 128, a i * a i = x (Fin.castAdd 64 i) * x (Fin.castAdd 64 i) := fun i => by rw [ha]; rfl
  have h1 : ∀ i : Fin 64, b (Fin.castAdd 64 i) * b (Fin.castAdd 64 i) = x (Fin.natAdd 128 i) * x (Fin.natAdd 128 i) := fun i => by
    rw [hb, dif_pos (by simp)]
    rfl
  simp only [h0, h1]

/-- A rotation of a scaled head is the scaled rotation, for a factor between zero and infinity. -/
theorem rotated_mul (u : Fin 192 → EReal) (s : EReal) (h0 : 0 ≤ s) (h1 : s ≠ ⊤) (cr sr cc sc : Fin 16 → EReal) (d : Fin 192) :
    rotated (fun d => u d * s) cr sr cc sc d = rotated u cr sr cc sc d * s := by
  have add (a b c e : EReal) : a * s * c + b * s * e = (a * c + b * e) * s := by
    rw [EReal.right_distrib_of_nonneg_of_ne_top h0 h1, mul_right_comm a, mul_right_comm b]
  have sub (a b c e : EReal) : a * s * c - b * s * e = (a * c - b * e) * s := by
    rw [sub_eq_add_neg, sub_eq_add_neg, ← mul_neg, ← mul_neg, add]
  unfold rotated
  split_ifs
  · rfl
  · exact sub _ _ _ _
  · exact add _ _ _ _
  · exact sub _ _ _ _
  · exact add _ _ _ _

/-- Which lanes turn with the one ahead. -/
theorem ahead_iff : ∀ i : Fin 128, IntOp.cmpi CmpIPredicate.eq (IntOp.andi (BitVec.ofNat 32 i.val) 16#32) 0#32
    = if i.val % 32 < 16 then 1 else 0 := by decide +kernel

/-- The turn of 128 lanes, by the lane's place among 32. -/
theorem turned_eq (v c s : Fin 128 → EReal) (i : Fin 128) : turned v c s i = v i * c i
    + (if i.val % 32 < 16 then v ⟨(i.val + 16) % 128, Nat.mod_lt _ (by norm_num)⟩ else v ⟨(i.val + 112) % 128, Nat.mod_lt _ (by norm_num)⟩) * s i := by
  unfold turned
  rw [ahead_iff]
  have e0 : i.val + 128 - 112 = i.val + 16 := by omega
  have e1 : i.val + 128 - 16 = i.val + 112 := by omega
  simp only [e0, e1]
  split
  · rfl
  · rfl

/-- The turn of the last 64 lanes of a head, kept in 128 lanes, by the padded tables is the reference's rotation. -/
theorem turned_rotated (u : Fin 192 → EReal) (cr sr cc sc : Fin 16 → EReal) (v c s : Fin 128 → EReal)
    (hv : ∀ (e : Fin 128) (h : e.val < 64), v e = u ⟨128 + e.val, by omega⟩)
    (c0 : ∀ (e : Fin 16), c ⟨e.val, by omega⟩ = cr e) (c1 : ∀ (e : Fin 16), c ⟨16 + e.val, by omega⟩ = cr e)
    (c2 : ∀ (e : Fin 16), c ⟨32 + e.val, by omega⟩ = cc e) (c3 : ∀ (e : Fin 16), c ⟨48 + e.val, by omega⟩ = cc e)
    (s0 : ∀ (e : Fin 16), s ⟨e.val, by omega⟩ = -sr e) (s1 : ∀ (e : Fin 16), s ⟨16 + e.val, by omega⟩ = sr e)
    (s2 : ∀ (e : Fin 16), s ⟨32 + e.val, by omega⟩ = -sc e) (s3 : ∀ (e : Fin 16), s ⟨48 + e.val, by omega⟩ = sc e)
    (d : Fin 192) (e : Fin 128) (hd : d.val = 128 + e.val) :
    turned v c s e = rotated u cr sr cc sc d := by
  have he : e.val < 64 := by omega
  rw [turned_eq]
  have at_ (n : Nat) (hn : n < 128) (h : n < 64) (k : Nat) (hk : k < 192) (hkn : k = 128 + n) : v ⟨n, hn⟩ = u ⟨k, hk⟩ := by
    subst hkn; exact hv ⟨n, hn⟩ h
  have ve : v e = u d := by rw [hv e he]; congr 1; exact Fin.ext hd.symm
  unfold rotated
  rw [dif_neg (by omega), ve]
  by_cases h1 : d.val < 144
  · rw [dif_pos h1, if_pos (by omega), at_ _ _ (by omega) (d.val + 16) (by omega) (by omega)]
    have := c0 ⟨d.val - 128, by omega⟩
    have := s0 ⟨d.val - 128, by omega⟩
    simp only [show d.val - 128 = e.val by omega, Fin.eta] at *
    simp only [*, mul_neg, sub_eq_add_neg]
  rw [dif_neg h1]
  by_cases h2 : d.val < 160
  · rw [dif_pos h2, if_neg (by omega), at_ _ _ (by omega) (d.val - 16) (by omega) (by omega)]
    have := c1 ⟨d.val - 144, by omega⟩
    have := s1 ⟨d.val - 144, by omega⟩
    simp only [show 16 + (d.val - 144) = e.val by omega, Fin.eta] at *
    simp only [*]
  rw [dif_neg h2]
  by_cases h3 : d.val < 176
  · rw [dif_pos h3, if_pos (by omega), at_ _ _ (by omega) (d.val + 16) (by omega) (by omega)]
    have := c2 ⟨d.val - 160, by omega⟩
    have := s2 ⟨d.val - 160, by omega⟩
    simp only [show 32 + (d.val - 160) = e.val by omega, Fin.eta] at *
    simp only [*, mul_neg, sub_eq_add_neg]
  rw [dif_neg h3, if_neg (by omega), at_ _ _ (by omega) (d.val - 16) (by omega) (by omega)]
  have := c3 ⟨d.val - 176, by omega⟩
  have := s3 ⟨d.val - 176, by omega⟩
  simp only [show 48 + (d.val - 176) = e.val by omega, Fin.eta] at *
  simp only [*]

end Cert.Proof.InputProjection

end
-- ==== Proof.Rows2.lean ====
/- What a grid point of the input projection leaves, row by row: the call's queries, keys, values and gates. -/
module

public import proofs.«01_k».proof.Proof.Block2
public import proofs.«01_k».proof.Proof.Heads2

@[expose] public section

set_option maxRecDepth 65536

noncomputable section

namespace Cert.Proof.InputProjection

open Idealize.ShloMosaic Idealize.ShloMosaic.TcCoe Idealize.SL.Sem Cert.Kernel2Ideal Cert.Kernel2Ideal.Gen

variable (m : (ℓ : Loc nD τ sig) → Buf (Elt Ideal) ℓ) (c : Dev nD)

/-- The projected tile holds the projected rows. -/
theorem tile_at (t : Fin cfg0.N) (b : Fin 16) (n : Fin 2048) (r : Fin 256) (ht : t.val = 8 * b.val + n.val / 256)
    (hr : r.val = n.val % 256) (j : Fin 2944) : tileP m c t (ix2 r j) = padRow ((args m c).row b n) j := by
  have hx : (fun k => iblk m c 0 t (ix3 0 r k)) = (args m c).x b n := funext fun k => block_x m c t b n r k ht hr
  have hw : (fun k => iblk m c 2 t (ix2 0 k)) = (args m c).n1 := funext fun k => block_n1w m c t k
  have h1 (k : Fin 2048) : iblk m c 1 t (ix3 0 1 k) = (args m c).scale b k := by
    refine (block_mod m c t b n 1 k ht).trans ((entry_mod m c b 1 k).trans ?_)
    refine congrArg (fun i => m (c, Proc.tc.devRef main_arg1) (ix2 b i)) (Fin.ext ?_)
    show 1 * 2048 + k.val = 2048 + k.val
    omega
  have h0 (k : Fin 2048) : iblk m c 1 t (ix3 0 0 k) = (args m c).shift b k := by
    refine (block_mod m c t b n 0 k ht).trans ((entry_mod m c b 0 k).trans ?_)
    refine congrArg (fun i => m (c, Proc.tc.devRef main_arg1) (ix2 b i)) (Fin.ext ?_)
    show 0 * 2048 + k.val = k.val
    omega
  have hm (k : Fin 2048) : f28_v73 (iblk m c 0 t) (iblk m c 1 t) (iblk m c 2 t) (ix2 r k)
      = modulated ((args m c).x b n) (args m c).n1 ((args m c).shift b) ((args m c).scale b) k := by
    rw [mod_at, hx, hw, h1, h0]
    rfl
  show outP (iblk m c 0 t) (iblk m c 1 t) (iblk m c 2 t) (iblk m c 3 t) (ix2 r j) = _
  rw [outP_at]
  simp only [hm, block_win]
  unfold padRow
  split_ifs
  · rfl
  · rfl
  · rfl
  · simp

/-- The grid point that writes a row's results. -/
def pointOf (b : Fin 16) (n : Fin 2048) : Fin cfg0.N := ⟨8 * b.val + n.val / 256 + 1, by show _ < 129; omega⟩

/-- The row's place in its tile. -/
def placeOf (n : Fin 2048) : Fin 256 := ⟨n.val % 256, by omega⟩

/-- The projected rows, in the tile the point before left. -/
theorem tile_before (b : Fin 16) (n : Fin 2048) (j : Fin 2944) :
    tileP m c (prevPt (pointOf b n)) (ix2 (placeOf n) j) = padRow ((args m c).row b n) j :=
  tile_at m c _ b n _ (by show 8 * b.val + n.val / 256 + 1 - 1 = _; omega) rfl j

/-- A head's queries before they are normed. -/
theorem qraw_row (b : Fin 16) (n : Fin 2048) (h : Fin 8) (d : Fin 256) :
    d37_v355 (iblk m c 4 (pointOf b n)) (iblk m c 5 (pointOf b n)) (tileP m c (prevPt (pointOf b n))) (ix2 (placeOf n) ⟨256 * h.val + d.val, by omega⟩)
      = if hd : d.val < 192 then queryHead ((args m c).row b n) (args m c).qa (args m c).uq h ⟨d.val, hd⟩ else 0 := by
  rw [qraw_at]
  simp only [tile_before, block_qa, block_uq]
  split_ifs with hd
  · unfold queryHead
    refine Finset.sum_congr rfl fun k _ => congrArg (· * _) (congrArg (fun p => normed _ p _ k) (funext fun i => ?_))
    unfold padRow
    rw [dif_pos (show i.val < 768 by omega)]
  · simp

/-- A head's keys without positions, and its values. -/
theorem kvraw_row (b : Fin 16) (n : Fin 2048) (h : Fin 8) (d : Fin 256) (j : Fin 2048)
    (hj : h.val * 256 + d.val = j.val / 128 % 8 * 256 + j.val / 1024 * 128 + j.val % 128) :
    d29_v65 (iblk m c 6 (pointOf b n)) (iblk m c 7 (pointOf b n)) (tileP m c (prevPt (pointOf b n))) (ix2 (placeOf n) j)
      = pairHead ((args m c).row b n) (args m c).kva (args m c).ukv h d := by
  rw [kvraw_at]
  simp only [tile_before, block_kva, block_ukv m c _ _ j ⟨h.val * 256 + d.val, by omega⟩ hj]
  unfold pairHead
  refine Finset.sum_congr rfl fun k _ => congrArg (· * _) (congrArg (fun p => normed _ p _ k) (funext fun i => ?_))
  unfold padRow
  rw [dif_pos (show 512 + i.val < 768 by omega)]

/-- The lanes the heads share. -/
theorem shared_row (b : Fin 16) (n : Fin 2048) (e : Fin 128) :
    tileP m c (prevPt (pointOf b n)) (ix2 (placeOf n) ⟨2816 + e.val, by omega⟩)
      = if h : e.val < 64 then (args m c).row b n ⟨768 + e.val, by omega⟩ else 0 := by
  rw [tile_before]
  unfold padRow
  rw [dif_neg (by simp; omega), dif_neg (by simp; omega)]
  have e0 : 2816 + e.val - 768 - 2048 = e.val := by omega
  simp only [e0]

/-- The queries' factor lies between zero and infinity. -/
theorem qScale_bounds : 0 ≤ qScale ∧ qScale ≠ ⊤ := by
  unfold qScale
  refine ⟨?_, EReal.coe_ne_top _⟩
  exact_mod_cast mul_nonneg (inv_nonneg.mpr (Real.sqrt_nonneg _)) (inv_nonneg.mpr (Real.log_nonneg (by norm_num)))

/-- The turn of a head's last 64 lanes by the point's tables is the reference's rotation. -/
theorem turn_row (b : Fin 16) (n : Fin 2048) (u : Fin 192 → EReal) (v : Fin 128 → EReal)
    (hv : ∀ (e : Fin 128) (h : e.val < 64), v e = u ⟨128 + e.val, by omega⟩) (d : Fin 192) (e : Fin 128) (hd : d.val = 128 + e.val) :
    turned v (fun i => iblk m c 10 (pointOf b n) (ix2 (placeOf n) i)) (fun i => iblk m c 11 (pointOf b n) (ix2 (placeOf n) i)) e
      = rotated u ((args m c).cr n) ((args m c).sr n) ((args m c).cc n) ((args m c).sc n) d := by
  have rc (i : Fin 128) := (block_rc m c (pointOf b n) b n (placeOf n) i rfl rfl).trans (entry_rc m c n i)
  have rs (i : Fin 128) := (block_rs m c (pointOf b n) b n (placeOf n) i rfl rfl).trans (entry_rs m c n i)
  refine turned_rotated u _ _ _ _ v _ _ hv (fun e => ?_) (fun e => ?_) (fun e => ?_) (fun e => ?_) (fun e => ?_) (fun e => ?_) (fun e => ?_) (fun e => ?_) d e hd
  · exact (rc _).trans (dif_pos e.isLt)
  · refine (rc _).trans ((dif_neg (by simp)).trans ((dif_pos (by simp)).trans ?_))
    exact congrArg (fun i => m (c, Proc.tc.devRef main_arg10) (ix3 n 0 i)) (Fin.ext (by simp))
  · refine (rc _).trans ((dif_neg (by simp; omega)).trans ((dif_neg (by simp; omega)).trans ((dif_pos (by simp; omega)).trans ?_)))
    exact congrArg (fun i => m (c, Proc.tc.devRef main_arg12) (ix3 n 0 i)) (Fin.ext (by simp; omega))
  · refine (rc _).trans ((dif_neg (by simp; omega)).trans ((dif_neg (by simp; omega)).trans ((dif_neg (by simp; omega)).trans ((dif_pos (by simp; omega)).trans ?_))))
    exact congrArg (fun i => m (c, Proc.tc.devRef main_arg12) (ix3 n 0 i)) (Fin.ext (by simp; omega))
  · exact (rs _).trans (dif_pos e.isLt)
  · refine (rs _).trans ((dif_neg (by simp)).trans ((dif_pos (by simp)).trans ?_))
    exact congrArg (fun i => m (c, Proc.tc.devRef main_arg11) (ix3 n 0 i)) (Fin.ext (by simp))
  · refine (rs _).trans ((dif_neg (by simp; omega)).trans ((dif_neg (by simp; omega)).trans ((dif_pos (by simp; omega)).trans ?_)))
    exact congrArg (fun i => Neg.neg (α := EReal) (m (c, Proc.tc.devRef main_arg13) (ix3 n 0 i))) (Fin.ext (by simp; omega))
  · refine (rs _).trans ((dif_neg (by simp; omega)).trans ((dif_neg (by simp; omega)).trans ((dif_neg (by simp; omega)).trans ((dif_pos (by simp; omega)).trans ?_))))
    exact congrArg (fun i => m (c, Proc.tc.devRef main_arg13) (ix3 n 0 i)) (Fin.ext (by simp; omega))

/-- The queries a grid point leaves. -/
theorem query_row (b : Fin 16) (n : Fin 2048) (h : Fin 8) (d : Fin 192) :
    outQ (iblk m c 4 (pointOf b n)) (iblk m c 5 (pointOf b n)) (iblk m c 8 (pointOf b n)) (iblk m c 10 (pointOf b n)) (iblk m c 11 (pointOf b n))
      (tileP m c (prevPt (pointOf b n))) (ix4 0 h (placeOf n) ⟨d.val, by omega⟩) = (args m c).query b n h d := by
  have raw := qraw_row m c b n h
  have hs := headScale_eq (queryHead ((args m c).row b n) (args m c).qa (args m c).uq h) _ _
    (fun e => (raw ⟨e.val, by omega⟩).trans (dif_pos (by show e.val < 192; omega)))
    (fun e => (raw ⟨128 + e.val, by omega⟩).trans (dite_congr (by simp; omega) (fun _ => rfl) (fun _ => rfl)))
  unfold Args.query
  rw [normed_head]
  generalize hx : queryHead ((args m c).row b n) (args m c).qa (args m c).uq h = x at *
  by_cases hd : d.val < 128
  · refine (outQ_lo _ _ _ _ _ _ h _ ⟨d.val, hd⟩).trans ?_
    rw [hs, raw ⟨d.val, by omega⟩, block_qn m c _ ⟨d.val, by omega⟩ (by show d.val < 192; omega), dif_pos (by show d.val < 192; omega)]
    unfold rotated
    rw [dif_pos hd]
    ac_rfl
  · have e0 : (⟨d.val, by omega⟩ : Fin 256) = ⟨128 + (⟨d.val - 128, by omega⟩ : Fin 128).val, by simp; omega⟩ := Fin.ext (by simp; omega)
    rw [e0]
    refine (outQ_hi _ _ _ _ _ _ h _ ⟨d.val - 128, by omega⟩).trans ?_
    rw [hs, ← rotated_mul _ _ qScale_bounds.1 qScale_bounds.2]
    refine turn_row m c b n _ _ (fun e he => ?_) d _ (by simp; omega)
    rw [raw ⟨128 + e.val, by omega⟩, block_qn m c _ ⟨128 + e.val, by omega⟩ (by show 128 + e.val < 192; omega), dif_pos (by show 128 + e.val < 192; omega)]
    ac_rfl

/-- The keys a grid point leaves. -/
theorem key_row (b : Fin 16) (n : Fin 2048) (h : Fin 8) (d : Fin 192) :
    outK (iblk m c 6 (pointOf b n)) (iblk m c 7 (pointOf b n)) (iblk m c 9 (pointOf b n)) (iblk m c 10 (pointOf b n)) (iblk m c 11 (pointOf b n))
      (tileP m c (prevPt (pointOf b n))) (ix4 0 h (placeOf n) ⟨d.val, by omega⟩) = (args m c).key b n h d := by
  have raw (e : Fin 128) := kvraw_row m c b n h ⟨e.val, by omega⟩ ⟨128 * h.val + e.val, by omega⟩ (by simp; omega)
  have lo (e : Fin 128) : keyHead ((args m c).row b n) (args m c).kva (args m c).ukv h ⟨e.val, by omega⟩
      = pairHead ((args m c).row b n) (args m c).kva (args m c).ukv h ⟨e.val, by omega⟩ := dif_pos e.isLt
  have hs := headScale_eq (keyHead ((args m c).row b n) (args m c).kva (args m c).ukv h) _ _
    (fun e => (raw e).trans (lo e).symm)
    (fun e => (shared_row m c b n e).trans (dite_congr rfl (fun he => ?_) (fun _ => rfl)))
  rotate_left
  · refine Eq.trans ?_ (dif_neg (by simp)).symm
    exact congrArg _ (Fin.ext (by simp))
  unfold Args.key
  rw [normed_head]
  have hi (e : Fin 128) (he : e.val < 64) : keyHead ((args m c).row b n) (args m c).kva (args m c).ukv h ⟨128 + e.val, by omega⟩
      = (args m c).row b n ⟨768 + e.val, by omega⟩ := (dif_neg (by simp)).trans (congrArg _ (Fin.ext (by simp)))
  generalize hx : keyHead ((args m c).row b n) (args m c).kva (args m c).ukv h = x at *
  by_cases hd : d.val < 128
  · refine (outK_lo _ _ _ _ _ _ h _ ⟨d.val, hd⟩).trans ?_
    rw [hs, raw ⟨d.val, hd⟩, block_kn m c _ ⟨d.val, by omega⟩ (by show d.val < 192; omega), ← lo ⟨d.val, hd⟩]
    unfold rotated
    rw [dif_pos hd]
  · have e0 : (⟨d.val, by omega⟩ : Fin 256) = ⟨128 + (⟨d.val - 128, by omega⟩ : Fin 128).val, by simp; omega⟩ := Fin.ext (by simp; omega)
    rw [e0]
    refine (outK_hi _ _ _ _ _ _ h _ ⟨d.val - 128, by omega⟩).trans ?_
    rw [hs, turn_row m c b n (fun d => x d * (args m c).kn d) _ (fun e he => ?_) d _ (by simp; omega), ← rotated_mul _ _ (headRoot_bounds x).1 (headRoot_bounds x).2]
    · exact congrArg (fun u => rotated u _ _ _ _ d) (funext fun e => mul_right_comm _ _ _)
    · rw [shared_row, dif_pos he, block_kn m c _ ⟨128 + e.val, by omega⟩ (by show 128 + e.val < 192; omega), hi e he]

/-- The values a grid point leaves. -/
theorem value_row (b : Fin 16) (n : Fin 2048) (h : Fin 8) (d : Fin 128) :
    outV (iblk m c 6 (pointOf b n)) (iblk m c 7 (pointOf b n)) (tileP m c (prevPt (pointOf b n))) (ix4 0 h (placeOf n) d) = (args m c).value b n h d := by
  refine (outV_at _ _ _ h _ d).trans (kvraw_row m c b n h ⟨128 + d.val, by omega⟩ _ ?_)
  simp
  omega

/-- The gates a grid point leaves. -/
theorem gate_row (b : Fin 16) (n : Fin 2048) (d : Fin 512) :
    outGb (tileP m c (prevPt (pointOf b n))) (ix3 0 (placeOf n) d) = (args m c).gate b n d := by
  refine (outGb_at _ _ d).trans ((tile_before m c b n _).trans ?_)
  unfold padRow Args.gate
  rw [dif_neg (by simp), dif_pos (by simp; omega)]
  exact congrArg _ (Fin.ext (by simp))

/-- The gated entries a grid point leaves. -/
theorem product_row (b : Fin 16) (n : Fin 2048) (d : Fin 512) :
    outG (tileP m c (prevPt (pointOf b n))) (ix3 0 (placeOf n) d) = (args m c).product b n d := by
  refine (outG_at _ _ d).trans ?_
  rw [tile_before, tile_before]
  unfold padRow Args.product
  rw [dif_neg (by simp; omega), dif_pos (by simp; omega), dif_neg (by simp; omega), dif_pos (by simp; omega)]
  exact congrArg₂ _ (congrArg _ (Fin.ext (by simp; omega))) (congrArg _ (Fin.ext (by simp; omega)))

end Cert.Proof.InputProjection

end
-- ==== Proof.Run2i.lean ====
/- The run of the input projection, and its frame. -/
module

public import proofs.«01_k».proof.Proof.Data2i
public import Idealize.ShloMosaic.Lib.Claim

@[expose] public section

set_option maxRecDepth 65536

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)) ∗ (∃ d, owns (c : Thread nD τ) (st0_15 t) fullShare ((dats m 0 c).before 15 t d)) ∗ (∃ d, owns (c : Thread nD τ) (st0_16 t) fullShare ((dats m 0 c).before 16 t d)) ∗ (∃ d, owns (c : Thread nD τ) (st0_17 t) fullShare ((dats m 0 c).before 17 t d)) ∗ (∃ d, owns (c : Thread nD τ) (st0_18 t) fullShare ((dats m 0 c).before 18 t d)))

/-- What it returns at the first point: the outputs as it found them. -/
def bodyPost0 (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ (∃ d, owns (c : Thread nD τ) (st0_13 t) fullShare ((dats m 0 c).before 13 t d)) ∗ (∃ d, owns (c : Thread nD τ) (st0_14 t) fullShare ((dats m 0 c).before 14 t d)) ∗ (∃ d, owns (c : Thread nD τ) (st0_15 t) fullShare ((dats m 0 c).before 15 t d)) ∗ (∃ d, owns (c : Thread nD τ) (st0_16 t) fullShare ((dats m 0 c).before 16 t d)) ∗ (∃ d, owns (c : Thread nD τ) (st0_17 t) fullShare ((dats m 0 c).before 17 t d)) ∗ (∃ d, owns (c : Thread nD τ) (st0_18 t) fullShare ((dats m 0 c).before 18 t d)))

/-- What it returns at a later point. -/
def bodyPost1 (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t) ∗ owns (c : Thread nD τ) (st0_14 t) fullShare ((dats m 0 c).after 14 t) ∗ owns (c : Thread nD τ) (st0_15 t) fullShare ((dats m 0 c).after 15 t) ∗ owns (c : Thread nD τ) (st0_16 t) fullShare ((dats m 0 c).after 16 t) ∗ owns (c : Thread nD τ) (st0_17 t) fullShare ((dats m 0 c).after 17 t) ∗ owns (c : Thread nD τ) (st0_18 t) fullShare ((dats m 0 c).after 18 t))

set_option maxHeartbeats 1000000 in
/-- The body at the first point. -/
theorem body_fill (c : Dev nD) (t : Fin cfg0.N) (ht : t.val = 0) :
    bodyPre m c t ⊢ wp frame (wpE (defs₀ (F := F)) Variants.none c none) Set.univ (bodyAt0 t) (fun _ => bodyPost0 m c t) := by
  obtain ⟨b1, b2, b3, b4, b5, b6⟩ := branch_fill t ht
  unfold bodyPre bodyPost0 bodyAt0
  simp only [before0_0, before0_1, before0_2, before0_3, before0_4, before0_5, before0_6, before0_7, before0_8, before0_9, before0_10, before0_11, before0_12]
  rw [Phi_before, Phi_after, show (dats m 0 c).owesAt () t.succ = (dats m 0 c).owesAt () t.castSucc from rfl,
    after0_0, after0_1, after0_2, after0_3, after0_4, after0_5, after0_6, after0_7, after0_8, after0_9, after0_10, after0_11, after0_12]
  unfold PhiS
  iintro ⟨⟨⟨%e0, %he0, S0⟩, ⟨%e1, %he1, S1⟩, ⟨%e2, S2⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (triple_fill c Set.univ (grid0.coords t) b1 b2 b3 b4 b5 b6 _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [S0]; · iexists _; iexact S0
  isplitl [S1]; · iexists _; iexact S1
  isplitl [S2]; · iexists _; iexact S2
  iintro ⟨H0, H1, H2, H3, H4, H5, H6, H7, H8, H9, H10, H11, H12, S0, ⟨%g1, S1⟩, ⟨%g2, S2⟩⟩
  isplitl [S0 S1 S2 Hr]
  · isplitl [S0]
    · iexists _; isplitr; swap; · iexact S0
      ipureintro; intro h0 h1 h2
      rfl
    isplitl [S1]
    · iexists _; isplitr; swap; · iexact S1
      ipureintro; intro h0 h1 h2
      have h1 : t.val + 1 < 129 := h1
      have h2 : (t.val + 1) % 2 = 0 := h2
      omega
    isplitl [S2]; · iexists _; iexact S2
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

set_option maxHeartbeats 1000000 in
/-- The body at an even point between. -/
theorem body_even (c : Dev nD) (t : Fin cfg0.N) (ht : t.val ≠ 0) (hl : t.val ≠ 128) (he : t.val % 2 = 0) :
    bodyPre m c t ⊢ wp frame (wpE (defs₀ (F := F)) Variants.none c none) Set.univ (bodyAt0 t) (fun _ => bodyPost1 m c t) := by
  obtain ⟨b1, b2, b3, b4, b5, b6⟩ := branch_even t ht hl he
  unfold bodyPre bodyPost1 bodyAt0
  simp only [before0_0, before0_1, before0_2, before0_3, before0_4, before0_5, before0_6, before0_7, before0_8, before0_9, before0_10, before0_11, before0_12]
  rw [Phi_before, Phi_after, show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  unfold PhiS
  iintro ⟨⟨⟨%e0, %he0, S0⟩, ⟨%e1, %he1, S1⟩, ⟨%e2, S2⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  have hP : e1 = tileP m c (prevPt t) := he1 (Nat.pos_of_ne_zero (by show t.val ≠ 0; omega)) t.isLt (by show t.val % 2 = _; omega)
  subst hP
  iapply (triple_even c Set.univ (grid0.coords t) b1 b2 b3 b4 b5 b6 _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (tileP m c (prevPt t)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [S0]; · iexists _; iexact S0
  isplitl [S1]; · iexact S1
  isplitl [S2]; · iexists _; iexact S2
  iintro ⟨H0, H1, H2, H3, H4, H5, H6, H7, H8, H9, H10, H11, H12, H13, H14, H15, H16, H17, H18, S0, ⟨%g1, S1⟩, ⟨%g2, S2⟩⟩
  isplitl [S0 S1 S2 Hr]
  · isplitl [S0]
    · iexists _; isplitr; swap; · iexact S0
      ipureintro; intro h0 h1 h2
      rfl
    isplitl [S1]
    · iexists _; isplitr; swap; · iexact S1
      ipureintro; intro h0 h1 h2
      have h1 : t.val + 1 < 129 := h1
      have h2 : (t.val + 1) % 2 = 0 := h2
      omega
    isplitl [S2]; · iexists _; iexact S2
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

set_option maxHeartbeats 1000000 in
/-- The body at an odd point. -/
theorem body_odd (c : Dev nD) (t : Fin cfg0.N) (ho : t.val % 2 = 1) :
    bodyPre m c t ⊢ wp frame (wpE (defs₀ (F := F)) Variants.none c none) Set.univ (bodyAt0 t) (fun _ => bodyPost1 m c t) := by
  obtain ⟨b1, b2, b3, b4, b5, b6⟩ := branch_odd t ho
  unfold bodyPre bodyPost1 bodyAt0
  simp only [before0_0, before0_1, before0_2, before0_3, before0_4, before0_5, before0_6, before0_7, before0_8, before0_9, before0_10, before0_11, before0_12]
  rw [Phi_before, Phi_after, show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  unfold PhiS
  iintro ⟨⟨⟨%e0, %he0, S0⟩, ⟨%e1, %he1, S1⟩, ⟨%e2, S2⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  have hP : e0 = tileP m c (prevPt t) := he0 (Nat.pos_of_ne_zero (by show t.val ≠ 0; omega)) t.isLt (by show t.val % 2 = _; omega)
  subst hP
  iapply (triple_odd c Set.univ (grid0.coords t) b1 b2 b3 b4 b5 b6 _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (tileP m c (prevPt t)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [S0]; · iexact S0
  isplitl [S1]; · iexists _; iexact S1
  isplitl [S2]; · iexists _; iexact S2
  iintro ⟨H0, H1, H2, H3, H4, H5, H6, H7, H8, H9, H10, H11, H12, H13, H14, H15, H16, H17, H18, ⟨%g0, S0⟩, S1, ⟨%g2, S2⟩⟩
  isplitl [S0 S1 S2 Hr]
  · isplitl [S0]
    · iexists _; isplitr; swap; · iexact S0
      ipureintro; intro h0 h1 h2
      have h1 : t.val + 1 < 129 := h1
      have h2 : (t.val + 1) % 2 = 1 := h2
      omega
    isplitl [S1]
    · iexists _; isplitr; swap; · iexact S1
      ipureintro; intro h0 h1 h2
      rfl
    isplitl [S2]; · iexists _; iexact S2
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

set_option maxHeartbeats 1000000 in
/-- The body at the last point. -/
theorem body_drain (c : Dev nD) (t : Fin cfg0.N) (hl : t.val = 128) :
    bodyPre m c t ⊢ wp frame (wpE (defs₀ (F := F)) Variants.none c none) Set.univ (bodyAt0 t) (fun _ => bodyPost1 m c t) := by
  obtain ⟨b1, b2, b3, b4, b5, b6⟩ := branch_drain t hl
  unfold bodyPre bodyPost1 bodyAt0
  simp only [before0_0, before0_1, before0_2, before0_3, before0_4, before0_5, before0_6, before0_7, before0_8, before0_9, before0_10, before0_11, before0_12]
  rw [Phi_before, Phi_after, show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  unfold PhiS
  iintro ⟨⟨⟨%e0, %he0, S0⟩, ⟨%e1, %he1, S1⟩, ⟨%e2, S2⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  have hP : e1 = tileP m c (prevPt t) := he1 (Nat.pos_of_ne_zero (by show t.val ≠ 0; omega)) t.isLt (by show t.val % 2 = _; omega)
  subst hP
  iapply (triple_drain c Set.univ (grid0.coords t) b1 b2 b3 b4 b5 b6 _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (tileP m c (prevPt t)) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [S0]; · iexists _; iexact S0
  isplitl [S1]; · iexact S1
  isplitl [S2]; · iexists _; iexact S2
  iintro ⟨H0, H1, H2, H3, H4, H5, H6, H7, H8, H9, H10, H11, H12, H13, H14, H15, H16, H17, H18, ⟨%g0, S0⟩, ⟨%g1, S1⟩, ⟨%g2, S2⟩⟩
  isplitl [S0 S1 S2 Hr]
  · isplitl [S0]
    · iexists _; isplitr; swap; · iexact S0
      ipureintro; intro h0 h1 h2
      have h1 : t.val + 1 < 129 := h1
      have h2 : (t.val + 1) % 2 = 1 := h2
      omega
    isplitl [S1]
    · iexists _; isplitr; swap; · iexact S1
      ipureintro; intro h0 h1 h2
      have h1 : t.val + 1 < 129 := h1
      have h2 : (t.val + 1) % 2 = 0 := h2
      omega
    isplitl [S2]; · iexists _; iexact S2
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

/-- The body at any later point. -/
theorem body_later (c : Dev nD) (t : Fin cfg0.N) (ht : t.val ≠ 0) :
    bodyPre m c t ⊢ wp frame (wpE (defs₀ (F := F)) Variants.none c none) Set.univ (bodyAt0 t) (fun _ => bodyPost1 m c t) := by
  by_cases ho : t.val % 2 = 1
  · exact body_odd m c t ho
  · by_cases hl : t.val = 128
    · exact body_drain m c t hl
    · exact body_even m c t ht hl (by omega)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 1000000 in
/-- The library's body obligation, at every point. -/
theorem body_obligation (c : Dev nD) : BodyObligation (dats (F := F) m 0 c) (defs₀ (F := F)) Variants.none () Set.univ := fun t => by
  rw [bigSep_W0, bigSep_W0, defs₀_row]
  by_cases ht : t.val = 0
  · have hd : decide (t.val = 0) = true := decide_eq_true ht
    have i13 : idle0 13 (grid0.coords t) = true := (idle0_13 t).trans hd
    have i14 : idle0 14 (grid0.coords t) = true := (idle0_14 t).trans hd
    have i15 : idle0 15 (grid0.coords t) = true := (idle0_15 t).trans hd
    have i16 : idle0 16 (grid0.coords t) = true := (idle0_16 t).trans hd
    have i17 : idle0 17 (grid0.coords t) = true := (idle0_17 t).trans hd
    have i18 : idle0 18 (grid0.coords t) = true := (idle0_18 t).trans hd
    have f13 : (cfg0.win 13).flush t = false := (flush0_13 t).trans (by rw [hd]; rfl)
    have f14 : (cfg0.win 14).flush t = false := (flush0_14 t).trans (by rw [hd]; rfl)
    have f15 : (cfg0.win 15).flush t = false := (flush0_15 t).trans (by rw [hd]; rfl)
    have f16 : (cfg0.win 16).flush t = false := (flush0_16 t).trans (by rw [hd]; rfl)
    have f17 : (cfg0.win 17).flush t = false := (flush0_17 t).trans (by rw [hd]; rfl)
    have f18 : (cfg0.win 18).flush t = false := (flush0_18 t).trans (by rw [hd]; rfl)
    refine triple_restated (body_fill m c t ht) rfl .rfl fun _ => ?_
    simp only [i13, i14, i15, i16, i17, i18, f13, f14, f15, f16, f17, f18]
    exact .rfl
  · have hd : decide (t.val = 0) = false := decide_eq_false ht
    have i13 : idle0 13 (grid0.coords t) = false := (idle0_13 t).trans hd
    have i14 : idle0 14 (grid0.coords t) = false := (idle0_14 t).trans hd
    have i15 : idle0 15 (grid0.coords t) = false := (idle0_15 t).trans hd
    have i16 : idle0 16 (grid0.coords t) = false := (idle0_16 t).trans hd
    have i17 : idle0 17 (grid0.coords t) = false := (idle0_17 t).trans hd
    have i18 : idle0 18 (grid0.coords t) = false := (idle0_18 t).trans hd
    refine triple_restated (body_later m c t ht) rfl .rfl fun _ => ?_
    simp only [i13, i14, i15, i16, i17, i18]
    exact .rfl

/-- Owning a whole buffer is owning its location, -/
theorem to_whole (c : Dev nD) (b : Ref sig (Proc.tc : Proc τ).kind) (f : b.ty.Contents (Elt F)) :
    ((c : Thread nD τ).loc b ↦{fullShare} f : sProp 𝕄) ⊢ owns (c : Thread nD τ) (Memref.whole b) fullShare f := by
  rw [owns_whole]

/-- in both directions. -/
theorem of_whole (c : Dev nD) (b : Ref sig (Proc.tc : Proc τ).kind) (f : b.ty.Contents (Elt F)) :
    owns (c : Thread nD τ) (Memref.whole b) fullShare f ⊢ ((c : Thread nD τ).loc b ↦{fullShare} f : sProp 𝕄) := by
  rw [owns_whole]

/-- The scratch buffers at entry, -/
theorem Phi_in (c : Dev nD) : Pipeline.ΦA (Val := Elt F) (U := UR sig nD τ) spec0 c ⊢ (dats m 0 c).Φ 0 := by
  show _ ⊢ PhiS m c 0 (Nat.zero_le _)
  unfold Pipeline.ΦA PhiS
  rw [scopedRest0_eq]
  iintro ⟨⟨⟨%f0, S0⟩, ⟨%f1, S1⟩, ⟨%f2, S2⟩⟩, Hr⟩
  isplitl [S0]
  · iexists f0; isplitr; · ipureintro; intro h; exact absurd h (Nat.lt_irrefl 0)
    iapply (to_whole c _ _); iexact S0
  isplitl [S1]
  · iexists f1; isplitr; · ipureintro; intro h; exact absurd h (Nat.lt_irrefl 0)
    iapply (to_whole c _ _); iexact S1
  isplitl [S2]
  · iexists f2; iapply (to_whole c _ _); iexact S2
  iexact Hr

/-- and at the end. -/
theorem Phi_out (c : Dev nD) : (dats m 0 c).Φ (Fin.last cfg0.N) ⊢ Pipeline.ΦA (Val := Elt F) (U := UR sig nD τ) spec0 c := by
  show PhiS m c cfg0.N (Nat.le_refl _) ⊢ _
  unfold Pipeline.ΦA PhiS
  rw [scopedRest0_eq]
  iintro ⟨⟨%f0, -, S0⟩, ⟨%f1, -, S1⟩, ⟨%f2, S2⟩, Hr⟩
  isplitr [Hr]
  · isplitl [S0]
    · iexists f0; iapply (of_whole c _ _); iexact S0
    isplitl [S1]
    · iexists f1; iapply (of_whole c _ _); iexact S1
    iexists f2; iapply (of_whole c _ _); iexact S2
  iexact Hr

set_option backward.isDefEq.respectTransparency.types false in
set_option maxHeartbeats 800000 in
/-- The run: it ends, with the arrays at what the body leaves and every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := Phi_in m) (hout := Phi_out m)

/-- The run without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of m ρ (dats m) (A_eq m) (run_main m ρ)) ((θ_run defs _ _).mono (fun _ h => h.2) (run_main_quiescent m ρ))

end Cert.Kernel2Ideal.Gen

end
-- ==== Proof.Array2.lean ====
/- The arrays the input projection leaves, and its results: the queries, keys and values moved to rows, and the gates. -/
module

public import proofs.«01_k».proof.Proof.Rows2
public import proofs.«01_k».proof.Proof.Run2i

@[expose] public section

set_option maxRecDepth 65536

noncomputable section

namespace Cert.Proof.InputProjection

open Idealize.ShloMosaic Idealize.ShloMosaic.TcCoe Idealize.SL.Sem Cert.Kernel2Ideal Cert.Kernel2Ideal.Gen

variable (m : (ℓ : Loc nD τ sig) → Buf (Elt Ideal) ℓ) (c : Dev nD)

/-- The queries, by head. -/
def queryArray : Vec Ideal S16x8x2048x256 .bf16 := fun i =>
  outQ (iblk m c 4 (pointOf (i 0) (i 2))) (iblk m c 5 (pointOf (i 0) (i 2))) (iblk m c 8 (pointOf (i 0) (i 2))) (iblk m c 10 (pointOf (i 0) (i 2)))
    (iblk m c 11 (pointOf (i 0) (i 2))) (tileP m c (prevPt (pointOf (i 0) (i 2)))) (ix4 0 (i 1) (placeOf (i 2)) (i 3))

/-- The keys, by head. -/
def keyArray : Vec Ideal S16x8x2048x256 .bf16 := fun i =>
  outK (iblk m c 6 (pointOf (i 0) (i 2))) (iblk m c 7 (pointOf (i 0) (i 2))) (iblk m c 9 (pointOf (i 0) (i 2))) (iblk m c 10 (pointOf (i 0) (i 2)))
    (iblk m c 11 (pointOf (i 0) (i 2))) (tileP m c (prevPt (pointOf (i 0) (i 2)))) (ix4 0 (i 1) (placeOf (i 2)) (i 3))

/-- The values, by head. -/
def valueArray : Vec Ideal S16x8x2048x128 .bf16 := fun i =>
  outV (iblk m c 6 (pointOf (i 0) (i 2))) (iblk m c 7 (pointOf (i 0) (i 2))) (tileP m c (prevPt (pointOf (i 0) (i 2)))) (ix4 0 (i 1) (placeOf (i 2)) (i 3))

/-- The gates. -/
def gateArray : Vec Ideal S16x2048x512 .bf16 := fun i => outGb (tileP m c (prevPt (pointOf (i 0) (i 1)))) (ix3 0 (placeOf (i 1)) (i 2))

/-- The gated entries. -/
def productArray : Vec Ideal S16x2048x512 .bf16 := fun i => outG (tileP m c (prevPt (pointOf (i 0) (i 1)))) (ix3 0 (placeOf (i 1)) (i 2))

/-- The point that writes a row of point `t`'s block is `t`. -/
theorem pointOf_eq (t : Fin cfg0.N) (ht : t.val ≠ 0) (b : Fin 16) (n : Fin 2048) (r : Nat) (hb : b.val = (t.val - 1) / 8)
    (hn : n.val = 256 * ((t.val - 1) % 8) + r) (hr : r < 256) : pointOf b n = t := by
  refine Fin.ext ?_
  show 8 * b.val + n.val / 256 + 1 = t.val
  omega

/-- A point whose outputs are written back is not the first. -/
theorem ne_zero_of_flush (t : Fin cfg0.N) (hf : (!decide (t.val = 0)) = true) : t.val ≠ 0 := by simpa using hf

/-- The queries' array after the grid has run. -/
theorem query_array : (dats m 0 c).arrAt 13 cfg0.N = queryArray m c := by
  refine (dats m 0 c).arrAt_eq_of_covers 13 _ (by decide +kernel) fun t hf y => ?_
  have ht := ne_zero_of_flush t ((flush0_13 t).symm.trans hf)
  have w := (where_outputs t).1
  have y0 : (y 0 : Nat) < 1 := (y 0).isLt
  have y2 : (y 2 : Nat) < 256 := (y 2).isLt
  have e0 : ((win0_13.blk t).view.emb y 0 : Nat) = (t.val - 1) / 8 := by blk_simp [w]
  have e1 : ((win0_13.blk t).view.emb y 1 : Nat) = y 1 := by blk_simp [w]
  have e2 : ((win0_13.blk t).view.emb y 2 : Nat) = 256 * ((t.val - 1) % 8) + y 2 := by blk_simp [w]; omega
  have e3 : ((win0_13.blk t).view.emb y 3 : Nat) = y 3 := by blk_simp [w]
  have hp := pointOf_eq t ht _ _ _ e0 e2 y2
  blk_simp
  rw [after0_13]
  unfold queryArray
  rw [hp]
  refine congrArg (outQ _ _ _ _ _ _) (funext fun a => Fin.ext ?_)
  match a with
  | ⟨0, _⟩ => show (y 0 : Nat) = 0; omega
  | ⟨1, _⟩ => exact e1.symm
  | ⟨2, _⟩ => show (y 2 : Nat) = ((win0_13.blk t).view.emb y 2 : Nat) % 256; omega
  | ⟨3, _⟩ => exact e3.symm

/-- The keys' array after the grid has run. -/
theorem key_array : (dats m 0 c).arrAt 14 cfg0.N = keyArray m c := by
  refine (dats m 0 c).arrAt_eq_of_covers 14 _ (by decide +kernel) fun t hf y => ?_
  have ht := ne_zero_of_flush t ((flush0_14 t).symm.trans hf)
  have w := (where_outputs t).2.1
  have y0 : (y 0 : Nat) < 1 := (y 0).isLt
  have y2 : (y 2 : Nat) < 256 := (y 2).isLt
  have e0 : ((win0_14.blk t).view.emb y 0 : Nat) = (t.val - 1) / 8 := by blk_simp [w]
  have e1 : ((win0_14.blk t).view.emb y 1 : Nat) = y 1 := by blk_simp [w]
  have e2 : ((win0_14.blk t).view.emb y 2 : Nat) = 256 * ((t.val - 1) % 8) + y 2 := by blk_simp [w]; omega
  have e3 : ((win0_14.blk t).view.emb y 3 : Nat) = y 3 := by blk_simp [w]
  have hp := pointOf_eq t ht _ _ _ e0 e2 y2
  blk_simp
  rw [after0_14]
  unfold keyArray
  rw [hp]
  refine congrArg (outK _ _ _ _ _ _) (funext fun a => Fin.ext ?_)
  match a with
  | ⟨0, _⟩ => show (y 0 : Nat) = 0; omega
  | ⟨1, _⟩ => exact e1.symm
  | ⟨2, _⟩ => show (y 2 : Nat) = ((win0_14.blk t).view.emb y 2 : Nat) % 256; omega
  | ⟨3, _⟩ => exact e3.symm

/-- The values' array after the grid has run. -/
theorem value_array : (dats m 0 c).arrAt 15 cfg0.N = valueArray m c := by
  refine (dats m 0 c).arrAt_eq_of_covers 15 _ (by decide +kernel) fun t hf y => ?_
  have ht := ne_zero_of_flush t ((flush0_15 t).symm.trans hf)
  have w := (where_outputs t).2.2.1
  have y0 : (y 0 : Nat) < 1 := (y 0).isLt
  have y2 : (y 2 : Nat) < 256 := (y 2).isLt
  have e0 : ((win0_15.blk t).view.emb y 0 : Nat) = (t.val - 1) / 8 := by blk_simp [w]
  have e1 : ((win0_15.blk t).view.emb y 1 : Nat) = y 1 := by blk_simp [w]
  have e2 : ((win0_15.blk t).view.emb y 2 : Nat) = 256 * ((t.val - 1) % 8) + y 2 := by blk_simp [w]; omega
  have e3 : ((win0_15.blk t).view.emb y 3 : Nat) = y 3 := by blk_simp [w]
  have hp := pointOf_eq t ht _ _ _ e0 e2 y2
  blk_simp
  rw [after0_15]
  unfold valueArray
  rw [hp]
  refine congrArg (outV _ _ _) (funext fun a => Fin.ext ?_)
  match a with
  | ⟨0, _⟩ => show (y 0 : Nat) = 0; omega
  | ⟨1, _⟩ => exact e1.symm
  | ⟨2, _⟩ => show (y 2 : Nat) = ((win0_15.blk t).view.emb y 2 : Nat) % 256; omega
  | ⟨3, _⟩ => exact e3.symm

/-- The gates' array after the grid has run. -/
theorem gate_array : (dats m 0 c).arrAt 16 cfg0.N = gateArray m c := by
  refine (dats m 0 c).arrAt_eq_of_covers 16 _ (by decide +kernel) fun t hf y => ?_
  have ht := ne_zero_of_flush t ((flush0_16 t).symm.trans hf)
  have w := (where_outputs t).2.2.2.1
  have y0 : (y 0 : Nat) < 1 := (y 0).isLt
  have y1 : (y 1 : Nat) < 256 := (y 1).isLt
  have e0 : ((win0_16.blk t).view.emb y 0 : Nat) = (t.val - 1) / 8 := by blk_simp [w]
  have e1 : ((win0_16.blk t).view.emb y 1 : Nat) = 256 * ((t.val - 1) % 8) + y 1 := by blk_simp [w]; omega
  have e2 : ((win0_16.blk t).view.emb y 2 : Nat) = y 2 := by blk_simp [w]
  have hp := pointOf_eq t ht _ _ _ e0 e1 y1
  blk_simp
  rw [after0_16]
  unfold gateArray
  rw [hp]
  refine congrArg (outGb _) (funext fun a => Fin.ext ?_)
  match a with
  | ⟨0, _⟩ => show (y 0 : Nat) = 0; omega
  | ⟨1, _⟩ => show (y 1 : Nat) = ((win0_16.blk t).view.emb y 1 : Nat) % 256; omega
  | ⟨2, _⟩ => exact e2.symm

/-- The gated entries' array after the grid has run. -/
theorem product_array : (dats m 0 c).arrAt 17 cfg0.N = productArray m c := by
  refine (dats m 0 c).arrAt_eq_of_covers 17 _ (by decide +kernel) fun t hf y => ?_
  have ht := ne_zero_of_flush t ((flush0_17 t).symm.trans hf)
  have w := (where_outputs t).2.2.2.2
  have y0 : (y 0 : Nat) < 1 := (y 0).isLt
  have y1 : (y 1 : Nat) < 256 := (y 1).isLt
  have e0 : ((win0_17.blk t).view.emb y 0 : Nat) = (t.val - 1) / 8 := by blk_simp [w]
  have e1 : ((win0_17.blk t).view.emb y 1 : Nat) = 256 * ((t.val - 1) % 8) + y 1 := by blk_simp [w]; omega
  have e2 : ((win0_17.blk t).view.emb y 2 : Nat) = y 2 := by blk_simp [w]
  have hp := pointOf_eq t ht _ _ _ e0 e1 y1
  blk_simp
  rw [after0_17]
  unfold productArray
  rw [hp]
  refine congrArg (outG _) (funext fun a => Fin.ext ?_)
  match a with
  | ⟨0, _⟩ => show (y 0 : Nat) = 0; omega
  | ⟨1, _⟩ => show (y 1 : Nat) = ((win0_17.blk t).view.emb y 1 : Nat) % 256; omega
  | ⟨2, _⟩ => exact e2.symm

/-- The lines after the call: the queries' padding cut off, and a row's heads brought together. -/
theorem tail_q (W : Valuation τ sig (Elt Ideal)) (b : Fin 16) (n : Fin 2048) (h : Fin 8) (d : Fin 192) :
    StableHlo.after (List.flatten [hostOps1]) W (Proc.tc.devRef main_v48) (ix4 b n h d)
      = (W (Proc.tc.devRef main_v46_0) (ix4 b h n ⟨d.val, by omega⟩) : EReal) := by
  simp only [hostOps1, List.flatten_cons, List.flatten_nil, List.append_nil]
  after_reads_simp
  pointwise []

/-- The same of the keys. -/
theorem tail_k (W : Valuation τ sig (Elt Ideal)) (b : Fin 16) (n : Fin 2048) (h : Fin 8) (d : Fin 192) :
    StableHlo.after (List.flatten [hostOps1]) W (Proc.tc.devRef main_v50) (ix4 b n h d)
      = (W (Proc.tc.devRef main_v46_1) (ix4 b h n ⟨d.val, by omega⟩) : EReal) := by
  simp only [hostOps1, List.flatten_cons, List.flatten_nil, List.append_nil]
  after_reads_simp
  pointwise []

/-- A row's values brought together. -/
theorem tail_v (W : Valuation τ sig (Elt Ideal)) (b : Fin 16) (n : Fin 2048) (h : Fin 8) (d : Fin 128) :
    StableHlo.after (List.flatten [hostOps1]) W (Proc.tc.devRef main_v51) (ix4 b n h d)
      = (W (Proc.tc.devRef main_v46_2) (ix4 b h n d) : EReal) := by
  simp only [hostOps1, List.flatten_cons, List.flatten_nil, List.append_nil]
  after_reads_simp
  pointwise []

/-- No two windows stage one array. -/
theorem arrays_distinct : Function.Injective (Pipeline.arrRef spec0) := by decide +kernel

variable (r : PUnit × MemSt nD τ sig (Elt Ideal)) (h : Pipeline.FramePost cfgs (dats m) 0 (Pipeline.afterTail₀ cfgs (dats m) 0 (V0 m) [hostOps1]) r)

include h

/-- The queries after the run. -/
theorem result_query : r.2.mem ((c.tc : Thread nD τ).loc main_v48) = (fun i => (args m c).query (i 0) (i 1) (i 2) (i 3)) := by
  refine ((h c).2 main_v48 (Pipeline.mem_restRefs_of main_v48 (by decide) (by decide))).trans (funext fun i => ?_)
  idx_vars i
  refine (tail_q _ _ _ _ _).trans ((congrFun ((Pipeline.withArrays_arr spec0 arrays_distinct c _ _ 13).trans (query_array m c)) _).trans ?_)
  exact query_row m c _ _ _ _

/-- The keys after the run. -/
theorem result_key : r.2.mem ((c.tc : Thread nD τ).loc main_v50) = (fun i => (args m c).key (i 0) (i 1) (i 2) (i 3)) := by
  refine ((h c).2 main_v50 (Pipeline.mem_restRefs_of main_v50 (by decide) (by decide))).trans (funext fun i => ?_)
  idx_vars i
  refine (tail_k _ _ _ _ _).trans ((congrFun ((Pipeline.withArrays_arr spec0 arrays_distinct c _ _ 14).trans (key_array m c)) _).trans ?_)
  exact key_row m c _ _ _ _

/-- The values after the run. -/
theorem result_value : r.2.mem ((c.tc : Thread nD τ).loc main_v51) = (fun i => (args m c).value (i 0) (i 1) (i 2) (i 3)) := by
  refine ((h c).2 main_v51 (Pipeline.mem_restRefs_of main_v51 (by decide) (by decide))).trans (funext fun i => ?_)
  idx_vars i
  refine (tail_v _ _ _ _ _).trans ((congrFun ((Pipeline.withArrays_arr spec0 arrays_distinct c _ _ 15).trans (value_array m c)) _).trans ?_)
  exact value_row m c _ _ _ _

/-- The gates after the run. -/
theorem result_gate : r.2.mem ((c.tc : Thread nD τ).loc main_v46_3) = (fun i => (args m c).gate (i 0) (i 1) (i 2)) := by
  have e : r.2.mem ((c.tc : Thread nD τ).loc main_v46_3) = (dats m 0 c).arrAt 16 cfg0.N := (h c).1 16
  exact e.trans ((gate_array m c).trans (funext fun i => gate_row m c _ _ _))

/-- The gated entries after the run. -/
theorem result_product : r.2.mem ((c.tc : Thread nD τ).loc main_v46_4) = (fun i => (args m c).product (i 0) (i 1) (i 2)) := by
  have e : r.2.mem ((c.tc : Thread nD τ).loc main_v46_4) = (dats m 0 c).arrAt 17 cfg0.N := (h c).1 17
  exact e.trans ((product_array m c).trans (funext fun i => product_row m c _ _ _))

end Cert.Proof.InputProjection

end
-- ==== Proof.Reference2.lean ====
/- The input projection's reference read at an index: its five results by the row formulas. -/
module

public import proofs.«01_k».proof.Proof.Gen.Reference2Ideal.Run
public import Idealize.ShloMosaic.Lib.Pointwise
public import Idealize.ShloMosaic.Lib.IdealHost
public import Idealize.ShloMosaic.Lib.Quiescent
public import proofs.«01_k».proof.Proof.Norm

@[expose] public section

set_option maxRecDepth 16384

noncomputable section

namespace Cert.Proof.InputProjection

open Idealize.ShloMosaic Idealize.ShloMosaic.StableHlo Idealize.SL.Sem Cert.Reference2Ideal Cert.Reference2Ideal.Gen Cert.Reference2Ideal.Value

variable (V0 : Valuation τ sig (Elt Ideal))

/-- A projected row of the arguments in a valuation. -/
def projRow (b : Fin 16) (n : Fin 2048) : Fin 2880 → EReal :=
  projected (fun k => (V0 (Proc.devRef .tc main_arg0) : FVec Ideal S16x2048x2048 .f32) (ix3 b n k))
    (fun k => (V0 (Proc.devRef .tc main_arg2) : FVec Ideal S2048 .f32) (ix1 k))
    (fun k => (V0 (Proc.devRef .tc main_arg1) : FVec Ideal S16x12288 .f32) (ix2 b ⟨k.val, by omega⟩))
    (fun k => (V0 (Proc.devRef .tc main_arg1) : FVec Ideal S16x12288 .f32) (ix2 b ⟨2048 + k.val, by omega⟩))
    (fun k j => (V0 (Proc.devRef .tc main_arg3) : FVec Ideal S2048x2880 .f32) (ix2 k j))

/-- The reference's projection at an index. -/
theorem proj_at (b : Fin 16) (n : Fin 2048) (j : Fin 2880) : res_main_v26 V0 (ix3 b n j) = projRow V0 b n j := by
  pointwise [res_main_v26, res_main_v0, projRow, projected, modulated, normed, eps]

/-- The reference's queries before they are normed. -/
theorem q_at (b : Fin 16) (n : Fin 2048) (h : Fin 8) (d : Fin 192) : res_main_v42 V0 (ix4 b n h d)
    = queryHead (projRow V0 b n) (fun k => (V0 (Proc.devRef .tc main_arg4) : FVec Ideal S512 .f32) (ix1 k))
      (fun k j => (V0 (Proc.devRef .tc main_arg5) : FVec Ideal S512x1536 .f32) (ix2 k j)) h d := by
  pointwise [res_main_v42, res_main_v27, proj_at, queryHead, normed, eps]

/-- The reference's queries after they are normed. -/
theorem qn_at (b : Fin 16) (n : Fin 2048) (h : Fin 8) (d : Fin 192) : res_main_v55 V0 (ix4 b n h d)
    = normed (Ideal.ofBits .f32 0x43400000#32) (fun d => res_main_v42 V0 (ix4 b n h d)) (fun d => (V0 (Proc.devRef .tc main_arg8) : FVec Ideal S192 .f32) (ix1 d)) d := by
  pointwise [res_main_v55, normed, eps]

/-- The reference's keys without positions, and its values. -/
theorem kv_at (b : Fin 16) (n : Fin 2048) (h : Fin 8) (d : Fin 256) : res_main_v112 V0 (ix4 b n h d)
    = pairHead (projRow V0 b n) (fun k => (V0 (Proc.devRef .tc main_arg6) : FVec Ideal S256 .f32) (ix1 k))
      (fun k j => (V0 (Proc.devRef .tc main_arg7) : FVec Ideal S256x2048 .f32) (ix2 k j)) h d := by
  pointwise [res_main_v112, res_main_v96, proj_at, pairHead, normed, eps]

/-- The reference's keys before they are normed. -/
theorem k_at (b : Fin 16) (n : Fin 2048) (h : Fin 8) (d : Fin 192) : res_main_v117 V0 (ix4 b n h d)
    = keyHead (projRow V0 b n) (fun k => (V0 (Proc.devRef .tc main_arg6) : FVec Ideal S256 .f32) (ix1 k))
      (fun k j => (V0 (Proc.devRef .tc main_arg7) : FVec Ideal S256x2048 .f32) (ix2 k j)) h d := by
  pointwise [res_main_v117, proj_at, kv_at, keyHead]

/-- The reference's keys after they are normed. -/
theorem kn_at (b : Fin 16) (n : Fin 2048) (h : Fin 8) (d : Fin 192) : res_main_v130 V0 (ix4 b n h d)
    = normed (Ideal.ofBits .f32 0x43400000#32) (fun d => res_main_v117 V0 (ix4 b n h d)) (fun d => (V0 (Proc.devRef .tc main_arg9) : FVec Ideal S192 .f32) (ix1 d)) d := by
  pointwise [res_main_v130, normed, eps]

/-- The reference's queries: normed, turned, and scaled. -/
def queries : FVec Ideal S16x2048x8x192 .bf16 := fun i =>
  rotated (fun d => res_main_v55 V0 (ix4 (i 0) (i 1) (i 2) d))
    (fun e => (V0 (Proc.devRef .tc main_arg10) : FVec Ideal S2048x1x16 .f32) (ix3 (i 1) 0 e))
    (fun e => (V0 (Proc.devRef .tc main_arg11) : FVec Ideal S2048x1x16 .f32) (ix3 (i 1) 0 e))
    (fun e => (V0 (Proc.devRef .tc main_arg12) : FVec Ideal S2048x1x16 .f32) (ix3 (i 1) 0 e))
    (fun e => (V0 (Proc.devRef .tc main_arg13) : FVec Ideal S2048x1x16 .f32) (ix3 (i 1) 0 e)) (i 3)
    * Ideal.div (Ideal.rsqrt (Ideal.ofBits .f32 0x43400000#32)) (Ideal.log (Ideal.ofBits .f32 0x40000000#32))

/-- The reference's keys: normed and turned. -/
def keys : FVec Ideal S16x2048x8x192 .bf16 := fun i =>
  rotated (fun d => res_main_v130 V0 (ix4 (i 0) (i 1) (i 2) d))
    (fun e => (V0 (Proc.devRef .tc main_arg10) : FVec Ideal S2048x1x16 .f32) (ix3 (i 1) 0 e))
    (fun e => (V0 (Proc.devRef .tc main_arg11) : FVec Ideal S2048x1x16 .f32) (ix3 (i 1) 0 e))
    (fun e => (V0 (Proc.devRef .tc main_arg12) : FVec Ideal S2048x1x16 .f32) (ix3 (i 1) 0 e))
    (fun e => (V0 (Proc.devRef .tc main_arg13) : FVec Ideal S2048x1x16 .f32) (ix3 (i 1) 0 e)) (i 3)

/-- The reference's values: the last 128 lanes of each head of 256. -/
def values : FVec Ideal S16x2048x8x128 .bf16 := fun i =>
  res_main_v112 V0 (ix4 (i 0) (i 1) (i 2) ⟨128 + (i 3).val, by have := (i 3).isLt; simp at this; omega⟩)

/-- The reference's first gate, lanes of the projection. -/
def gates : FVec Ideal S16x2048x512 .bf16 := fun i =>
  res_main_v26 V0 (ix3 (i 0) (i 1) ⟨832 + (i 2).val, by have := (i 2).isLt; simp at this; omega⟩)

/-- The reference's gated branch, a product of lanes of the projection. -/
def gated : FVec Ideal S16x2048x512 .bf16 := fun i =>
  HMul.hMul (α := EReal) (β := EReal) (res_main_v26 V0 (ix3 (i 0) (i 1) ⟨1344 + (i 2).val, by have := (i 2).isLt; simp at this; omega⟩))
    (res_main_v26 V0 (ix3 (i 0) (i 1) ⟨1856 + (i 2).val, by have := (i 2).isLt; simp at this; omega⟩))

set_option maxHeartbeats 1000000 in
/-- What the reference's run ends with: its five results, and its arguments unchanged. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v180) = queries (launchContents m c)
        ∧ r.2.mem ((c.tc : Thread nD τ).loc main_v181) = keys (launchContents m c)
        ∧ r.2.mem ((c.tc : Thread nD τ).loc main_v182) = values (launchContents m c)
        ∧ r.2.mem ((c.tc : Thread nD τ).loc main_v183) = gates (launchContents m c)
        ∧ r.2.mem ((c.tc : Thread nD τ).loc main_v184) = gated (launchContents m c))
      ∧ ∀ a ∈ [main_arg0, main_arg1, main_arg2, main_arg3, main_arg4, main_arg5, main_arg6, main_arg7, main_arg8, main_arg9,
        main_arg10, main_arg11, main_arg12, main_arg13], r.2.mem ((c.tc : Thread nD τ).loc a) = m ((c.tc : Thread nD τ).loc a) := by
  refine (θ_run defs _ _).mono (fun r h c => ⟨⟨?_, ?_, ?_, ?_, ?_⟩, ?_⟩) (Value.run m ρ)
  · refine (h c).1.trans (funext fun i => ?_)
    idx_vars i
    pointwise [queries, rotated_nested, res_main_v56, res_main_v57, res_main_v58, res_main_v59, res_main_v75, res_main_v76, res_main_v77]
  · refine (h c).2.1.trans (funext fun i => ?_)
    idx_vars i
    pointwise [keys, rotated_nested, res_main_v131, res_main_v132, res_main_v133, res_main_v134, res_main_v150, res_main_v151, res_main_v152]
  · refine (h c).2.2.1.trans (funext fun i => ?_)
    idx_vars i
    pointwise [values]
  · refine (h c).2.2.2.1.trans (funext fun i => ?_)
    idx_vars i
    pointwise [gates]
  · refine (h c).2.2.2.2.1.trans (funext fun i => ?_)
    idx_vars i
    pointwise [gated]
  · obtain ⟨-, -, -, -, -, a0, a1, a2, a3, a4, a5, a6, a7, a8, a9, a10, a11, a12, a13⟩ := h c
    simp only [List.forall_mem_cons, List.not_mem_nil, false_implies, implies_true, and_true]
    exact ⟨a0, a1, a2, a3, a4, a5, a6, a7, a8, a9, a10, a11, a12, a13⟩

end Cert.Proof.InputProjection

end
-- ==== Proof.Match2.lean ====
/- The reference's results as functions of its arguments: the same functions as the input projection's. -/
module

public import proofs.«01_k».proof.Proof.Args2
public import proofs.«01_k».proof.Proof.Reference2
public import proofs.«01_k».proof.Proof.Rows

@[expose] public section

set_option maxRecDepth 16384

noncomputable section

namespace Cert.Proof.InputProjection

open Idealize.ShloMosaic Idealize.ShloMosaic.TcCoe Idealize.SL.Sem Cert.Reference2Ideal Cert.Reference2Ideal.Gen

/-- The arguments by row and column, of the arrays. -/
def argsOf (x : FVec Ideal S16x2048x2048 .f32) (mod : FVec Ideal S16x12288 .f32) (n1 : FVec Ideal S2048 .f32) (win : FVec Ideal S2048x2880 .f32)
    (qa : FVec Ideal S512 .f32) (uq : FVec Ideal S512x1536 .f32) (kva : FVec Ideal S256 .f32) (ukv : FVec Ideal S256x2048 .f32)
    (qn kn : FVec Ideal S192 .f32) (cr sr cc sc : FVec Ideal S2048x1x16 .f32) : Args where
  x b n k := x (ix3 b n k)
  shift b k := mod (ix2 b ⟨k.val, by omega⟩)
  scale b k := mod (ix2 b ⟨2048 + k.val, by omega⟩)
  n1 k := n1 (ix1 k)
  win k j := win (ix2 k j)
  qa k := qa (ix1 k)
  uq k j := uq (ix2 k j)
  kva k := kva (ix1 k)
  ukv k j := ukv (ix2 k j)
  qn d := qn (ix1 d)
  kn d := kn (ix1 d)
  cr n e := cr (ix3 n 0 e)
  sr n e := sr (ix3 n 0 e)
  cc n e := cc (ix3 n 0 e)
  sc n e := sc (ix3 n 0 e)

variable (V0 : Valuation τ sig (Elt Ideal))

/-- The reference's arguments, by row and column. -/
def refArgs : Args :=
  argsOf (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7))
    (V0 (Proc.devRef .tc main_arg8)) (V0 (Proc.devRef .tc main_arg9)) (V0 (Proc.devRef .tc main_arg10)) (V0 (Proc.devRef .tc main_arg11))
    (V0 (Proc.devRef .tc main_arg12)) (V0 (Proc.devRef .tc main_arg13))

/-- The reference's queries. -/
theorem queries_eq : queries V0 = fun i => (refArgs V0).query (i 0) (i 1) (i 2) (i 3) := by
  funext i
  unfold queries Args.query
  refine congrArg₂ (· * ·) (congrArg (fun u => rotated u _ _ _ _ _) (funext fun d => ?_)) Attention.factor_eq
  refine (qn_at V0 _ _ _ d).trans ?_
  exact congrArg (fun u => normed _ u _ d) (funext fun e => q_at V0 _ _ _ e)

/-- The reference's keys. -/
theorem keys_eq : keys V0 = fun i => (refArgs V0).key (i 0) (i 1) (i 2) (i 3) := by
  funext i
  unfold keys Args.key
  refine congrArg (fun u => rotated u _ _ _ _ _) (funext fun d => ?_)
  refine (kn_at V0 _ _ _ d).trans ?_
  exact congrArg (fun u => normed _ u _ d) (funext fun e => k_at V0 _ _ _ e)

/-- The reference's values. -/
theorem values_eq : values V0 = fun i => (refArgs V0).value (i 0) (i 1) (i 2) (i 3) := by
  funext i
  exact kv_at V0 _ _ _ _

/-- The reference's gates. -/
theorem gates_eq : gates V0 = fun i => (refArgs V0).gate (i 0) (i 1) (i 2) := by
  funext i
  exact proj_at V0 _ _ _

/-- The reference's gated entries. -/
theorem gated_eq : gated V0 = fun i => (refArgs V0).product (i 0) (i 1) (i 2) := by
  funext i
  exact congrArg₂ (· * ·) (proj_at V0 _ _ _) (proj_at V0 _ _ _)

end Cert.Proof.InputProjection

end
-- ==== Proof.Stage3.lean ====
/- What one grid point of the mixing call leaves in its window of the updated residual: four blocks of columns, each the residual plus the gated projection of its rows. -/
module

public import proofs.«01_k».proof.Proof.Gen.Kernel3.Frame
public import proofs.«01_k».proof.Proof.Gen.Kernel3.Skeleton

@[expose] public section

set_option maxRecDepth 65536

noncomputable section

namespace Cert.Kernel3.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

/-- The position of a tile in its sequence. -/
def tileNo (i : grid0.Coords) : BitVec 32 :=
  (Scalar.select (Scalar.andi (Scalar.xori (Scalar.cmpi .slt (Scalar.remsi (BitVec.ofNat 32 (i 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (i 0).val) (Scalar.select (Scalar.cmpi .eq 8#32 0#32) 1#32 8#32)) 0#32)) (Scalar.addi (Scalar.remsi (BitVec.ofNat 32 (i 0).val) (Scalar.select (Scalar.cmpi .eq 8#32 0#32) 1#32 8#32)) (Scalar.select (Scalar.cmpi .eq 8#32 0#32) 1#32 8#32)) (Scalar.remsi (BitVec.ofNat 32 (i 0).val) (Scalar.select (Scalar.cmpi .eq 8#32 0#32) 1#32 8#32)))

local notation "𝕄" => MT nD τ sig Unit (Elt F) ℕ (UR sig nD τ) ℕ

/-- The window of packed rows, held as it is, is held through its view as pairs of rows, -/
theorem to_pairs (c : Dev nD) (arg17 : Memref sig .tc .vmem S4096x128 .bf16) (harg17 : arg17.IsWhole) :
    (iprop(∃ d, owns (c : Thread nD τ) arg17 fullShare d) : sProp 𝕄) ⊢ iprop(∃ d, owns (c : Thread nD τ) (arg17.reshape S2048x2x128 reshapes_S4096x128_S2048x2x128.1 reshapes_S4096x128_S2048x2x128.2 harg17.contiguous) fullShare d) := by
  unfold owns
  rw [Memref.set_view_reshape arg17 reshapes_S4096x128_S2048x2x128.1 reshapes_S4096x128_S2048x2x128.2 harg17.contiguous]
  iintro ⟨%d, %f, -, H⟩
  iexists _; iexists f; isplitr
  swap; · iexact H
  ipureintro; rfl

/-- and back. -/
theorem of_pairs (c : Dev nD) (arg17 : Memref sig .tc .vmem S4096x128 .bf16) (harg17 : arg17.IsWhole) :
    (iprop(∃ d, owns (c : Thread nD τ) (arg17.reshape S2048x2x128 reshapes_S4096x128_S2048x2x128.1 reshapes_S4096x128_S2048x2x128.2 harg17.contiguous) fullShare d) : sProp 𝕄) ⊢ iprop(∃ d, owns (c : Thread nD τ) arg17 fullShare d) := by
  unfold owns
  rw [Memref.set_view_reshape arg17 reshapes_S4096x128_S2048x2x128.1 reshapes_S4096x128_S2048x2x128.2 harg17.contiguous]
  iintro ⟨%d, %f, -, H⟩
  iexists _; iexists f; isplitr
  swap; · iexact H
  ipureintro; rfl

end Cert.Kernel3.Gen

end
-- ==== Proof.Drain3.lean ====
/- The last grid point: it routes the last tile and mixes none. -/
module

public import proofs.«01_k».proof.Proof.Stage3

@[expose] public section

set_option maxRecDepth 65536

noncomputable section

namespace Cert.Kernel3.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 4000000 in
/-- The last grid point: it routes the last tile and mixes none. -/
theorem triple_drain (c : Dev nD) (E : Set ℕ) (i : grid0.Coords) (h1 : ¬ Scalar.cmpi .ne (Scalar.extui (Scalar.cmpi .eq (BitVec.ofNat 32 (i 0).val) 0#32)) 0#32 = 1#1) (h2 : ¬ k0_cond2 i = 1#1) (h3 : ¬ k0_cond3 i = 1#1) (h4 : k0_cond4 i = 1#1) (h5 : ¬ k0_cond5 i = 1#1) (h6 : ¬ k0_cond6 i = 1#1) (h7 : ¬ k0_cond7 i = 1#1) (arg1 : Memref sig .tc .vmem S1x256x1024 .bf16) (harg1 : arg1.IsWhole) (arg2 : Memref sig .tc .vmem S1x256x512 .bf16) (harg2 : arg2.IsWhole) (arg3 : Memref sig .tc .vmem S1x256x512 .bf16) (harg3 : arg3.IsWhole) (arg4 : Memref sig .tc .vmem S1x16x512 .bf16) (harg4 : arg4.IsWhole) (arg5 : Memref sig .tc .vmem S1x16x512 .bf16) (harg5 : arg5.IsWhole) (arg6 : Memref sig .tc .vmem S1x256x512 .bf16) (harg6 : arg6.IsWhole) (arg7 : Memref sig .tc .vmem S1x256x2048 .f32) (harg7 : arg7.IsWhole) (arg8 : Memref sig .tc .vmem S1x6x2048 .f32) (harg8 : arg8.IsWhole) (arg9 : Memref sig .tc .vmem S3x512 .f32) (harg9 : arg9.IsWhole) (arg10 : Memref sig .tc .vmem S2048x2048 .bf16) (harg10 : arg10.IsWhole) (arg11 : Memref sig .tc .vmem S1x2048 .f32) (harg11 : arg11.IsWhole) (arg12 : Memref sig .tc .vmem S2048x256 .bf16) (harg12 : arg12.IsWhole) (arg13 : Memref sig .tc .vmem S2048x128 .bf16) (harg13 : arg13.IsWhole) (arg14 : Memref sig .tc .vmem S1x128 .f32) (harg14 : arg14.IsWhole) (arg15 : Memref sig .tc .vmem S1x128 .f32) (harg15 : arg15.IsWhole) (arg16 : Memref sig .tc .vmem S1x256x2048 .f32) (harg16 : arg16.IsWhole) (arg17 : Memref sig .tc .vmem S4096x128 .bf16) (harg17 : arg17.IsWhole) (arg18 : Memref sig .tc .vmem S256x128 .f32) (harg18 : arg18.IsWhole) (arg19 : Memref sig .tc .vmem S8x256 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S256x2048 .f32) (harg22 : arg22.IsWhole) (arg23 : Memref sig .tc .vmem S256x2048 .f32) (harg23 : arg23.IsWhole)
    (x0 : Vec F S1x256x1024 .bf16) (x1 : Vec F S1x256x512 .bf16) (x2 : Vec F S1x256x512 .bf16) (x3 : Vec F S1x16x512 .bf16) (x4 : Vec F S1x16x512 .bf16) (x5 : Vec F S1x256x512 .bf16) (x6 : Vec F S1x256x2048 .f32) (x7 : Vec F S1x6x2048 .f32) (x8 : Vec F S3x512 .f32) (x9 : Vec F S2048x2048 .bf16) (x10 : Vec F S1x2048 .f32) (x11 : Vec F S2048x256 .bf16) (x12 : Vec F S2048x128 .bf16) (x13 : Vec F S1x128 .f32) (x14 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) (arg17.reshape S2048x2x128 reshapes_S4096x128_S2048x2x128.1 reshapes_S4096x128_S2048x2x128.2 harg17.contiguous) fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) (arg17.reshape S2048x2x128 reshapes_S4096x128_S2048x2x128.1 reshapes_S4096x128_S2048x2x128.2 harg17.contiguous) fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
      ⊢ wp frame (wpE (defs₀ (F := F)) Variants.none c none) E (cc0_mix_router i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_mix_router_eq_skeleton]; unfold cc0_mix_router_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  subst hf0 hf1 hf2 hf3 hf4 hf5 hf6 hf7 hf8 hf9 hf10 hf11 hf12 hf13 hf14
  sl_exec (disch := first | sl_exact h1 | sl_exact h2 | sl_exact h3 | sl_exact h4 | sl_exact h5 | sl_exact h6 | sl_exact h7)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; iexists _; isplitr
    swap; · iexact H15
    ipureintro; rfl
  isplitl [H16]
  · iexists _; iexists _; isplitr
    swap; · iexact H16
    ipureintro; rfl
  isplitl [H17]
  · iexists _; iexists _; isplitr
    swap; · iexact H17
    ipureintro; rfl
  isplitl [H18]
  · iexists _; iexists _; isplitr
    swap; · iexact H18
    ipureintro; rfl
  isplitl [H19]
  · iexists _; iexists _; isplitr
    swap; · iexact H19
    ipureintro; rfl
  isplitl [H20]
  · iexists _; iexists _; isplitr
    swap; · iexact H20
    ipureintro; rfl
  isplitl [H21]
  · iexists _; iexists _; isplitr
    swap; · iexact H21
    ipureintro; rfl
  iexists _; iexists _; isplitr
  swap; · iexact H22
  ipureintro; rfl

end Cert.Kernel3.Gen

end
-- ==== Proof.Data3.lean ====
/- The run of the mixing call, point by point: what each window holds before and after the body. -/
module

public import proofs.«01_k».proof.Proof.Fill3
public import proofs.«01_k».proof.Proof.Even3
public import proofs.«01_k».proof.Proof.Odd3
public import proofs.«01_k».proof.Proof.Drain3

@[expose] public section

set_option maxRecDepth 65536

noncomputable section

namespace Cert.Kernel3.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The windows of which nothing is said: the routing tables, the counts and the packed rows, and the updated residual. -/
def forgets0 : Fin cfg0.W → Bool := fun w => Nat.ble 15 w.val

/-- What the run leaves: each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => Pipeline.Dat.unnamed (cfg := cfg0) 15 t
    | ⟨16, _⟩ => Pipeline.Dat.unnamed (cfg := cfg0) 16 t
    | ⟨17, _⟩ => Pipeline.Dat.unnamed (cfg := cfg0) 17 t
    | ⟨18, _⟩ => Pipeline.Dat.unnamed (cfg := cfg0) 18 t
    | ⟨19, _⟩ => Pipeline.Dat.unnamed (cfg := cfg0) 19 t
    | ⟨_ + 20, h⟩ => absurd h (Nat.not_lt.2 (Nat.le_add_left _ _))
  Φ _ := Pipeline.ΦA spec0 c
  q w := Pipeline.shareOf spec0 w
  owed _ := 0

/-- The arrays are as the region finds them. -/
theorem A_eq (c : Dev nD) (w : Fin cfg0.W) : (dats m 0 c).A w = V m c (Pipeline.arrRef spec0 w) := by
  dsimp only [dats]

/-- Input window 0 after a point, -/
theorem after0_0 (c : Dev nD) (t : Fin cfg0.N) : (dats m 0 c).after 0 t = iblk m c 0 t := by dsimp only [dats]
/-- and before it. -/
theorem before0_0 (c : Dev nD) (t : Fin cfg0.N) (d) : (dats m 0 c).before 0 t d = iblk m c 0 t :=
  before0_0_of m (dats m 0 c) (A_eq m c 0) (after0_0 m c) t d
/-- Input window 1 after a point, -/
theorem after0_1 (c : Dev nD) (t : Fin cfg0.N) : (dats m 0 c).after 1 t = iblk m c 1 t := by dsimp only [dats]
/-- and before it. -/
theorem before0_1 (c : Dev nD) (t : Fin cfg0.N) (d) : (dats m 0 c).before 1 t d = iblk m c 1 t :=
  before0_1_of m (dats m 0 c) (A_eq m c 1) (after0_1 m c) t d
/-- Input window 2 after a point, -/
theorem after0_2 (c : Dev nD) (t : Fin cfg0.N) : (dats m 0 c).after 2 t = iblk m c 2 t := by dsimp only [dats]
/-- and before it. -/
theorem before0_2 (c : Dev nD) (t : Fin cfg0.N) (d) : (dats m 0 c).before 2 t d = iblk m c 2 t :=
  before0_2_of m (dats m 0 c) (A_eq m c 2) (after0_2 m c) t d
/-- Input window 3 after a point, -/
theorem after0_3 (c : Dev nD) (t : Fin cfg0.N) : (dats m 0 c).after 3 t = iblk m c 3 t := by dsimp only [dats]
/-- and before it. -/
theorem before0_3 (c : Dev nD) (t : Fin cfg0.N) (d) : (dats m 0 c).before 3 t d = iblk m c 3 t :=
  before0_3_of m (dats m 0 c) (A_eq m c 3) (after0_3 m c) t d
/-- Input window 4 after a point, -/
theorem after0_4 (c : Dev nD) (t : Fin cfg0.N) : (dats m 0 c).after 4 t = iblk m c 4 t := by dsimp only [dats]
/-- and before it. -/
theorem before0_4 (c : Dev nD) (t : Fin cfg0.N) (d) : (dats m 0 c).before 4 t d = iblk m c 4 t :=
  before0_4_of m (dats m 0 c) (A_eq m c 4) (after0_4 m c) t d
/-- Input window 5 after a point, -/
theorem after0_5 (c : Dev nD) (t : Fin cfg0.N) : (dats m 0 c).after 5 t = iblk m c 5 t := by dsimp only [dats]
/-- and before it. -/
theorem before0_5 (c : Dev nD) (t : Fin cfg0.N) (d) : (dats m 0 c).before 5 t d = iblk m c 5 t :=
  before0_5_of m (dats m 0 c) (A_eq m c 5) (after0_5 m c) t d
/-- Input window 6 after a point, -/
theorem after0_6 (c : Dev nD) (t : Fin cfg0.N) : (dats m 0 c).after 6 t = iblk m c 6 t := by dsimp only [dats]
/-- and before it. -/
theorem before0_6 (c : Dev nD) (t : Fin cfg0.N) (d) : (dats m 0 c).before 6 t d = iblk m c 6 t :=
  before0_6_of m (dats m 0 c) (A_eq m c 6) (after0_6 m c) t d
/-- Input window 7 after a point, -/
theorem after0_7 (c : Dev nD) (t : Fin cfg0.N) : (dats m 0 c).after 7 t = iblk m c 7 t := by dsimp only [dats]
/-- and before it. -/
theorem before0_7 (c : Dev nD) (t : Fin cfg0.N) (d) : (dats m 0 c).before 7 t d = iblk m c 7 t :=
  before0_7_of m (dats m 0 c) (A_eq m c 7) (after0_7 m c) t d
/-- Input window 8 after a point, -/
theorem after0_8 (c : Dev nD) (t : Fin cfg0.N) : (dats m 0 c).after 8 t = iblk m c 8 t := by dsimp only [dats]
/-- and before it. -/
theorem before0_8 (c : Dev nD) (t : Fin cfg0.N) (d) : (dats m 0 c).before 8 t d = iblk m c 8 t :=
  before0_8_of m (dats m 0 c) (A_eq m c 8) (after0_8 m c) t d
/-- Input window 9 after a point, -/
theorem after0_9 (c : Dev nD) (t : Fin cfg0.N) : (dats m 0 c).after 9 t = iblk m c 9 t := by dsimp only [dats]
/-- and before it. -/
theorem before0_9 (c : Dev nD) (t : Fin cfg0.N) (d) : (dats m 0 c).before 9 t d = iblk m c 9 t :=
  before0_9_of m (dats m 0 c) (A_eq m c 9) (after0_9 m c) t d
/-- Input window 10 after a point, -/
theorem after0_10 (c : Dev nD) (t : Fin cfg0.N) : (dats m 0 c).after 10 t = iblk m c 10 t := by dsimp only [dats]
/-- and before it. -/
theorem before0_10 (c : Dev nD) (t : Fin cfg0.N) (d) : (dats m 0 c).before 10 t d = iblk m c 10 t :=
  before0_10_of m (dats m 0 c) (A_eq m c 10) (after0_10 m c) t d
/-- Input window 11 after a point, -/
theorem after0_11 (c : Dev nD) (t : Fin cfg0.N) : (dats m 0 c).after 11 t = iblk m c 11 t := by dsimp only [dats]
/-- and before it. -/
theorem before0_11 (c : Dev nD) (t : Fin cfg0.N) (d) : (dats m 0 c).before 11 t d = iblk m c 11 t :=
  before0_11_of m (dats m 0 c) (A_eq m c 11) (after0_11 m c) t d
/-- Input window 12 after a point, -/
theorem after0_12 (c : Dev nD) (t : Fin cfg0.N) : (dats m 0 c).after 12 t = iblk m c 12 t := by dsimp only [dats]
/-- and before it. -/
theorem before0_12 (c : Dev nD) (t : Fin cfg0.N) (d) : (dats m 0 c).before 12 t d = iblk m c 12 t :=
  before0_12_of m (dats m 0 c) (A_eq m c 12) (after0_12 m c) t d
/-- Input window 13 after a point, -/
theorem after0_13 (c : Dev nD) (t : Fin cfg0.N) : (dats m 0 c).after 13 t = iblk m c 13 t := by dsimp only [dats]
/-- and before it. -/
theorem before0_13 (c : Dev nD) (t : Fin cfg0.N) (d) : (dats m 0 c).before 13 t d = iblk m c 13 t :=
  before0_13_of m (dats m 0 c) (A_eq m c 13) (after0_13 m c) t d
/-- Input window 14 after a point, -/
theorem after0_14 (c : Dev nD) (t : Fin cfg0.N) : (dats m 0 c).after 14 t = iblk m c 14 t := by dsimp only [dats]
/-- and before it. -/
theorem before0_14 (c : Dev nD) (t : Fin cfg0.N) (d) : (dats m 0 c).before 14 t d = iblk m c 14 t :=
  before0_14_of m (dats m 0 c) (A_eq m c 14) (after0_14 m c) t d

/-- The branches taken at the first point. -/
theorem branch_fill : ∀ t : Fin grid0.N, t.val = 0 → Scalar.cmpi .ne (Scalar.extui (Scalar.cmpi .eq (BitVec.ofNat 32 (grid0.coords t 0).val) 0#32)) 0#32 = 1#1 ∧ ¬ k0_cond2 (grid0.coords t) = 1#1 ∧ k0_cond3 (grid0.coords t) = 1#1 ∧ ¬ k0_cond4 (grid0.coords t) = 1#1 ∧ ¬ k0_cond5 (grid0.coords t) = 1#1 ∧ ¬ k0_cond6 (grid0.coords t) = 1#1 ∧ ¬ k0_cond7 (grid0.coords t) = 1#1 := by
  decide +kernel

/-- The branches taken at an even point between. -/
theorem branch_even : ∀ t : Fin grid0.N, t.val ≠ 0 → t.val ≠ 128 → t.val % 2 = 0 → ¬ Scalar.cmpi .ne (Scalar.extui (Scalar.cmpi .eq (BitVec.ofNat 32 (grid0.coords t 0).val) 0#32)) 0#32 = 1#1 ∧ k0_cond2 (grid0.coords t) = 1#1 ∧ ¬ k0_cond3 (grid0.coords t) = 1#1 ∧ ¬ k0_cond4 (grid0.coords t) = 1#1 ∧ ¬ k0_cond5 (grid0.coords t) = 1#1 ∧ ¬ k0_cond6 (grid0.coords t) = 1#1 ∧ ¬ k0_cond7 (grid0.coords t) = 1#1 := by
  decide +kernel

/-- The branches taken at an odd point. -/
theorem branch_odd : ∀ t : Fin grid0.N, t.val % 2 = 1 → ¬ Scalar.cmpi .ne (Scalar.extui (Scalar.cmpi .eq (BitVec.ofNat 32 (grid0.coords t 0).val) 0#32)) 0#32 = 1#1 ∧ ¬ k0_cond2 (grid0.coords t) = 1#1 ∧ ¬ k0_cond3 (grid0.coords t) = 1#1 ∧ ¬ k0_cond4 (grid0.coords t) = 1#1 ∧ k0_cond5 (grid0.coords t) = 1#1 ∧ ¬ k0_cond6 (grid0.coords t) = 1#1 ∧ ¬ k0_cond7 (grid0.coords t) = 1#1 := by
  decide +kernel

/-- The branches taken at the last point. -/
theorem branch_drain : ∀ t : Fin grid0.N, t.val = 128 → ¬ Scalar.cmpi .ne (Scalar.extui (Scalar.cmpi .eq (BitVec.ofNat 32 (grid0.coords t 0).val) 0#32)) 0#32 = 1#1 ∧ ¬ k0_cond2 (grid0.coords t) = 1#1 ∧ ¬ k0_cond3 (grid0.coords t) = 1#1 ∧ k0_cond4 (grid0.coords t) = 1#1 ∧ ¬ k0_cond5 (grid0.coords t) = 1#1 ∧ ¬ k0_cond6 (grid0.coords t) = 1#1 ∧ ¬ k0_cond7 (grid0.coords t) = 1#1 := by
  decide +kernel

end Cert.Kernel3.Gen

end
-- ==== Proof.Stage3i.lean ====
/- What one grid point of the mixing call leaves in its window of the updated residual: four blocks of columns, each the residual plus the gated projection of its rows. -/
module

public import proofs.«01_k».proof.Proof.Gen.Kernel3Ideal.Frame
public import proofs.«01_k».proof.Proof.Gen.Kernel3Ideal.Skeleton

@[expose] public section

set_option maxRecDepth 65536

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (v9 : BitVec 32) (x0 : Vec F S1x256x1024 .bf16) (x1 : Vec F S1x256x512 .bf16) (x2 : Vec F S1x256x512 .bf16) (x3 : Vec F S1x16x512 .bf16) (x4 : Vec F S1x16x512 .bf16) (x5 : Vec F S1x256x512 .bf16) (x6 : Vec F S1x256x2048 .f32) (x7 : Vec F S1x6x2048 .f32) (x8 : Vec F S3x512 .f32) (x9 : Vec F S2048x2048 .bf16)

/-- The position of a tile in its sequence. -/
def tileNo (i : grid0.Coords) : BitVec 32 :=
  (Scalar.select (Scalar.andi (Scalar.xori (Scalar.cmpi .slt (Scalar.remsi (BitVec.ofNat 32 (i 0).val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 (i 0).val) (Scalar.select (Scalar.cmpi .eq 8#32 0#32) 1#32 8#32)) 0#32)) (Scalar.addi (Scalar.remsi (BitVec.ofNat 32 (i 0).val) (Scalar.select (Scalar.cmpi .eq 8#32 0#32) 1#32 8#32)) (Scalar.select (Scalar.cmpi .eq 8#32 0#32) 1#32 8#32)) (Scalar.remsi (BitVec.ofNat 32 (i 0).val) (Scalar.select (Scalar.cmpi .eq 8#32 0#32) 1#32 8#32)))

def f12_v62 : FVec F S256x512 .f32 :=
  (k0_pay63 (View.ld x2 (.unit _ _ inb_S1x256x512_S1x256x512_0_0_0)))

def f12_v87 : FVec F S256x512 .f32 :=
  (k0_pay64 v9 (View.ld x2 (.unit _ _ inb_S1x256x512_S1x256x512_0_0_0)) (View.ld x4 (.unit _ _ inb_S1x16x512_S1x1x512_0_0_0)))

def f12_v90 : FVec F S256x512 .f32 :=
  (k0_pay65 (View.ld x1 (.unit _ _ inb_S1x256x512_S1x256x512_0_0_0)))

def f12_v93 : FVec F S256x512 .f32 :=
  (k0_pay66 v9 (View.ld x2 (.unit _ _ inb_S1x256x512_S1x256x512_0_0_0)) (View.ld x3 (.unit _ _ inb_S1x16x512_S1x1x512_0_15_0)) (View.ld x8 (.unit _ _ inb_S3x512_S1x512_0_0)))

def f12_v95 : FVec F S256x512 .f32 :=
  (k0_pay67 (View.ld x8 (.unit _ _ inb_S3x512_S1x512_1_0)))

def f13_v103 : FVec F S256x512 .bf16 :=
  (k0_pay68 (f12_v62 x2) (f12_v87 v9 x2 x4) (f12_v90 x1) (f12_v93 v9 x2 x3 x8) (f12_v95 x8) (View.ld x8 (.unit _ _ inb_S3x512_S1x512_2_0)))

def f14_v155 : FVec F S256x1024 .bf16 :=
  (k0_pay71 (View.ld x0 (.unit _ _ inb_S1x256x1024_S1x256x1024_0_0_0)))

def f14_v157 : FVec F S1024x512 .bf16 :=
  (k0_pay72 (View.ld x9 (.unit _ _ inb_S2048x2048_S1024x512_0_1024)))

def f15_v187 : FVec F S256x512 .f32 :=
  (k0_pay74 (f13_v103 v9 x1 x2 x3 x4 x8) (View.ld x0 (.unit _ _ inb_S1x256x1024_S1x256x1024_0_0_0)) (View.ld x9 (.unit _ _ inb_S2048x2048_S1024x512_0_1536)) (View.ld x9 (.unit _ _ inb_S2048x2048_S512x512_1024_1536)))

def outX : Vec F S1x256x2048 .f32 :=
  View.canon [⟨(.unit _ _ inb_S1x256x2048_S1x256x512_0_0_1536), (k0_pay75 (f15_v187 v9 x0 x1 x2 x3 x4 x8 x9) (View.ld x5 (.unit _ _ inb_S1x256x512_S1x256x512_0_0_0)) (View.ld x9 (.unit _ _ inb_S2048x2048_S512x512_1536_1536)) (View.ld x6 (.unit _ _ inb_S1x256x2048_S1x256x512_0_0_1536)) (View.ld x7 (.unit _ _ inb_S1x6x2048_S1x1x512_0_2_1536)))⟩, ⟨(.unit _ _ inb_S1x256x2048_S1x256x512_0_0_1024), (k0_pay73 (f13_v103 v9 x1 x2 x3 x4 x8) (f14_v155 x0) (f14_v157 x9) (constant S256x512 .f32 0x00000000#32) (View.ld x9 (.unit _ _ inb_S2048x2048_S512x512_1024_1024)) (View.ld x5 (.unit _ _ inb_S1x256x512_S1x256x512_0_0_0)) (View.ld x9 (.unit _ _ inb_S2048x2048_S512x512_1536_1024)) (View.ld x6 (.unit _ _ inb_S1x256x2048_S1x256x512_0_0_1024)) (View.ld x7 (.unit _ _ inb_S1x6x2048_S1x1x512_0_2_1024)))⟩, ⟨(.unit _ _ inb_S1x256x2048_S1x256x512_0_0_512), (k0_pay70 (f13_v103 v9 x1 x2 x3 x4 x8) (View.ld x0 (.unit _ _ inb_S1x256x1024_S1x256x1024_0_0_0)) (View.ld x9 (.unit _ _ inb_S2048x2048_S1024x512_0_512)) (View.ld x9 (.unit _ _ inb_S2048x2048_S512x512_1024_512)) (View.ld x5 (.unit _ _ inb_S1x256x512_S1x256x512_0_0_0)) (View.ld x9 (.unit _ _ inb_S2048x2048_S512x512_1536_512)) (View.ld x6 (.unit _ _ inb_S1x256x2048_S1x256x512_0_0_512)) (View.ld x7 (.unit _ _ inb_S1x6x2048_S1x1x512_0_2_512)))⟩, ⟨(.unit _ _ inb_S1x256x2048_S1x256x512_0_0_0), (k0_pay69 (f12_v62 x2) (f12_v87 v9 x2 x4) (f12_v90 x1) (f12_v93 v9 x2 x3 x8) (f12_v95 x8) (View.ld x8 (.unit _ _ inb_S3x512_S1x512_2_0)) (View.ld x0 (.unit _ _ inb_S1x256x1024_S1x256x1024_0_0_0)) (View.ld x9 (.unit _ _ inb_S2048x2048_S1024x512_0_0)) (View.ld x9 (.unit _ _ inb_S2048x2048_S512x512_1024_0)) (View.ld x5 (.unit _ _ inb_S1x256x512_S1x256x512_0_0_0)) (View.ld x9 (.unit _ _ inb_S2048x2048_S512x512_1536_0)) (View.ld x6 (.unit _ _ inb_S1x256x2048_S1x256x512_0_0_0)) (View.ld x7 (.unit _ _ inb_S1x6x2048_S1x1x512_0_2_0)))⟩]

/-- The four stores tile the window. -/
theorem coverX (p0 : Vec F S1x256x512 .f32) (p1 : Vec F S1x256x512 .f32) (p2 : Vec F S1x256x512 .f32) (p3 : Vec F S1x256x512 .f32) (y : S1x256x2048.Idx) :
    ∃ pc ∈ ([⟨(.unit _ _ inb_S1x256x2048_S1x256x512_0_0_1536), p0⟩, ⟨(.unit _ _ inb_S1x256x2048_S1x256x512_0_0_1024), p1⟩, ⟨(.unit _ _ inb_S1x256x2048_S1x256x512_0_0_512), p2⟩, ⟨(.unit _ _ inb_S1x256x2048_S1x256x512_0_0_0), p3⟩] : List (View.Piece (Elt F) S1x256x2048 .f32)), y ∈ pc.1.set :=
  View.cover_of_tiled [⟨(.unit _ _ inb_S1x256x2048_S1x256x512_0_0_1536), p0⟩, ⟨(.unit _ _ inb_S1x256x2048_S1x256x512_0_0_1024), p1⟩, ⟨(.unit _ _ inb_S1x256x2048_S1x256x512_0_0_512), p2⟩, ⟨(.unit _ _ inb_S1x256x2048_S1x256x512_0_0_0), p3⟩] ![1, 256, 512] (by rfl) y

local notation "𝕄" => MT nD τ sig Unit (Elt F) ℕ (UR sig nD τ) ℕ

/-- The window of packed rows, held as it is, is held through its view as pairs of rows, -/
theorem to_pairs (c : Dev nD) (arg17 : Memref sig .tc .vmem S4096x128 .bf16) (harg17 : arg17.IsWhole) :
    (iprop(∃ d, owns (c : Thread nD τ) arg17 fullShare d) : sProp 𝕄) ⊢ iprop(∃ d, owns (c : Thread nD τ) (arg17.reshape S2048x2x128 reshapes_S4096x128_S2048x2x128.1 reshapes_S4096x128_S2048x2x128.2 harg17.contiguous) fullShare d) := by
  unfold owns
  rw [Memref.set_view_reshape arg17 reshapes_S4096x128_S2048x2x128.1 reshapes_S4096x128_S2048x2x128.2 harg17.contiguous]
  iintro ⟨%d, %f, -, H⟩
  iexists _; iexists f; isplitr
  swap; · iexact H
  ipureintro; rfl

/-- and back. -/
theorem of_pairs (c : Dev nD) (arg17 : Memref sig .tc .vmem S4096x128 .bf16) (harg17 : arg17.IsWhole) :
    (iprop(∃ d, owns (c : Thread nD τ) (arg17.reshape S2048x2x128 reshapes_S4096x128_S2048x2x128.1 reshapes_S4096x128_S2048x2x128.2 harg17.contiguous) fullShare d) : sProp 𝕄) ⊢ iprop(∃ d, owns (c : Thread nD τ) arg17 fullShare d) := by
  unfold owns
  rw [Memref.set_view_reshape arg17 reshapes_S4096x128_S2048x2x128.1 reshapes_S4096x128_S2048x2x128.2 harg17.contiguous]
  iintro ⟨%d, %f, -, H⟩
  iexists _; iexists f; isplitr
  swap; · iexact H
  ipureintro; rfl

end Cert.Kernel3Ideal.Gen

end
-- ==== Proof.Fill3i.lean ====
/- The first grid point: it mixes its own tile and starts the count. -/
module

public import proofs.«01_k».proof.Proof.Stage3i

@[expose] public section

set_option maxRecDepth 65536

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first grid point: it mixes its own tile and starts the count. -/
theorem triple_fill (c : Dev nD) (E : Set ℕ) (i : grid0.Coords) (h1 : Scalar.cmpi .ne (Scalar.extui (Scalar.cmpi .eq (BitVec.ofNat 32 (i 0).val) 0#32)) 0#32 = 1#1) (h2 : ¬ k0_cond2 i = 1#1) (h3 : k0_cond3 i = 1#1) (h4 : ¬ k0_cond4 i = 1#1) (h5 : ¬ k0_cond5 i = 1#1) (h6 : ¬ k0_cond6 i = 1#1) (h7 : ¬ k0_cond7 i = 1#1) (arg1 : Memref sig .tc .vmem S1x256x1024 .bf16) (harg1 : arg1.IsWhole) (arg2 : Memref sig .tc .vmem S1x256x512 .bf16) (harg2 : arg2.IsWhole) (arg3 : Memref sig .tc .vmem S1x256x512 .bf16) (harg3 : arg3.IsWhole) (arg4 : Memref sig .tc .vmem S1x16x512 .bf16) (harg4 : arg4.IsWhole) (arg5 : Memref sig .tc .vmem S1x16x512 .bf16) (harg5 : arg5.IsWhole) (arg6 : Memref sig .tc .vmem S1x256x512 .bf16) (harg6 : arg6.IsWhole) (arg7 : Memref sig .tc .vmem S1x256x2048 .f32) (harg7 : arg7.IsWhole) (arg8 : Memref sig .tc .vmem S1x6x2048 .f32) (harg8 : arg8.IsWhole) (arg9 : Memref sig .tc .vmem S3x512 .f32) (harg9 : arg9.IsWhole) (arg10 : Memref sig .tc .vmem S2048x2048 .bf16) (harg10 : arg10.IsWhole) (arg11 : Memref sig .tc .vmem S1x2048 .f32) (harg11 : arg11.IsWhole) (arg12 : Memref sig .tc .vmem S2048x256 .bf16) (harg12 : arg12.IsWhole) (arg13 : Memref sig .tc .vmem S2048x128 .bf16) (harg13 : arg13.IsWhole) (arg14 : Memref sig .tc .vmem S1x128 .f32) (harg14 : arg14.IsWhole) (arg15 : Memref sig .tc .vmem S1x128 .f32) (harg15 : arg15.IsWhole) (arg16 : Memref sig .tc .vmem S1x256x2048 .f32) (harg16 : arg16.IsWhole) (arg17 : Memref sig .tc .vmem S4096x128 .bf16) (harg17 : arg17.IsWhole) (arg18 : Memref sig .tc .vmem S256x128 .f32) (harg18 : arg18.IsWhole) (arg19 : Memref sig .tc .vmem S8x256 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S256x2048 .f32) (harg22 : arg22.IsWhole) (arg23 : Memref sig .tc .vmem S256x2048 .f32) (harg23 : arg23.IsWhole)
    (x0 : Vec F S1x256x1024 .bf16) (x1 : Vec F S1x256x512 .bf16) (x2 : Vec F S1x256x512 .bf16) (x3 : Vec F S1x16x512 .bf16) (x4 : Vec F S1x16x512 .bf16) (x5 : Vec F S1x256x512 .bf16) (x6 : Vec F S1x256x2048 .f32) (x7 : Vec F S1x6x2048 .f32) (x8 : Vec F S3x512 .f32) (x9 : Vec F S2048x2048 .bf16) (x10 : Vec F S1x2048 .f32) (x11 : Vec F S2048x256 .bf16) (x12 : Vec F S2048x128 .bf16) (x13 : Vec F S1x128 .f32) (x14 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) (arg17.reshape S2048x2x128 reshapes_S4096x128_S2048x2x128.1 reshapes_S4096x128_S2048x2x128.2 harg17.contiguous) fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (outX (tileNo i) x0 x1 x2 x3 x4 x5 x6 x7 x8 x9) ∗ (∃ d, owns (c : Thread nD τ) (arg17.reshape S2048x2x128 reshapes_S4096x128_S2048x2x128.1 reshapes_S4096x128_S2048x2x128.2 harg17.contiguous) fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
      ⊢ wp frame (wpE (defs₀ (F := F)) Variants.none c none) E (cc0_mix_router i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_mix_router_eq_skeleton]; unfold cc0_mix_router_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  subst hf0 hf1 hf2 hf3 hf4 hf5 hf6 hf7 hf8 hf9 hf10 hf11 hf12 hf13 hf14
  sl_exec (disch := first | sl_exact h1 | sl_exact h2 | sl_exact h3 | sl_exact h4 | sl_exact h5 | sl_exact h6 | sl_exact h7)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    refine (View.read_writes_eq_canon _ _ _ (coverX _ _ _ _)).trans ?_
    rfl
  isplitl [H16]
  · iexists _; iexists _; isplitr
    swap; · iexact H16
    ipureintro; rfl
  isplitl [H17]
  · iexists _; iexists _; isplitr
    swap; · iexact H17
    ipureintro; rfl
  isplitl [H18]
  · iexists _; iexists _; isplitr
    swap; · iexact H18
    ipureintro; rfl
  isplitl [H19]
  · iexists _; iexists _; isplitr
    swap; · iexact H19
    ipureintro; rfl
  isplitl [H20]
  · iexists _; iexists _; isplitr
    swap; · iexact H20
    ipureintro; rfl
  isplitl [H21]
  · iexists _; iexists _; isplitr
    swap; · iexact H21
    ipureintro; rfl
  iexists _; iexists _; isplitr
  swap; · iexact H22
  ipureintro; rfl

end Cert.Kernel3Ideal.Gen

end
-- ==== Proof.Even3i.lean ====
/- An even grid point between the first and the last: it routes the tile before and mixes its own. -/
module

public import proofs.«01_k».proof.Proof.Stage3i

@[expose] public section

set_option maxRecDepth 65536

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- An even grid point between the first and the last: it routes the tile before and mixes its own. -/
theorem triple_even (c : Dev nD) (E : Set ℕ) (i : grid0.Coords) (h1 : ¬ Scalar.cmpi .ne (Scalar.extui (Scalar.cmpi .eq (BitVec.ofNat 32 (i 0).val) 0#32)) 0#32 = 1#1) (h2 : k0_cond2 i = 1#1) (h3 : ¬ k0_cond3 i = 1#1) (h4 : ¬ k0_cond4 i = 1#1) (h5 : ¬ k0_cond5 i = 1#1) (h6 : ¬ k0_cond6 i = 1#1) (h7 : ¬ k0_cond7 i = 1#1) (arg1 : Memref sig .tc .vmem S1x256x1024 .bf16) (harg1 : arg1.IsWhole) (arg2 : Memref sig .tc .vmem S1x256x512 .bf16) (harg2 : arg2.IsWhole) (arg3 : Memref sig .tc .vmem S1x256x512 .bf16) (harg3 : arg3.IsWhole) (arg4 : Memref sig .tc .vmem S1x16x512 .bf16) (harg4 : arg4.IsWhole) (arg5 : Memref sig .tc .vmem S1x16x512 .bf16) (harg5 : arg5.IsWhole) (arg6 : Memref sig .tc .vmem S1x256x512 .bf16) (harg6 : arg6.IsWhole) (arg7 : Memref sig .tc .vmem S1x256x2048 .f32) (harg7 : arg7.IsWhole) (arg8 : Memref sig .tc .vmem S1x6x2048 .f32) (harg8 : arg8.IsWhole) (arg9 : Memref sig .tc .vmem S3x512 .f32) (harg9 : arg9.IsWhole) (arg10 : Memref sig .tc .vmem S2048x2048 .bf16) (harg10 : arg10.IsWhole) (arg11 : Memref sig .tc .vmem S1x2048 .f32) (harg11 : arg11.IsWhole) (arg12 : Memref sig .tc .vmem S2048x256 .bf16) (harg12 : arg12.IsWhole) (arg13 : Memref sig .tc .vmem S2048x128 .bf16) (harg13 : arg13.IsWhole) (arg14 : Memref sig .tc .vmem S1x128 .f32) (harg14 : arg14.IsWhole) (arg15 : Memref sig .tc .vmem S1x128 .f32) (harg15 : arg15.IsWhole) (arg16 : Memref sig .tc .vmem S1x256x2048 .f32) (harg16 : arg16.IsWhole) (arg17 : Memref sig .tc .vmem S4096x128 .bf16) (harg17 : arg17.IsWhole) (arg18 : Memref sig .tc .vmem S256x128 .f32) (harg18 : arg18.IsWhole) (arg19 : Memref sig .tc .vmem S8x256 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S256x2048 .f32) (harg22 : arg22.IsWhole) (arg23 : Memref sig .tc .vmem S256x2048 .f32) (harg23 : arg23.IsWhole)
    (x0 : Vec F S1x256x1024 .bf16) (x1 : Vec F S1x256x512 .bf16) (x2 : Vec F S1x256x512 .bf16) (x3 : Vec F S1x16x512 .bf16) (x4 : Vec F S1x16x512 .bf16) (x5 : Vec F S1x256x512 .bf16) (x6 : Vec F S1x256x2048 .f32) (x7 : Vec F S1x6x2048 .f32) (x8 : Vec F S3x512 .f32) (x9 : Vec F S2048x2048 .bf16) (x10 : Vec F S1x2048 .f32) (x11 : Vec F S2048x256 .bf16) (x12 : Vec F S2048x128 .bf16) (x13 : Vec F S1x128 .f32) (x14 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) (arg17.reshape S2048x2x128 reshapes_S4096x128_S2048x2x128.1 reshapes_S4096x128_S2048x2x128.2 harg17.contiguous) fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (outX (tileNo i) x0 x1 x2 x3 x4 x5 x6 x7 x8 x9) ∗ (∃ d, owns (c : Thread nD τ) (arg17.reshape S2048x2x128 reshapes_S4096x128_S2048x2x128.1 reshapes_S4096x128_S2048x2x128.2 harg17.contiguous) fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
      ⊢ wp frame (wpE (defs₀ (F := F)) Variants.none c none) E (cc0_mix_router i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_mix_router_eq_skeleton]; unfold cc0_mix_router_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  subst hf0 hf1 hf2 hf3 hf4 hf5 hf6 hf7 hf8 hf9 hf10 hf11 hf12 hf13 hf14
  sl_exec (disch := first | sl_exact h1 | sl_exact h2 | sl_exact h3 | sl_exact h4 | sl_exact h5 | sl_exact h6 | sl_exact h7)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    refine (View.read_writes_eq_canon _ _ _ (coverX _ _ _ _)).trans ?_
    rfl
  isplitl [H16]
  · iexists _; iexists _; isplitr
    swap; · iexact H16
    ipureintro; rfl
  isplitl [H17]
  · iexists _; iexists _; isplitr
    swap; · iexact H17
    ipureintro; rfl
  isplitl [H18]
  · iexists _; iexists _; isplitr
    swap; · iexact H18
    ipureintro; rfl
  isplitl [H19]
  · iexists _; iexists _; isplitr
    swap; · iexact H19
    ipureintro; rfl
  isplitl [H20]
  · iexists _; iexists _; isplitr
    swap; · iexact H20
    ipureintro; rfl
  isplitl [H21]
  · iexists _; iexists _; isplitr
    swap; · iexact H21
    ipureintro; rfl
  iexists _; iexists _; isplitr
  swap; · iexact H22
  ipureintro; rfl

end Cert.Kernel3Ideal.Gen

end
-- ==== Proof.Odd3i.lean ====
/- An odd grid point: it routes the tile before and mixes its own. -/
module

public import proofs.«01_k».proof.Proof.Stage3i

@[expose] public section

set_option maxRecDepth 65536

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- An odd grid point: it routes the tile before and mixes its own. -/
theorem triple_odd (c : Dev nD) (E : Set ℕ) (i : grid0.Coords) (h1 : ¬ Scalar.cmpi .ne (Scalar.extui (Scalar.cmpi .eq (BitVec.ofNat 32 (i 0).val) 0#32)) 0#32 = 1#1) (h2 : ¬ k0_cond2 i = 1#1) (h3 : ¬ k0_cond3 i = 1#1) (h4 : ¬ k0_cond4 i = 1#1) (h5 : k0_cond5 i = 1#1) (h6 : ¬ k0_cond6 i = 1#1) (h7 : ¬ k0_cond7 i = 1#1) (arg1 : Memref sig .tc .vmem S1x256x1024 .bf16) (harg1 : arg1.IsWhole) (arg2 : Memref sig .tc .vmem S1x256x512 .bf16) (harg2 : arg2.IsWhole) (arg3 : Memref sig .tc .vmem S1x256x512 .bf16) (harg3 : arg3.IsWhole) (arg4 : Memref sig .tc .vmem S1x16x512 .bf16) (harg4 : arg4.IsWhole) (arg5 : Memref sig .tc .vmem S1x16x512 .bf16) (harg5 : arg5.IsWhole) (arg6 : Memref sig .tc .vmem S1x256x512 .bf16) (harg6 : arg6.IsWhole) (arg7 : Memref sig .tc .vmem S1x256x2048 .f32) (harg7 : arg7.IsWhole) (arg8 : Memref sig .tc .vmem S1x6x2048 .f32) (harg8 : arg8.IsWhole) (arg9 : Memref sig .tc .vmem S3x512 .f32) (harg9 : arg9.IsWhole) (arg10 : Memref sig .tc .vmem S2048x2048 .bf16) (harg10 : arg10.IsWhole) (arg11 : Memref sig .tc .vmem S1x2048 .f32) (harg11 : arg11.IsWhole) (arg12 : Memref sig .tc .vmem S2048x256 .bf16) (harg12 : arg12.IsWhole) (arg13 : Memref sig .tc .vmem S2048x128 .bf16) (harg13 : arg13.IsWhole) (arg14 : Memref sig .tc .vmem S1x128 .f32) (harg14 : arg14.IsWhole) (arg15 : Memref sig .tc .vmem S1x128 .f32) (harg15 : arg15.IsWhole) (arg16 : Memref sig .tc .vmem S1x256x2048 .f32) (harg16 : arg16.IsWhole) (arg17 : Memref sig .tc .vmem S4096x128 .bf16) (harg17 : arg17.IsWhole) (arg18 : Memref sig .tc .vmem S256x128 .f32) (harg18 : arg18.IsWhole) (arg19 : Memref sig .tc .vmem S8x256 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S256x2048 .f32) (harg22 : arg22.IsWhole) (arg23 : Memref sig .tc .vmem S256x2048 .f32) (harg23 : arg23.IsWhole)
    (x0 : Vec F S1x256x1024 .bf16) (x1 : Vec F S1x256x512 .bf16) (x2 : Vec F S1x256x512 .bf16) (x3 : Vec F S1x16x512 .bf16) (x4 : Vec F S1x16x512 .bf16) (x5 : Vec F S1x256x512 .bf16) (x6 : Vec F S1x256x2048 .f32) (x7 : Vec F S1x6x2048 .f32) (x8 : Vec F S3x512 .f32) (x9 : Vec F S2048x2048 .bf16) (x10 : Vec F S1x2048 .f32) (x11 : Vec F S2048x256 .bf16) (x12 : Vec F S2048x128 .bf16) (x13 : Vec F S1x128 .f32) (x14 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) (arg17.reshape S2048x2x128 reshapes_S4096x128_S2048x2x128.1 reshapes_S4096x128_S2048x2x128.2 harg17.contiguous) fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (outX (tileNo i) x0 x1 x2 x3 x4 x5 x6 x7 x8 x9) ∗ (∃ d, owns (c : Thread nD τ) (arg17.reshape S2048x2x128 reshapes_S4096x128_S2048x2x128.1 reshapes_S4096x128_S2048x2x128.2 harg17.contiguous) fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
      ⊢ wp frame (wpE (defs₀ (F := F)) Variants.none c none) E (cc0_mix_router i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_mix_router_eq_skeleton]; unfold cc0_mix_router_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  subst hf0 hf1 hf2 hf3 hf4 hf5 hf6 hf7 hf8 hf9 hf10 hf11 hf12 hf13 hf14
  sl_exec (disch := first | sl_exact h1 | sl_exact h2 | sl_exact h3 | sl_exact h4 | sl_exact h5 | sl_exact h6 | sl_exact h7)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    refine (View.read_writes_eq_canon _ _ _ (coverX _ _ _ _)).trans ?_
    rfl
  isplitl [H16]
  · iexists _; iexists _; isplitr
    swap; · iexact H16
    ipureintro; rfl
  isplitl [H17]
  · iexists _; iexists _; isplitr
    swap; · iexact H17
    ipureintro; rfl
  isplitl [H18]
  · iexists _; iexists _; isplitr
    swap; · iexact H18
    ipureintro; rfl
  isplitl [H19]
  · iexists _; iexists _; isplitr
    swap; · iexact H19
    ipureintro; rfl
  isplitl [H20]
  · iexists _; iexists _; isplitr
    swap; · iexact H20
    ipureintro; rfl
  isplitl [H21]
  · iexists _; iexists _; isplitr
    swap; · iexact H21
    ipureintro; rfl
  iexists _; iexists _; isplitr
  swap; · iexact H22
  ipureintro; rfl

end Cert.Kernel3Ideal.Gen

end
-- ==== Proof.Drain3i.lean ====
/- The last grid point: it routes the last tile and mixes none. -/
module

public import proofs.«01_k».proof.Proof.Stage3i

@[expose] public section

set_option maxRecDepth 65536

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last grid point: it routes the last tile and mixes none. -/
theorem triple_drain (c : Dev nD) (E : Set ℕ) (i : grid0.Coords) (h1 : ¬ Scalar.cmpi .ne (Scalar.extui (Scalar.cmpi .eq (BitVec.ofNat 32 (i 0).val) 0#32)) 0#32 = 1#1) (h2 : ¬ k0_cond2 i = 1#1) (h3 : ¬ k0_cond3 i = 1#1) (h4 : k0_cond4 i = 1#1) (h5 : ¬ k0_cond5 i = 1#1) (h6 : ¬ k0_cond6 i = 1#1) (h7 : ¬ k0_cond7 i = 1#1) (arg1 : Memref sig .tc .vmem S1x256x1024 .bf16) (harg1 : arg1.IsWhole) (arg2 : Memref sig .tc .vmem S1x256x512 .bf16) (harg2 : arg2.IsWhole) (arg3 : Memref sig .tc .vmem S1x256x512 .bf16) (harg3 : arg3.IsWhole) (arg4 : Memref sig .tc .vmem S1x16x512 .bf16) (harg4 : arg4.IsWhole) (arg5 : Memref sig .tc .vmem S1x16x512 .bf16) (harg5 : arg5.IsWhole) (arg6 : Memref sig .tc .vmem S1x256x512 .bf16) (harg6 : arg6.IsWhole) (arg7 : Memref sig .tc .vmem S1x256x2048 .f32) (harg7 : arg7.IsWhole) (arg8 : Memref sig .tc .vmem S1x6x2048 .f32) (harg8 : arg8.IsWhole) (arg9 : Memref sig .tc .vmem S3x512 .f32) (harg9 : arg9.IsWhole) (arg10 : Memref sig .tc .vmem S2048x2048 .bf16) (harg10 : arg10.IsWhole) (arg11 : Memref sig .tc .vmem S1x2048 .f32) (harg11 : arg11.IsWhole) (arg12 : Memref sig .tc .vmem S2048x256 .bf16) (harg12 : arg12.IsWhole) (arg13 : Memref sig .tc .vmem S2048x128 .bf16) (harg13 : arg13.IsWhole) (arg14 : Memref sig .tc .vmem S1x128 .f32) (harg14 : arg14.IsWhole) (arg15 : Memref sig .tc .vmem S1x128 .f32) (harg15 : arg15.IsWhole) (arg16 : Memref sig .tc .vmem S1x256x2048 .f32) (harg16 : arg16.IsWhole) (arg17 : Memref sig .tc .vmem S4096x128 .bf16) (harg17 : arg17.IsWhole) (arg18 : Memref sig .tc .vmem S256x128 .f32) (harg18 : arg18.IsWhole) (arg19 : Memref sig .tc .vmem S8x256 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S256x2048 .f32) (harg22 : arg22.IsWhole) (arg23 : Memref sig .tc .vmem S256x2048 .f32) (harg23 : arg23.IsWhole)
    (x0 : Vec F S1x256x1024 .bf16) (x1 : Vec F S1x256x512 .bf16) (x2 : Vec F S1x256x512 .bf16) (x3 : Vec F S1x16x512 .bf16) (x4 : Vec F S1x16x512 .bf16) (x5 : Vec F S1x256x512 .bf16) (x6 : Vec F S1x256x2048 .f32) (x7 : Vec F S1x6x2048 .f32) (x8 : Vec F S3x512 .f32) (x9 : Vec F S2048x2048 .bf16) (x10 : Vec F S1x2048 .f32) (x11 : Vec F S2048x256 .bf16) (x12 : Vec F S2048x128 .bf16) (x13 : Vec F S1x128 .f32) (x14 : Vec F S1x128 .f32) (X0 : Vec F S1x256x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare X0 ∗ (∃ d, owns (c : Thread nD τ) (arg17.reshape S2048x2x128 reshapes_S4096x128_S2048x2x128.1 reshapes_S4096x128_S2048x2x128.2 harg17.contiguous) fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare X0 ∗ (∃ d, owns (c : Thread nD τ) (arg17.reshape S2048x2x128 reshapes_S4096x128_S2048x2x128.1 reshapes_S4096x128_S2048x2x128.2 harg17.contiguous) fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
      ⊢ wp frame (wpE (defs₀ (F := F)) Variants.none c none) E (cc0_mix_router i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_mix_router_eq_skeleton]; unfold cc0_mix_router_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  subst hf0 hf1 hf2 hf3 hf4 hf5 hf6 hf7 hf8 hf9 hf10 hf11 hf12 hf13 hf14 hf15
  sl_exec (disch := first | sl_exact h1 | sl_exact h2 | sl_exact h3 | sl_exact h4 | sl_exact h5 | sl_exact h6 | sl_exact h7)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; iexists _; isplitr
    swap; · iexact H16
    ipureintro; rfl
  isplitl [H17]
  · iexists _; iexists _; isplitr
    swap; · iexact H17
    ipureintro; rfl
  isplitl [H18]
  · iexists _; iexists _; isplitr
    swap; · iexact H18
    ipureintro; rfl
  isplitl [H19]
  · iexists _; iexists _; isplitr
    swap; · iexact H19
    ipureintro; rfl
  isplitl [H20]
  · iexists _; iexists _; isplitr
    swap; · iexact H20
    ipureintro; rfl
  isplitl [H21]
  · iexists _; iexists _; isplitr
    swap; · iexact H21
    ipureintro; rfl
  iexists _; iexists _; isplitr
  swap; · iexact H22
  ipureintro; rfl

end Cert.Kernel3Ideal.Gen

end
-- ==== Proof.Data3i.lean ====
/- The run of the mixing call, point by point: what each window holds before and after the body. -/
module

public import proofs.«01_k».proof.Proof.Fill3i
public import proofs.«01_k».proof.Proof.Even3i
public import proofs.«01_k».proof.Proof.Odd3i
public import proofs.«01_k».proof.Proof.Drain3i

@[expose] public section

set_option maxRecDepth 65536

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows of which nothing is said: the routing tables, the counts and the packed rows. -/
def forgets0 : Fin cfg0.W → Bool := fun w => Nat.ble 16 w.val

/-- The tile mixed at a point; the last point mixes none and keeps the one before. -/
def curPt (t : Fin cfg0.N) : Fin cfg0.N := ⟨min t.val 127, Nat.lt_of_le_of_lt (Nat.min_le_left _ _) t.isLt⟩

/-- Before the last point it is the point's own. -/
theorem curPt_of (t : Fin cfg0.N) (h : t.val ≠ 128) : curPt t = t := by
  have h1 : t.val < 129 := t.isLt
  exact Fin.ext (show min t.val 127 = t.val by omega)

/-- The updated residual of a point's tile. -/
def tileX (c : Dev nD) (t : Fin cfg0.N) : Vec F S1x256x2048 .f32 :=
  outX (tileNo (grid0.coords (curPt t))) (iblk m c 0 (curPt t)) (iblk m c 1 (curPt t)) (iblk m c 2 (curPt t)) (iblk m c 3 (curPt t)) (iblk m c 4 (curPt t)) (iblk m c 5 (curPt t)) (iblk m c 6 (curPt t)) (iblk m c 7 (curPt t)) (iblk m c 8 (curPt t)) (iblk m c 9 (curPt t))

/-- What the run leaves: each input's buffer at its block, the updated residual at its tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => tileX m c t
    | ⟨16, _⟩ => Pipeline.Dat.unnamed (cfg := cfg0) 16 t
    | ⟨17, _⟩ => Pipeline.Dat.unnamed (cfg := cfg0) 17 t
    | ⟨18, _⟩ => Pipeline.Dat.unnamed (cfg := cfg0) 18 t
    | ⟨19, _⟩ => Pipeline.Dat.unnamed (cfg := cfg0) 19 t
    | ⟨_ + 20, h⟩ => absurd h (Nat.not_lt.2 (Nat.le_add_left _ _))
  Φ _ := Pipeline.ΦA spec0 c
  q w := Pipeline.shareOf spec0 w
  owed _ := 0

/-- The arrays are as the region finds them. -/
theorem A_eq (c : Dev nD) (w : Fin cfg0.W) : (dats m 0 c).A w = V m c (Pipeline.arrRef spec0 w) := by
  dsimp only [dats]

/-- Input window 0 after a point, -/
theorem after0_0 (c : Dev nD) (t : Fin cfg0.N) : (dats m 0 c).after 0 t = iblk m c 0 t := by dsimp only [dats]
/-- and before it. -/
theorem before0_0 (c : Dev nD) (t : Fin cfg0.N) (d) : (dats m 0 c).before 0 t d = iblk m c 0 t :=
  before0_0_of m (dats m 0 c) (A_eq m c 0) (after0_0 m c) t d
/-- Input window 1 after a point, -/
theorem after0_1 (c : Dev nD) (t : Fin cfg0.N) : (dats m 0 c).after 1 t = iblk m c 1 t := by dsimp only [dats]
/-- and before it. -/
theorem before0_1 (c : Dev nD) (t : Fin cfg0.N) (d) : (dats m 0 c).before 1 t d = iblk m c 1 t :=
  before0_1_of m (dats m 0 c) (A_eq m c 1) (after0_1 m c) t d
/-- Input window 2 after a point, -/
theorem after0_2 (c : Dev nD) (t : Fin cfg0.N) : (dats m 0 c).after 2 t = iblk m c 2 t := by dsimp only [dats]
/-- and before it. -/
theorem before0_2 (c : Dev nD) (t : Fin cfg0.N) (d) : (dats m 0 c).before 2 t d = iblk m c 2 t :=
  before0_2_of m (dats m 0 c) (A_eq m c 2) (after0_2 m c) t d
/-- Input window 3 after a point, -/
theorem after0_3 (c : Dev nD) (t : Fin cfg0.N) : (dats m 0 c).after 3 t = iblk m c 3 t := by dsimp only [dats]
/-- and before it. -/
theorem before0_3 (c : Dev nD) (t : Fin cfg0.N) (d) : (dats m 0 c).before 3 t d = iblk m c 3 t :=
  before0_3_of m (dats m 0 c) (A_eq m c 3) (after0_3 m c) t d
/-- Input window 4 after a point, -/
theorem after0_4 (c : Dev nD) (t : Fin cfg0.N) : (dats m 0 c).after 4 t = iblk m c 4 t := by dsimp only [dats]
/-- and before it. -/
theorem before0_4 (c : Dev nD) (t : Fin cfg0.N) (d) : (dats m 0 c).before 4 t d = iblk m c 4 t :=
  before0_4_of m (dats m 0 c) (A_eq m c 4) (after0_4 m c) t d
/-- Input window 5 after a point, -/
theorem after0_5 (c : Dev nD) (t : Fin cfg0.N) : (dats m 0 c).after 5 t = iblk m c 5 t := by dsimp only [dats]
/-- and before it. -/
theorem before0_5 (c : Dev nD) (t : Fin cfg0.N) (d) : (dats m 0 c).before 5 t d = iblk m c 5 t :=
  before0_5_of m (dats m 0 c) (A_eq m c 5) (after0_5 m c) t d
/-- Input window 6 after a point, -/
theorem after0_6 (c : Dev nD) (t : Fin cfg0.N) : (dats m 0 c).after 6 t = iblk m c 6 t := by dsimp only [dats]
/-- and before it. -/
theorem before0_6 (c : Dev nD) (t : Fin cfg0.N) (d) : (dats m 0 c).before 6 t d = iblk m c 6 t :=
  before0_6_of m (dats m 0 c) (A_eq m c 6) (after0_6 m c) t d
/-- Input window 7 after a point, -/
theorem after0_7 (c : Dev nD) (t : Fin cfg0.N) : (dats m 0 c).after 7 t = iblk m c 7 t := by dsimp only [dats]
/-- and before it. -/
theorem before0_7 (c : Dev nD) (t : Fin cfg0.N) (d) : (dats m 0 c).before 7 t d = iblk m c 7 t :=
  before0_7_of m (dats m 0 c) (A_eq m c 7) (after0_7 m c) t d
/-- Input window 8 after a point, -/
theorem after0_8 (c : Dev nD) (t : Fin cfg0.N) : (dats m 0 c).after 8 t = iblk m c 8 t := by dsimp only [dats]
/-- and before it. -/
theorem before0_8 (c : Dev nD) (t : Fin cfg0.N) (d) : (dats m 0 c).before 8 t d = iblk m c 8 t :=
  before0_8_of m (dats m 0 c) (A_eq m c 8) (after0_8 m c) t d
/-- Input window 9 after a point, -/
theorem after0_9 (c : Dev nD) (t : Fin cfg0.N) : (dats m 0 c).after 9 t = iblk m c 9 t := by dsimp only [dats]
/-- and before it. -/
theorem before0_9 (c : Dev nD) (t : Fin cfg0.N) (d) : (dats m 0 c).before 9 t d = iblk m c 9 t :=
  before0_9_of m (dats m 0 c) (A_eq m c 9) (after0_9 m c) t d
/-- Input window 10 after a point, -/
theorem after0_10 (c : Dev nD) (t : Fin cfg0.N) : (dats m 0 c).after 10 t = iblk m c 10 t := by dsimp only [dats]
/-- and before it. -/
theorem before0_10 (c : Dev nD) (t : Fin cfg0.N) (d) : (dats m 0 c).before 10 t d = iblk m c 10 t :=
  before0_10_of m (dats m 0 c) (A_eq m c 10) (after0_10 m c) t d
/-- Input window 11 after a point, -/
theorem after0_11 (c : Dev nD) (t : Fin cfg0.N) : (dats m 0 c).after 11 t = iblk m c 11 t := by dsimp only [dats]
/-- and before it. -/
theorem before0_11 (c : Dev nD) (t : Fin cfg0.N) (d) : (dats m 0 c).before 11 t d = iblk m c 11 t :=
  before0_11_of m (dats m 0 c) (A_eq m c 11) (after0_11 m c) t d
/-- Input window 12 after a point, -/
theorem after0_12 (c : Dev nD) (t : Fin cfg0.N) : (dats m 0 c).after 12 t = iblk m c 12 t := by dsimp only [dats]
/-- and before it. -/
theorem before0_12 (c : Dev nD) (t : Fin cfg0.N) (d) : (dats m 0 c).before 12 t d = iblk m c 12 t :=
  before0_12_of m (dats m 0 c) (A_eq m c 12) (after0_12 m c) t d
/-- Input window 13 after a point, -/
theorem after0_13 (c : Dev nD) (t : Fin cfg0.N) : (dats m 0 c).after 13 t = iblk m c 13 t := by dsimp only [dats]
/-- and before it. -/
theorem before0_13 (c : Dev nD) (t : Fin cfg0.N) (d) : (dats m 0 c).before 13 t d = iblk m c 13 t :=
  before0_13_of m (dats m 0 c) (A_eq m c 13) (after0_13 m c) t d
/-- Input window 14 after a point, -/
theorem after0_14 (c : Dev nD) (t : Fin cfg0.N) : (dats m 0 c).after 14 t = iblk m c 14 t := by dsimp only [dats]
/-- and before it. -/
theorem before0_14 (c : Dev nD) (t : Fin cfg0.N) (d) : (dats m 0 c).before 14 t d = iblk m c 14 t :=
  before0_14_of m (dats m 0 c) (A_eq m c 14) (after0_14 m c) t d
/-- The updated residual after a point. -/
theorem after0_15 (c : Dev nD) (t : Fin cfg0.N) : (dats m 0 c).after 15 t = tileX m c t := by dsimp only [dats]

/-- The branches taken at the first point. -/
theorem branch_fill : ∀ t : Fin grid0.N, t.val = 0 → Scalar.cmpi .ne (Scalar.extui (Scalar.cmpi .eq (BitVec.ofNat 32 (grid0.coords t 0).val) 0#32)) 0#32 = 1#1 ∧ ¬ k0_cond2 (grid0.coords t) = 1#1 ∧ k0_cond3 (grid0.coords t) = 1#1 ∧ ¬ k0_cond4 (grid0.coords t) = 1#1 ∧ ¬ k0_cond5 (grid0.coords t) = 1#1 ∧ ¬ k0_cond6 (grid0.coords t) = 1#1 ∧ ¬ k0_cond7 (grid0.coords t) = 1#1 := by
  decide +kernel

/-- The branches taken at an even point between. -/
theorem branch_even : ∀ t : Fin grid0.N, t.val ≠ 0 → t.val ≠ 128 → t.val % 2 = 0 → ¬ Scalar.cmpi .ne (Scalar.extui (Scalar.cmpi .eq (BitVec.ofNat 32 (grid0.coords t 0).val) 0#32)) 0#32 = 1#1 ∧ k0_cond2 (grid0.coords t) = 1#1 ∧ ¬ k0_cond3 (grid0.coords t) = 1#1 ∧ ¬ k0_cond4 (grid0.coords t) = 1#1 ∧ ¬ k0_cond5 (grid0.coords t) = 1#1 ∧ ¬ k0_cond6 (grid0.coords t) = 1#1 ∧ ¬ k0_cond7 (grid0.coords t) = 1#1 := by
  decide +kernel

/-- The branches taken at an odd point. -/
theorem branch_odd : ∀ t : Fin grid0.N, t.val % 2 = 1 → ¬ Scalar.cmpi .ne (Scalar.extui (Scalar.cmpi .eq (BitVec.ofNat 32 (grid0.coords t 0).val) 0#32)) 0#32 = 1#1 ∧ ¬ k0_cond2 (grid0.coords t) = 1#1 ∧ ¬ k0_cond3 (grid0.coords t) = 1#1 ∧ ¬ k0_cond4 (grid0.coords t) = 1#1 ∧ k0_cond5 (grid0.coords t) = 1#1 ∧ ¬ k0_cond6 (grid0.coords t) = 1#1 ∧ ¬ k0_cond7 (grid0.coords t) = 1#1 := by
  decide +kernel

/-- The branches taken at the last point. -/
theorem branch_drain : ∀ t : Fin grid0.N, t.val = 128 → ¬ Scalar.cmpi .ne (Scalar.extui (Scalar.cmpi .eq (BitVec.ofNat 32 (grid0.coords t 0).val) 0#32)) 0#32 = 1#1 ∧ ¬ k0_cond2 (grid0.coords t) = 1#1 ∧ ¬ k0_cond3 (grid0.coords t) = 1#1 ∧ k0_cond4 (grid0.coords t) = 1#1 ∧ ¬ k0_cond5 (grid0.coords t) = 1#1 ∧ ¬ k0_cond6 (grid0.coords t) = 1#1 ∧ ¬ k0_cond7 (grid0.coords t) = 1#1 := by
  decide +kernel

/-- The updated residual's window is idle at the last point only, -/
theorem idle0_15 : ∀ t : Fin grid0.N, idle0 15 (grid0.coords t) = decide (t.val = 128) := by
  decide +kernel

/-- it is written back there, -/
theorem flush0_15_last : ∀ t : Fin grid0.N, t.val = 128 → win0_15.flush t = true := by
  decide +kernel

/-- and not at the point before. -/
theorem flush0_15_before : ∀ t : Fin grid0.N, t.val = 127 → win0_15.flush t = false := by
  decide +kernel

/-- At the last point the window still holds what the point before left. -/
theorem before_last (c : Dev nD) (t : Fin cfg0.N) (ht : t.val = 128) (d) : (dats m 0 c).before 15 t d = tileX m c t := by
  have hf : (cfg0.win 15).flush ⟨t.val - 1, Nat.lt_of_le_of_lt (Nat.sub_le _ _) t.isLt⟩ = false :=
    flush0_15_before _ (by show t.val - 1 = 127; omega)
  have hi : cfg0.idle 15 (cfg0.grid.coords ⟨t.val - 1, Nat.lt_of_le_of_lt (Nat.sub_le _ _) t.isLt⟩) = false :=
    (idle0_15 _).trans (decide_eq_false (by show ¬ (t.val - 1 = 128); omega))
  rw [(dats m 0 c).before_of_pos 15 t (by omega) rfl d, hf, if_neg Bool.false_ne_true]
  unfold Dat.left
  rw [hi]
  show (dats m 0 c).after 15 _ = _
  rw [after0_15]
  unfold tileX
  have hc : curPt ⟨t.val - 1, Nat.lt_of_le_of_lt (Nat.sub_le _ _) t.isLt⟩ = curPt t :=
    Fin.ext (show min (t.val - 1) 127 = min t.val 127 by omega)
  rw [hc]

end Cert.Kernel3Ideal.Gen

end
-- ==== Proof.Entry3.lean ====
/- The arrays the mixing call reads when its grid begins, by the call's arguments. -/
module

public import proofs.«01_k».proof.Proof.Data3i
public import Idealize.ShloMosaic.Lib.Pointwise
public import Idealize.ShloMosaic.Lib.StableHlo.RunRead

@[expose] public section

set_option maxRecDepth 65536

noncomputable section

namespace Cert.Proof.Mixing

open Idealize.ShloMosaic Idealize.ShloMosaic.TcCoe Idealize.SL.Sem Cert.Kernel3Ideal Cert.Kernel3Ideal.Gen

variable (m : (ℓ : Loc nD τ sig) → Buf (Elt Ideal) ℓ) (c : Dev nD)

/-- The attention's rows. -/
theorem entry_attn (b : Fin 16) (n : Fin 2048) (k : Fin 1024) : V m c main_v12 (ix3 b n k) = (m (c, Proc.tc.devRef main_arg0) (ix3 b n k) : EReal) := by
  simp only [V, hostOps0, List.flatten_cons, List.flatten_nil, List.append_nil, List.cons_append, List.nil_append]
  after_reads_simp
  try simp -implicitDefEqProofs only [StableHlo.TRef.toBuf, StableHlo.TRef.ofBuf, cast_cast, cast_eq]
  pointwise []

/-- The convolution's gates. -/
theorem entry_gb (b : Fin 16) (n : Fin 2048) (k : Fin 512) : V m c main_v13 (ix3 b n k) = (m (c, Proc.tc.devRef main_arg1) (ix3 b n k) : EReal) := by
  simp only [V, hostOps0, List.flatten_cons, List.flatten_nil, List.append_nil, List.cons_append, List.nil_append]
  after_reads_simp
  try simp -implicitDefEqProofs only [StableHlo.TRef.toBuf, StableHlo.TRef.ofBuf, cast_cast, cast_eq]
  pointwise []

/-- The gated products. -/
theorem entry_g (b : Fin 16) (n : Fin 2048) (k : Fin 512) : V m c main_v14 (ix3 b n k) = (m (c, Proc.tc.devRef main_arg2) (ix3 b n k) : EReal) := by
  simp only [V, hostOps0, List.flatten_cons, List.flatten_nil, List.append_nil, List.cons_append, List.nil_append]
  after_reads_simp
  try simp -implicitDefEqProofs only [StableHlo.TRef.toBuf, StableHlo.TRef.ofBuf, cast_cast, cast_eq]
  pointwise []

/-- The third branch's rows. -/
theorem entry_four (b : Fin 16) (n : Fin 2048) (k : Fin 512) : V m c main_v15 (ix3 b n k) = (m (c, Proc.tc.devRef main_arg3) (ix3 b n k) : EReal) := by
  simp only [V, hostOps0, List.flatten_cons, List.flatten_nil, List.append_nil, List.cons_append, List.nil_append]
  after_reads_simp
  try simp -implicitDefEqProofs only [StableHlo.TRef.toBuf, StableHlo.TRef.ofBuf, cast_cast, cast_eq]
  pointwise []

/-- The modulation, six rows to a batch. -/
theorem entry_mod (b : Fin 16) (i : Fin 6) (k : Fin 2048) : V m c main_v16 (ix3 b i k) = (m (c, Proc.tc.devRef main_arg5) (ix2 b ⟨i.val * 2048 + k.val, by omega⟩) : EReal) := by
  simp only [V, hostOps0, List.flatten_cons, List.flatten_nil, List.append_nil, List.cons_append, List.nil_append]
  after_reads_simp
  try simp -implicitDefEqProofs only [StableHlo.TRef.toBuf, StableHlo.TRef.ofBuf, cast_cast, cast_eq]
  pointwise []

/-- The projection's weights. -/
theorem entry_w (k j : Fin 2048) : V m c main_v10 (ix2 k j) = (m (c, Proc.tc.devRef main_arg8) (ix2 k j) : EReal) := by
  simp only [V, hostOps0, List.flatten_cons, List.flatten_nil, List.append_nil, List.cons_append, List.nil_append]
  after_reads_simp
  try simp -implicitDefEqProofs only [StableHlo.TRef.toBuf, StableHlo.TRef.ofBuf, cast_cast, cast_eq]
  pointwise []

end Cert.Proof.Mixing

end
-- ==== Proof.Args3.lean ====
/- The arguments of the mixing call by row and column, and the updated residual they determine. -/
module

public import Idealize.ShloMosaic.Lib.Pointwise

@[expose] public section

noncomputable section

namespace Cert.Proof.Mixing

open Idealize.ShloMosaic

/-- The arguments of the mixing call that the updated residual depends on. -/
structure Args where
  /-- The attention's rows, -/
  attn : Fin 16 → Fin 2048 → Fin 1024 → EReal
  /-- the gates of the convolution, -/
  gb : Fin 16 → Fin 2048 → Fin 512 → EReal
  /-- the gated products it runs over, -/
  g : Fin 16 → Fin 2048 → Fin 512 → EReal
  /-- the third branch's rows, -/
  four : Fin 16 → Fin 2048 → Fin 512 → EReal
  /-- the residual, -/
  x : Fin 16 → Fin 2048 → Fin 2048 → EReal
  /-- what a batch multiplies its update by, -/
  scale : Fin 16 → Fin 2048 → EReal
  /-- the three weights of the convolution -/
  cw : Fin 3 → Fin 512 → EReal
  /-- and the weights of the projection. -/
  w : Fin 2048 → Fin 2048 → EReal

variable (a : Args)

/-- The row before, zeros before the first. -/
def Args.before (b : Fin 16) (n : Fin 2048) (d : Fin 512) : EReal :=
  if h : 1 ≤ n.val then a.g b ⟨n.val - 1, by omega⟩ d else 0

/-- The row after, zeros after the last. -/
def Args.after (b : Fin 16) (n : Fin 2048) (d : Fin 512) : EReal :=
  if h : n.val + 1 < 2048 then a.g b ⟨n.val + 1, h⟩ d else 0

/-- The gated convolution along a sequence. -/
def Args.conv (b : Fin 16) (n : Fin 2048) (d : Fin 512) : EReal :=
  a.gb b n d * (a.before b n d * a.cw 0 d + a.g b n d * a.cw 1 d + a.after b n d * a.cw 2 d)

/-- The updated residual. -/
def Args.out (b : Fin 16) (n : Fin 2048) (j : Fin 2048) : EReal :=
  a.x b n j + a.scale b j * ((∑ k : Fin 1024, a.attn b n k * a.w ⟨k.val, by omega⟩ j) + (∑ k : Fin 512, a.conv b n k * a.w ⟨1024 + k.val, by omega⟩ j)
    + ∑ k : Fin 512, a.four b n k * a.w ⟨1536 + k.val, by omega⟩ j)

end Cert.Proof.Mixing

end
-- ==== Proof.Block3.lean ====
/- The blocks the mixing call reads at a grid point, by row and column of its arguments. -/
module

public import proofs.«01_k».proof.Proof.Entry3
public import proofs.«01_k».proof.Proof.Args3
public import Idealize.ShloMosaic.Lib.Pipeline.ValueKit

@[expose] public section

set_option maxRecDepth 65536

noncomputable section

namespace Cert.Proof.Mixing

open Idealize.ShloMosaic Idealize.ShloMosaic.TcCoe Idealize.SL.Sem Cert.Kernel3Ideal Cert.Kernel3Ideal.Gen

/-- Where each block of rows lies, at a grid point. -/
theorem where_rows : ∀ t : Fin grid0.N, win0_0.index t = ![min t.val 127 / 8, min t.val 127 % 8, 0] ∧ win0_1.index t = ![min t.val 127 / 8, min t.val 127 % 8, 0]
    ∧ win0_2.index t = ![min t.val 127 / 8, min t.val 127 % 8, 0] ∧ win0_5.index t = ![min t.val 127 / 8, min t.val 127 % 8, 0]
    ∧ win0_6.index t = ![min t.val 127 / 8, min t.val 127 % 8, 0] ∧ win0_15.index t = ![min t.val 127 / 8, min t.val 127 % 8, 0] := by
  decide +kernel

/-- Where the neighbouring rows and the weights lie. -/
theorem where_others : ∀ t : Fin grid0.N, win0_3.index t = ![min t.val 127 / 8, 16 * (min t.val 127 % 8) - 1, 0]
    ∧ win0_4.index t = ![min t.val 127 / 8, min (16 * (min t.val 127 % 8 + 1)) 127, 0] ∧ win0_7.index t = ![min t.val 127 / 8, 0, 0]
    ∧ win0_8.index t = ![0, 0] ∧ win0_9.index t = ![0, 0] := by
  decide +kernel

/-- A tile is the first of its sequence, -/
theorem tile_first : ∀ t : Fin grid0.N, t.val ≠ 128 → Scalar.cmpi CmpIPredicate.sgt (tileNo (grid0.coords t)) 0#32 = if t.val % 8 = 0 then 0#1 else 1#1 := by
  decide +kernel

/-- or the last. -/
theorem tile_last : ∀ t : Fin grid0.N, t.val ≠ 128 → Scalar.cmpi CmpIPredicate.slt (tileNo (grid0.coords t)) 7#32 = if t.val % 8 = 7 then 0#1 else 1#1 := by
  decide +kernel

variable (m : (ℓ : Loc nD τ sig) → Buf (Elt Ideal) ℓ) (c : Dev nD)

/-- The call's arguments, by row and column. -/
def args : Args where
  attn b n k := (m (c, Proc.tc.devRef main_arg0) (ix3 b n k) : EReal)
  gb b n k := (m (c, Proc.tc.devRef main_arg1) (ix3 b n k) : EReal)
  g b n k := (m (c, Proc.tc.devRef main_arg2) (ix3 b n k) : EReal)
  four b n k := (m (c, Proc.tc.devRef main_arg3) (ix3 b n k) : EReal)
  x b n k := (m (c, Proc.tc.devRef main_arg4) (ix3 b n k) : EReal)
  scale b k := (m (c, Proc.tc.devRef main_arg5) (ix2 b ⟨4096 + k.val, by omega⟩) : EReal)
  cw i k := (m (c, Proc.tc.devRef main_arg7) (ix2 i k) : EReal)
  w k j := (m (c, Proc.tc.devRef main_arg8) (ix2 k j) : EReal)

/-- The attention's rows. -/
theorem block_attn (t : Fin cfg0.N) (b : Fin 16) (n : Fin 2048) (r : Fin 256) (k : Fin 1024) (ht : t.val = 8 * b.val + n.val / 256)
    (hr : r.val = n.val % 256) : iblk m c 0 t (ix3 0 r k) = (args m c).attn b n k := by
  obtain ⟨w0, -⟩ := where_rows t
  refine Eq.trans (b := V m c main_v12 (ix3 b n k)) ?_ (entry_attn m c b n k)
  show V m c main_v12 ((win0_0.blk t).view.emb _) = _
  refine congrArg (V m c main_v12) (?_ : _ = ix3 b n k)
  blk_ext [w0, ht, hr]

/-- The convolution's gates. -/
theorem block_gb (t : Fin cfg0.N) (b : Fin 16) (n : Fin 2048) (r : Fin 256) (k : Fin 512) (ht : t.val = 8 * b.val + n.val / 256)
    (hr : r.val = n.val % 256) : iblk m c 1 t (ix3 0 r k) = (args m c).gb b n k := by
  obtain ⟨-, w1, -⟩ := where_rows t
  refine Eq.trans (b := V m c main_v13 (ix3 b n k)) ?_ (entry_gb m c b n k)
  show V m c main_v13 ((win0_1.blk t).view.emb _) = _
  refine congrArg (V m c main_v13) (?_ : _ = ix3 b n k)
  blk_ext [w1, ht, hr]

/-- The gated products. -/
theorem block_g (t : Fin cfg0.N) (b : Fin 16) (n : Fin 2048) (r : Fin 256) (k : Fin 512) (ht : t.val = 8 * b.val + n.val / 256)
    (hr : r.val = n.val % 256) : iblk m c 2 t (ix3 0 r k) = (args m c).g b n k := by
  obtain ⟨-, -, w2, -⟩ := where_rows t
  refine Eq.trans (b := V m c main_v14 (ix3 b n k)) ?_ (entry_g m c b n k)
  show V m c main_v14 ((win0_2.blk t).view.emb _) = _
  refine congrArg (V m c main_v14) (?_ : _ = ix3 b n k)
  blk_ext [w2, ht, hr]

/-- The third branch's rows. -/
theorem block_four (t : Fin cfg0.N) (b : Fin 16) (n : Fin 2048) (r : Fin 256) (k : Fin 512) (ht : t.val = 8 * b.val + n.val / 256)
    (hr : r.val = n.val % 256) : iblk m c 5 t (ix3 0 r k) = (args m c).four b n k := by
  obtain ⟨-, -, -, w5, -⟩ := where_rows t
  refine Eq.trans (b := V m c main_v15 (ix3 b n k)) ?_ (entry_four m c b n k)
  show V m c main_v15 ((win0_5.blk t).view.emb _) = _
  refine congrArg (V m c main_v15) (?_ : _ = ix3 b n k)
  blk_ext [w5, ht, hr]

/-- The residual's rows. -/
theorem block_x (t : Fin cfg0.N) (b : Fin 16) (n : Fin 2048) (r : Fin 256) (k : Fin 2048) (ht : t.val = 8 * b.val + n.val / 256)
    (hr : r.val = n.val % 256) : iblk m c 6 t (ix3 0 r k) = (args m c).x b n k := by
  obtain ⟨-, -, -, -, w6, -⟩ := where_rows t
  refine Eq.trans (b := V m c main_arg4 (ix3 b n k)) ?_ (congrFun (V_main_arg4 m c) _)
  show V m c main_arg4 ((win0_6.blk t).view.emb _) = _
  refine congrArg (V m c main_arg4) (?_ : _ = ix3 b n k)
  blk_ext [w6, ht, hr]

/-- The row before a tile. -/
theorem block_prev (t : Fin cfg0.N) (b : Fin 16) (n n' : Fin 2048) (k : Fin 512) (ht : t.val = 8 * b.val + n.val / 256) (hn : n'.val + 1 = n.val)
    (hr : n.val % 256 = 0) : iblk m c 3 t (ix3 0 15 k) = (args m c).g b n' k := by
  obtain ⟨w3, -⟩ := where_others t
  refine Eq.trans (b := V m c main_v14 (ix3 b n' k)) ?_ (entry_g m c b n' k)
  show V m c main_v14 ((win0_3.blk t).view.emb _) = _
  refine congrArg (V m c main_v14) (?_ : _ = ix3 b n' k)
  blk_ext [w3, ht, hr]

/-- The row after a tile. -/
theorem block_next (t : Fin cfg0.N) (b : Fin 16) (n n' : Fin 2048) (k : Fin 512) (ht : t.val = 8 * b.val + n.val / 256) (hn : n'.val = n.val + 1)
    (hr : n.val % 256 = 255) : iblk m c 4 t (ix3 0 0 k) = (args m c).g b n' k := by
  obtain ⟨-, w4, -⟩ := where_others t
  refine Eq.trans (b := V m c main_v14 (ix3 b n' k)) ?_ (entry_g m c b n' k)
  show V m c main_v14 ((win0_4.blk t).view.emb _) = _
  refine congrArg (V m c main_v14) (?_ : _ = ix3 b n' k)
  blk_ext [w4, ht, hr]

/-- The scales of a batch. -/
theorem block_scale (t : Fin cfg0.N) (b : Fin 16) (n : Fin 2048) (k : Fin 2048) (ht : t.val = 8 * b.val + n.val / 256) :
    iblk m c 7 t (ix3 0 2 k) = (args m c).scale b k := by
  obtain ⟨-, -, w7, -⟩ := where_others t
  refine Eq.trans (b := V m c main_v16 (ix3 b 2 k)) ?_ ((entry_mod m c b 2 k).trans rfl)
  show V m c main_v16 ((win0_7.blk t).view.emb _) = _
  refine congrArg (V m c main_v16) (?_ : _ = ix3 b 2 k)
  blk_ext [w7, ht]

/-- The weights of the convolution. -/
theorem block_cw (t : Fin cfg0.N) (i : Fin 3) (k : Fin 512) : iblk m c 8 t (ix2 i k) = (args m c).cw i k := by
  obtain ⟨-, -, -, w8, -⟩ := where_others t
  refine Eq.trans (b := V m c main_arg7 (ix2 i k)) ?_ (congrFun (V_main_arg7 m c) _)
  show V m c main_arg7 ((win0_8.blk t).view.emb _) = _
  refine congrArg (V m c main_arg7) (?_ : _ = ix2 i k)
  blk_ext [w8]

/-- The weights of the projection. -/
theorem block_w (t : Fin cfg0.N) (k j : Fin 2048) : iblk m c 9 t (ix2 k j) = (args m c).w k j := by
  obtain ⟨-, -, -, -, w9⟩ := where_others t
  refine Eq.trans (b := V m c main_v10 (ix2 k j)) ?_ (entry_w m c k j)
  show V m c main_v10 ((win0_9.blk t).view.emb _) = _
  refine congrArg (V m c main_v10) (?_ : _ = ix2 k j)
  blk_ext [w9]

end Cert.Proof.Mixing

end
-- ==== Proof.Tile3.lean ====
/- What one grid point of the mixing call leaves of the updated residual, read at an index. -/
module

public import proofs.«01_k».proof.Proof.Stage3i
public import Idealize.ShloMosaic.Lib.Pointwise
public import Idealize.ShloMosaic.Lib.Pipeline.ValueKit

@[expose] public section

set_option maxRecDepth 65536

noncomputable section

namespace Cert.Proof.Mixing

open Idealize.ShloMosaic Cert.Kernel3Ideal Cert.Kernel3Ideal.Gen

/-- The row before a tile's row: the last of the block before it, or zeros at the start of a sequence. -/
def rowBefore (v9 : BitVec 32) (x2 : Fin 256 → Fin 512 → EReal) (p : Fin 512 → EReal) (r : Fin 256) (d : Fin 512) : EReal :=
  Scalar.select (IntOp.cmpi CmpIPredicate.eq (BitVec.ofNat 32 r.val) 0#32) (Scalar.select (Scalar.cmpi CmpIPredicate.sgt v9 0#32) (p d) 0)
    (x2 ⟨(r.val + 256 - 1) % 256, Nat.mod_lt _ (by norm_num)⟩ d)

/-- The row after it: the first of the block after it, or zeros at the end of a sequence. -/
def rowAfter (v9 : BitVec 32) (x2 : Fin 256 → Fin 512 → EReal) (p : Fin 512 → EReal) (r : Fin 256) (d : Fin 512) : EReal :=
  Scalar.select (IntOp.cmpi CmpIPredicate.eq (BitVec.ofNat 32 r.val) 255#32) (Scalar.select (Scalar.cmpi CmpIPredicate.slt v9 7#32) (p d) 0)
    (x2 ⟨(r.val + 256 - 255) % 256, Nat.mod_lt _ (by norm_num)⟩ d)

/-- A row of a tile's gated products, its neighbours included, under the three weights of the convolution. -/
theorem conv_at (v9 : BitVec 32) (x1 x2 : Vec Ideal S1x256x512 .bf16) (x3 x4 : Vec Ideal S1x16x512 .bf16) (x8 : Vec Ideal S3x512 .f32)
    (r : Fin 256) (d : Fin 512) :
    f13_v103 v9 x1 x2 x3 x4 x8 (ix2 r d) = HMul.hMul (α := EReal) (x1 (ix3 0 r d))
      (rowBefore v9 (fun r d => x2 (ix3 0 r d)) (fun d => x3 (ix3 0 15 d)) r d * x8 (ix2 0 d) + HMul.hMul (α := EReal) (x2 (ix3 0 r d)) (x8 (ix2 1 d))
        + rowAfter v9 (fun r d => x2 (ix3 0 r d)) (fun d => x4 (ix3 0 0 d)) r d * x8 (ix2 2 d)) := by
  unfold f13_v103 f12_v62 f12_v87 f12_v90 f12_v93 f12_v95
  unfold_payloads
  pointwise [rowBefore, rowAfter]

/-- A tile of the updated residual: the residual, and the gated sum of the three projections. -/
theorem outX_at (v9 : BitVec 32) (x0 : Vec Ideal S1x256x1024 .bf16) (x1 x2 : Vec Ideal S1x256x512 .bf16) (x3 x4 : Vec Ideal S1x16x512 .bf16)
    (x5 : Vec Ideal S1x256x512 .bf16) (x6 : Vec Ideal S1x256x2048 .f32) (x7 : Vec Ideal S1x6x2048 .f32) (x8 : Vec Ideal S3x512 .f32)
    (x9 : Vec Ideal S2048x2048 .bf16) (r : Fin 256) (j : Fin 2048) :
    outX v9 x0 x1 x2 x3 x4 x5 x6 x7 x8 x9 (ix3 0 r j) = HAdd.hAdd (α := EReal) (x6 (ix3 0 r j)) (HMul.hMul (α := EReal) (x7 (ix3 0 2 j))
      ((∑ k : Fin 1024, x0 (ix3 0 r k) * x9 (ix2 ⟨k.val, by omega⟩ j)) + (∑ k : Fin 512, f13_v103 v9 x1 x2 x3 x4 x8 (ix2 r k) * x9 (ix2 ⟨1024 + k.val, by omega⟩ j))
        + ∑ k : Fin 512, x5 (ix3 0 r k) * x9 (ix2 ⟨1536 + k.val, by omega⟩ j))) := by
  simp only [conv_at]
  unfold outX
  canon_tiles x hx using coverX _ _ _ _ (ix3 0 r j)
  all_goals
    idx_vars x
    obtain rfl : x1 = r := Fin.ext (by omega)
    try simp only [f15_v187, f14_v155, f14_v157, f12_v62, f12_v87, f12_v90, f12_v93, f12_v95]
    unfold_payloads
    pointwise [conv_at, rowBefore, rowAfter]
    blk_point []

end Cert.Proof.Mixing

end
-- ==== Proof.Rows3.lean ====
/- A tile of the updated residual holds the rows of its sequence. -/
module

public import proofs.«01_k».proof.Proof.Block3
public import proofs.«01_k».proof.Proof.Tile3

@[expose] public section

set_option maxRecDepth 65536

noncomputable section

namespace Cert.Proof.Mixing

open Idealize.ShloMosaic Idealize.ShloMosaic.TcCoe Idealize.SL.Sem Cert.Kernel3Ideal Cert.Kernel3Ideal.Gen

/-- A choice by the equality of a small number with a literal. -/
theorem select_eq (n : Nat) (k : Nat) (hn : n < 4294967296) (hk : k < 4294967296) (x y : EReal) :
    Scalar.select (IntOp.cmpi CmpIPredicate.eq (BitVec.ofNat 32 n) (BitVec.ofNat 32 k)) x y = if n = k then x else y := by
  have h : (BitVec.ofNat 32 n = BitVec.ofNat 32 k) ↔ n = k := by
    rw [← BitVec.toNat_inj, BitVec.toNat_ofNat, BitVec.toNat_ofNat, Nat.mod_eq_of_lt hn, Nat.mod_eq_of_lt hk]
  by_cases e : n = k
  · simp [Scalar.select, IntOp.cmpi, e]
  · have h' : (BitVec.ofNat 32 n == BitVec.ofNat 32 k) = false := beq_eq_false_iff_ne.mpr fun hh => e (h.mp hh)
    simp [Scalar.select, IntOp.cmpi, h', e]

variable (m : (ℓ : Loc nD τ sig) → Buf (Elt Ideal) ℓ) (c : Dev nD)

/-- The row before, in a tile. -/
theorem before_row (t : Fin cfg0.N) (b : Fin 16) (n : Fin 2048) (r : Fin 256) (d : Fin 512) (ht : t.val = 8 * b.val + n.val / 256) (hr : r.val = n.val % 256) :
    rowBefore (tileNo (grid0.coords t)) (fun r d => iblk m c 2 t (ix3 0 r d)) (fun d => iblk m c 3 t (ix3 0 15 d)) r d = (args m c).before b n d := by
  have hl : t.val ≠ 128 := by omega
  unfold rowBefore Args.before
  rw [show (0#32) = BitVec.ofNat 32 0 from rfl, select_eq r.val 0 (by omega) (by omega), show (BitVec.ofNat 32 0) = 0#32 from rfl, tile_first t hl]
  by_cases h0 : r.val = 0
  · rw [if_pos h0]
    by_cases h8 : t.val % 8 = 0
    · rw [if_pos h8, dif_neg (by omega)]
      rfl
    · rw [if_neg h8, dif_pos (by omega)]
      exact block_prev m c t b n ⟨n.val - 1, by omega⟩ d ht (by show n.val - 1 + 1 = n.val; omega) (by omega)
  · rw [if_neg h0, dif_pos (by omega)]
    exact block_g m c t b ⟨n.val - 1, by omega⟩ _ d (by show t.val = 8 * b.val + (n.val - 1) / 256; omega) (by show (r.val + 256 - 1) % 256 = (n.val - 1) % 256; omega)

/-- The row after, in a tile. -/
theorem after_row (t : Fin cfg0.N) (b : Fin 16) (n : Fin 2048) (r : Fin 256) (d : Fin 512) (ht : t.val = 8 * b.val + n.val / 256) (hr : r.val = n.val % 256) :
    rowAfter (tileNo (grid0.coords t)) (fun r d => iblk m c 2 t (ix3 0 r d)) (fun d => iblk m c 4 t (ix3 0 0 d)) r d = (args m c).after b n d := by
  have hl : t.val ≠ 128 := by omega
  unfold rowAfter Args.after
  rw [show (255#32) = BitVec.ofNat 32 255 from rfl, select_eq r.val 255 (by omega) (by omega), tile_last t hl]
  by_cases h0 : r.val = 255
  · rw [if_pos h0]
    by_cases h8 : t.val % 8 = 7
    · rw [if_pos h8, dif_neg (by omega)]
      rfl
    · rw [if_neg h8, dif_pos (by omega)]
      exact block_next m c t b n ⟨n.val + 1, by omega⟩ d ht rfl (by omega)
  · rw [if_neg h0, dif_pos (by omega)]
    exact block_g m c t b ⟨n.val + 1, by omega⟩ _ d (by show t.val = 8 * b.val + (n.val + 1) / 256; omega) (by show (r.val + 256 - 255) % 256 = (n.val + 1) % 256; omega)

/-- The convolution, in a tile. -/
theorem conv_row (t : Fin cfg0.N) (b : Fin 16) (n : Fin 2048) (r : Fin 256) (d : Fin 512) (ht : t.val = 8 * b.val + n.val / 256) (hr : r.val = n.val % 256) :
    f13_v103 (tileNo (grid0.coords t)) (iblk m c 1 t) (iblk m c 2 t) (iblk m c 3 t) (iblk m c 4 t) (iblk m c 8 t) (ix2 r d) = (args m c).conv b n d := by
  rw [conv_at, before_row m c t b n r d ht hr, after_row m c t b n r d ht hr, block_gb m c t b n r d ht hr, block_g m c t b n r d ht hr,
    block_cw, block_cw, block_cw]
  rfl

/-- A tile's rows of the updated residual. -/
theorem out_row (t : Fin cfg0.N) (b : Fin 16) (n : Fin 2048) (r : Fin 256) (j : Fin 2048) (ht : t.val = 8 * b.val + n.val / 256) (hr : r.val = n.val % 256) :
    outX (tileNo (grid0.coords t)) (iblk m c 0 t) (iblk m c 1 t) (iblk m c 2 t) (iblk m c 3 t) (iblk m c 4 t) (iblk m c 5 t) (iblk m c 6 t)
      (iblk m c 7 t) (iblk m c 8 t) (iblk m c 9 t) (ix3 0 r j) = (args m c).out b n j := by
  rw [outX_at, block_x m c t b n r j ht hr, block_scale m c t b n j ht]
  simp only [block_attn m c t b n r _ ht hr, conv_row m c t b n r _ ht hr, block_four m c t b n r _ ht hr, block_w]
  rfl

end Cert.Proof.Mixing

end
-- ==== Proof.Run3i.lean ====
/- The run of the mixing call: the body at every point, and what the run leaves in the arrays. -/
module

public import proofs.«01_k».proof.Proof.Data3i

@[expose] public section

set_option maxRecDepth 65536

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)) ∗ (∃ d, owns (c : Thread nD τ) (st0_15 t) fullShare ((dats m 0 c).before 15 t d)) ∗ (∃ X, owns (c : Thread nD τ) (st0_16 t) fullShare X) ∗ (∃ X, owns (c : Thread nD τ) (st0_17 t) fullShare X) ∗ (∃ X, owns (c : Thread nD τ) (st0_18 t) fullShare X) ∗ (∃ X, owns (c : Thread nD τ) (st0_19 t) fullShare X))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t) ∗ owns (c : Thread nD τ) (st0_14 t) fullShare ((dats m 0 c).after 14 t) ∗ owns (c : Thread nD τ) (st0_15 t) fullShare ((dats m 0 c).after 15 t) ∗ (∃ X, owns (c : Thread nD τ) (st0_16 t) fullShare X) ∗ (∃ X, owns (c : Thread nD τ) (st0_17 t) fullShare X) ∗ (∃ X, owns (c : Thread nD τ) (st0_18 t) fullShare X) ∗ (∃ X, owns (c : Thread nD τ) (st0_19 t) fullShare X))

/-- Owning a whole buffer is owning its location, -/
theorem to_whole (c : Dev nD) (b : Ref sig (Proc.tc : Proc τ).kind) (f : b.ty.Contents (Elt F)) :
    ((c : Thread nD τ).loc b ↦{fullShare} f : sProp 𝕄) ⊢ owns (c : Thread nD τ) (Memref.whole b) fullShare f := by
  rw [owns_whole]

/-- in both directions. -/
theorem of_whole (c : Dev nD) (b : Ref sig (Proc.tc : Proc τ).kind) (f : b.ty.Contents (Elt F)) :
    owns (c : Thread nD τ) (Memref.whole b) fullShare f ⊢ ((c : Thread nD τ).loc b ↦{fullShare} f : sProp 𝕄) := by
  rw [owns_whole]

/-- The scratch buffers and the generator's register, whatever they hold. -/
theorem Phi_eq (c : Dev nD) (t) : (dats m 0 c).Φ t = Pipeline.ΦA (Val := Elt F) (U := UR sig nD τ) spec0 c := by
  dsimp only [dats]

set_option maxHeartbeats 1000000 in
/-- The body at the first point. -/
theorem body_fill (c : Dev nD) (t : Fin cfg0.N) (ht : t.val = 0) :
    bodyPre m c t ⊢ wp frame (wpE (defs₀ (F := F)) Variants.none c none) Set.univ (bodyAt0 t) (fun _ => bodyPost m c t) := by
  obtain ⟨b1, b2, b3, b4, b5, b6, b7⟩ := branch_fill t ht
  unfold bodyPre bodyPost bodyAt0
  simp only [before0_0, before0_1, before0_2, before0_3, before0_4, before0_5, before0_6, before0_7, before0_8, before0_9, before0_10, before0_11, before0_12, before0_13, before0_14]
  rw [Phi_eq, Phi_eq, show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  have hX : tileX m c t = outX (tileNo (grid0.coords t)) (iblk m c 0 t) (iblk m c 1 t) (iblk m c 2 t) (iblk m c 3 t) (iblk m c 4 t) (iblk m c 5 t) (iblk m c 6 t) (iblk m c 7 t) (iblk m c 8 t) (iblk m c 9 t) := by
    unfold tileX; rw [curPt_of t (by omega)]
  rw [hX]
  unfold Pipeline.ΦA
  rw [scopedRest0_eq]
  iintro ⟨⟨⟨⟨%e0, S0⟩, ⟨%e1, S1⟩, ⟨%e2, S2⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (triple_fill c Set.univ (grid0.coords t) b1 b2 b3 b4 b5 b6 b7 _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iapply (to_pairs c _ (hstage0_16 _)); iexists _; iexact H16
  isplitl [H17]; · iexists _; iexact H17
  isplitl [H18]; · iexists _; iexact H18
  isplitl [H19]; · iexists _; iexact H19
  isplitl [S0]; · iexists _; iapply (to_whole c _ _); iexact S0
  isplitl [S1]; · iexists _; iapply (to_whole c _ _); iexact S1
  isplitl [S2]; · iexists _; iapply (to_whole c _ _); iexact S2
  iintro ⟨H0, H1, H2, H3, H4, H5, H6, H7, H8, H9, H10, H11, H12, H13, H14, H15, H16, H17, H18, H19, ⟨%g0, S0⟩, ⟨%g1, S1⟩, ⟨%g2, S2⟩⟩
  isplitl [S0 S1 S2 Hr]
  · isplitr [Hr]
    · isplitl [S0]
      · iexists g0; iapply (of_whole c _ _); iexact S0
      isplitl [S1]
      · iexists g1; iapply (of_whole c _ _); iexact S1
      iexists g2; iapply (of_whole c _ _); iexact S2
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iapply (of_pairs c _ (hstage0_16 _)); iexact H16
  isplitl [H17]; · iexact H17
  isplitl [H18]; · iexact H18
  iexact H19

set_option maxHeartbeats 1000000 in
/-- The body at an even point between. -/
theorem body_even (c : Dev nD) (t : Fin cfg0.N) (ht : t.val ≠ 0) (hl : t.val ≠ 128) (he : t.val % 2 = 0) :
    bodyPre m c t ⊢ wp frame (wpE (defs₀ (F := F)) Variants.none c none) Set.univ (bodyAt0 t) (fun _ => bodyPost m c t) := by
  obtain ⟨b1, b2, b3, b4, b5, b6, b7⟩ := branch_even t ht hl he
  unfold bodyPre bodyPost bodyAt0
  simp only [before0_0, before0_1, before0_2, before0_3, before0_4, before0_5, before0_6, before0_7, before0_8, before0_9, before0_10, before0_11, before0_12, before0_13, before0_14]
  rw [Phi_eq, Phi_eq, show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  have hX : tileX m c t = outX (tileNo (grid0.coords t)) (iblk m c 0 t) (iblk m c 1 t) (iblk m c 2 t) (iblk m c 3 t) (iblk m c 4 t) (iblk m c 5 t) (iblk m c 6 t) (iblk m c 7 t) (iblk m c 8 t) (iblk m c 9 t) := by
    unfold tileX; rw [curPt_of t (by exact hl)]
  rw [hX]
  unfold Pipeline.ΦA
  rw [scopedRest0_eq]
  iintro ⟨⟨⟨⟨%e0, S0⟩, ⟨%e1, S1⟩, ⟨%e2, S2⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (triple_even c Set.univ (grid0.coords t) b1 b2 b3 b4 b5 b6 b7 _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iapply (to_pairs c _ (hstage0_16 _)); iexists _; iexact H16
  isplitl [H17]; · iexists _; iexact H17
  isplitl [H18]; · iexists _; iexact H18
  isplitl [H19]; · iexists _; iexact H19
  isplitl [S0]; · iexists _; iapply (to_whole c _ _); iexact S0
  isplitl [S1]; · iexists _; iapply (to_whole c _ _); iexact S1
  isplitl [S2]; · iexists _; iapply (to_whole c _ _); iexact S2
  iintro ⟨H0, H1, H2, H3, H4, H5, H6, H7, H8, H9, H10, H11, H12, H13, H14, H15, H16, H17, H18, H19, ⟨%g0, S0⟩, ⟨%g1, S1⟩, ⟨%g2, S2⟩⟩
  isplitl [S0 S1 S2 Hr]
  · isplitr [Hr]
    · isplitl [S0]
      · iexists g0; iapply (of_whole c _ _); iexact S0
      isplitl [S1]
      · iexists g1; iapply (of_whole c _ _); iexact S1
      iexists g2; iapply (of_whole c _ _); iexact S2
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iapply (of_pairs c _ (hstage0_16 _)); iexact H16
  isplitl [H17]; · iexact H17
  isplitl [H18]; · iexact H18
  iexact H19

set_option maxHeartbeats 1000000 in
/-- The body at an odd point. -/
theorem body_odd (c : Dev nD) (t : Fin cfg0.N) (ho : t.val % 2 = 1) :
    bodyPre m c t ⊢ wp frame (wpE (defs₀ (F := F)) Variants.none c none) Set.univ (bodyAt0 t) (fun _ => bodyPost m c t) := by
  obtain ⟨b1, b2, b3, b4, b5, b6, b7⟩ := branch_odd t ho
  unfold bodyPre bodyPost bodyAt0
  simp only [before0_0, before0_1, before0_2, before0_3, before0_4, before0_5, before0_6, before0_7, before0_8, before0_9, before0_10, before0_11, before0_12, before0_13, before0_14]
  rw [Phi_eq, Phi_eq, show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  have hX : tileX m c t = outX (tileNo (grid0.coords t)) (iblk m c 0 t) (iblk m c 1 t) (iblk m c 2 t) (iblk m c 3 t) (iblk m c 4 t) (iblk m c 5 t) (iblk m c 6 t) (iblk m c 7 t) (iblk m c 8 t) (iblk m c 9 t) := by
    unfold tileX; rw [curPt_of t (by omega)]
  rw [hX]
  unfold Pipeline.ΦA
  rw [scopedRest0_eq]
  iintro ⟨⟨⟨⟨%e0, S0⟩, ⟨%e1, S1⟩, ⟨%e2, S2⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (triple_odd c Set.univ (grid0.coords t) b1 b2 b3 b4 b5 b6 b7 _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iapply (to_pairs c _ (hstage0_16 _)); iexists _; iexact H16
  isplitl [H17]; · iexists _; iexact H17
  isplitl [H18]; · iexists _; iexact H18
  isplitl [H19]; · iexists _; iexact H19
  isplitl [S0]; · iexists _; iapply (to_whole c _ _); iexact S0
  isplitl [S1]; · iexists _; iapply (to_whole c _ _); iexact S1
  isplitl [S2]; · iexists _; iapply (to_whole c _ _); iexact S2
  iintro ⟨H0, H1, H2, H3, H4, H5, H6, H7, H8, H9, H10, H11, H12, H13, H14, H15, H16, H17, H18, H19, ⟨%g0, S0⟩, ⟨%g1, S1⟩, ⟨%g2, S2⟩⟩
  isplitl [S0 S1 S2 Hr]
  · isplitr [Hr]
    · isplitl [S0]
      · iexists g0; iapply (of_whole c _ _); iexact S0
      isplitl [S1]
      · iexists g1; iapply (of_whole c _ _); iexact S1
      iexists g2; iapply (of_whole c _ _); iexact S2
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iapply (of_pairs c _ (hstage0_16 _)); iexact H16
  isplitl [H17]; · iexact H17
  isplitl [H18]; · iexact H18
  iexact H19

set_option maxHeartbeats 1000000 in
/-- The body at the last point. -/
theorem body_drain (c : Dev nD) (t : Fin cfg0.N) (hl : t.val = 128) :
    bodyPre m c t ⊢ wp frame (wpE (defs₀ (F := F)) Variants.none c none) Set.univ (bodyAt0 t) (fun _ => bodyPost m c t) := by
  obtain ⟨b1, b2, b3, b4, b5, b6, b7⟩ := branch_drain t hl
  unfold bodyPre bodyPost bodyAt0
  simp only [before0_0, before0_1, before0_2, before0_3, before0_4, before0_5, before0_6, before0_7, before0_8, before0_9, before0_10, before0_11, before0_12, before0_13, before0_14, before_last m c t hl]
  rw [Phi_eq, Phi_eq, show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  unfold Pipeline.ΦA
  rw [scopedRest0_eq]
  iintro ⟨⟨⟨⟨%e0, S0⟩, ⟨%e1, S1⟩, ⟨%e2, S2⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (triple_drain c Set.univ (grid0.coords t) b1 b2 b3 b4 b5 b6 b7 _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (tileX m c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iapply (to_pairs c _ (hstage0_16 _)); iexists _; iexact H16
  isplitl [H17]; · iexists _; iexact H17
  isplitl [H18]; · iexists _; iexact H18
  isplitl [H19]; · iexists _; iexact H19
  isplitl [S0]; · iexists _; iapply (to_whole c _ _); iexact S0
  isplitl [S1]; · iexists _; iapply (to_whole c _ _); iexact S1
  isplitl [S2]; · iexists _; iapply (to_whole c _ _); iexact S2
  iintro ⟨H0, H1, H2, H3, H4, H5, H6, H7, H8, H9, H10, H11, H12, H13, H14, H15, H16, H17, H18, H19, ⟨%g0, S0⟩, ⟨%g1, S1⟩, ⟨%g2, S2⟩⟩
  isplitl [S0 S1 S2 Hr]
  · isplitr [Hr]
    · isplitl [S0]
      · iexists g0; iapply (of_whole c _ _); iexact S0
      isplitl [S1]
      · iexists g1; iapply (of_whole c _ _); iexact S1
      iexists g2; iapply (of_whole c _ _); iexact S2
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iapply (of_pairs c _ (hstage0_16 _)); iexact H16
  isplitl [H17]; · iexact H17
  isplitl [H18]; · iexact H18
  iexact H19

/-- The body at any point. -/
theorem body_any (c : Dev nD) (t : Fin cfg0.N) :
    bodyPre m c t ⊢ wp frame (wpE (defs₀ (F := F)) Variants.none c none) Set.univ (bodyAt0 t) (fun _ => bodyPost m c t) := by
  by_cases h0 : t.val = 0
  · exact body_fill m c t h0
  · by_cases ho : t.val % 2 = 1
    · exact body_odd m c t ho
    · by_cases hl : t.val = 128
      · exact body_drain m c t hl
      · exact body_even m c t h0 hl (by omega)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 1000000 in
/-- The library's body obligation, at every point. -/
theorem body_obligation (c : Dev nD) : BodyObligation (dats (F := F) m 0 c) (defs₀ (F := F)) Variants.none () Set.univ forgets0 := fun t => by
  rw [bigSep_W0, bigSep_W0, defs₀_row]
  by_cases hl : t.val = 128
  · have i15 : idle0 15 (grid0.coords t) = true := (idle0_15 t).trans (decide_eq_true hl)
    have f15 : (cfg0.win 15).flush t = true := flush0_15_last t hl
    refine triple_restated (body_any m c t) rfl .rfl fun _ => ?_
    simp only [i15, f15]
    exact .rfl
  · have i15 : idle0 15 (grid0.coords t) = false := (idle0_15 t).trans (decide_eq_false hl)
    refine triple_restated (body_any m c t) rfl .rfl fun _ => ?_
    simp only [i15]
    exact .rfl

set_option backward.isDefEq.respectTransparency.types false in
set_option maxHeartbeats 800000 in
/-- The run: it ends, with the arrays at what the body leaves and every counter at zero. -/
theorem run_main_quiescent : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := Phi_eq m)

/-- The argument arrays end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12))
      ∧ r.2.sem = fun _ => 0) :=
  (θ_run defs _ _).mono (fun r h' => ⟨fun c => by
    have h := h'.1
    exact ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (Pipeline.RDat.FramePost.arr_in h c 6 rfl).trans ((A_eq m c 6).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (Pipeline.RDat.FramePost.arr_in h c 8 rfl).trans ((A_eq m c 8).trans (V_main_arg7 m c)),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩, h'.2⟩) (run_main_quiescent m ρ)

end Cert.Kernel3Ideal.Gen

end
-- ==== Proof.Array3.lean ====
/- The array the mixing call leaves: the updated residual. -/
module

public import proofs.«01_k».proof.Proof.Rows3
public import proofs.«01_k».proof.Proof.Run3i

@[expose] public section

set_option maxRecDepth 65536

noncomputable section

namespace Cert.Proof.Mixing

open Idealize.ShloMosaic Idealize.ShloMosaic.TcCoe Idealize.SL.Sem Cert.Kernel3Ideal Cert.Kernel3Ideal.Gen

variable (m : (ℓ : Loc nD τ sig) → Buf (Elt Ideal) ℓ) (c : Dev nD)

/-- The updated residual's array after the grid has run. -/
theorem out_array : (dats m 0 c).arrAt 15 cfg0.N = (fun i => (args m c).out (i 0) (i 1) (i 2)) := by
  refine (dats m 0 c).arrAt_eq_of_covers 15 _ (by decide +kernel) fun t hf y => ?_
  have w := (where_rows t).2.2.2.2.2
  have y0 : (y 0 : Nat) < 1 := (y 0).isLt
  have y1 : (y 1 : Nat) < 256 := (y 1).isLt
  have y2 : (y 2 : Nat) < 2048 := (y 2).isLt
  have e0 : ((win0_15.blk t).view.emb y 0 : Nat) = min t.val 127 / 8 := by blk_simp [w]
  have e1 : ((win0_15.blk t).view.emb y 1 : Nat) = 256 * (min t.val 127 % 8) + y 1 := by blk_simp [w]; omega
  have e2 : ((win0_15.blk t).view.emb y 2 : Nat) = y 2 := by blk_simp [w]
  blk_simp
  rw [after0_15]
  unfold tileX
  refine Eq.trans (congrArg (outX _ _ _ _ _ _ _ _ _ _ _) (?_ : _ = ix3 0 ⟨(y 1 : Nat), y1⟩ ((win0_15.blk t).view.emb y 2)))
    (out_row m c (curPt t) ((win0_15.blk t).view.emb y 0) ((win0_15.blk t).view.emb y 1) ⟨(y 1 : Nat), y1⟩ ((win0_15.blk t).view.emb y 2) ?_ ?_)
  · refine funext fun a => Fin.ext ?_
    match a with
    | ⟨0, _⟩ => show (y 0 : Nat) = 0; omega
    | ⟨1, _⟩ => rfl
    | ⟨2, _⟩ => exact e2.symm
  · show min t.val 127 = 8 * ((win0_15.blk t).view.emb y 0 : Nat) + ((win0_15.blk t).view.emb y 1 : Nat) / 256
    omega
  · show (y 1 : Nat) = ((win0_15.blk t).view.emb y 1 : Nat) % 256
    omega

/-- The updated residual after the run. -/
theorem result_out (r : PUnit × MemSt nD τ sig (Elt Ideal))
    (h : Pipeline.RDat.FramePost (cfgs 0) (fun c => (dats m 0 c).toRForget forgets0) (V m) r) :
    r.2.mem ((c.tc : Thread nD τ).loc main_v18_0) = (fun i => (args m c).out (i 0) (i 1) (i 2)) := by
  have e := ((dats m 0 c).toRForget_arrAt_iff (fgt := forgets0) (w := 15) rfl cfg0.N _).mp ((h c).1 15)
  exact e.trans (out_array m c)

end Cert.Proof.Mixing

end
-- ==== Proof.Match3.lean ====
/- The mixing reference's run ends with the updated residual of its arguments. -/
module

public import proofs.«01_k».proof.Proof.Gen.Reference3Ideal.Run
public import proofs.«01_k».proof.Proof.Args3
public import Idealize.ShloMosaic.Lib.Pointwise

@[expose] public section

set_option maxRecDepth 16384

noncomputable section

namespace Cert.Proof.Mixing

open Idealize.ShloMosaic Idealize.ShloMosaic.StableHlo Idealize.SL.Sem Cert.Reference3Ideal Cert.Reference3Ideal.Gen Cert.Reference3Ideal.Value

/-- Arguments by row and column. -/
def argsOf (a0 : FVec Ideal S16x2048x1024 .f32) (a1 a2 a3 : FVec Ideal S16x2048x512 .f32) (a4 : FVec Ideal S16x2048x2048 .f32)
    (a5 : FVec Ideal S16x12288 .f32) (a7 : FVec Ideal S3x512 .f32) (a8 : FVec Ideal S2048x2048 .f32) : Args where
  attn b n k := a0 (ix3 b n k)
  gb b n k := a1 (ix3 b n k)
  g b n k := a2 (ix3 b n k)
  four b n k := a3 (ix3 b n k)
  x b n k := a4 (ix3 b n k)
  scale b k := a5 (ix2 b ⟨4096 + k.val, by omega⟩)
  cw i k := a7 (ix2 i k)
  w k j := a8 (ix2 k j)

/-- The reference's arguments, by row and column. -/
def refArgs (V0 : Valuation τ sig (Elt Ideal)) : Args :=
  argsOf (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg7)) (V0 (Proc.devRef .tc main_arg8))

/-- A sum over the projection's rows, by branch. -/
theorem sum_split (f : Fin 2048 → EReal) : (∑ k, f k) = (∑ k : Fin 1024, f ⟨k.val, by omega⟩) + (∑ k : Fin 512, f ⟨1024 + k.val, by omega⟩)
    + ∑ k : Fin 512, f ⟨1536 + k.val, by omega⟩ := by
  have h1 := Fin.sum_univ_add (a := 1536) (b := 512) f
  have h2 := Fin.sum_univ_add (a := 1024) (b := 512) (fun k : Fin (1024 + 512) => f ⟨k.val, by omega⟩)
  exact h1.trans (congrArg (· + _) h2)

/-- A padding row holds zeros. -/
theorem pad_zero : (FloatOps.sitofp (F := Ideal) FTy.f32 0#32) = (0 : EReal) := by
  show ((_ : ℝ) : EReal) = 0
  simp

/-- The gated products with a row of zeros at each end of a sequence. -/
theorem padded_at (g : FVec Ideal S16x2048x512 .f32) (b : Fin 16) (p : Fin 2050) (d : Fin 512) :
    pad S16x2050x512 ![0, 1, 0] ![0, 1, 0] ![0, 0, 0] g (sitofp .f32 (constantI S_ 32 0#32)) pads_S16x2048x512_S16x2050x512_000_110_000 h_S_ (ix3 b p d)
      = if h : 1 ≤ p.val ∧ p.val - 1 < 2048 then g (ix3 b ⟨p.val - 1, h.2⟩ d) else (0 : EReal) := by
  pointwise [pad_zero]

/-- The reference's gated convolution. -/
def convTerm (a1 a2 : FVec Ideal S16x2048x512 .f32) (a7 : FVec Ideal S3x512 .f32) : FVec Ideal S16x2048x512 .f32 :=
  (mulf a1 (addf (addf (mulf (extractStridedSlice S16x2048x512 ![0, 0, 0] (pad S16x2050x512 ![0, 1, 0] ![0, 1, 0] ![0, 0, 0] a2 (sitofp .f32 (constantI S_ 32 0#32)) pads_S16x2048x512_S16x2050x512_000_110_000 h_S_) slices_S16x2050x512_S16x2048x512_0_0_0) (broadcastInDim S16x2048x512 ![0, 1, 2] bcast_S1x1x512_S16x2048x512_0_1_2 (broadcastInDim S1x1x512 ![2] bcast_S512_S1x1x512_2 (shapeCast _ (extractStridedSlice S1x512 ![0, 0] a7 slices_S3x512_S1x512_0_0) shapeCasts_S1x512_S512)))) (mulf (extractStridedSlice S16x2048x512 ![0, 1, 0] (pad S16x2050x512 ![0, 1, 0] ![0, 1, 0] ![0, 0, 0] a2 (sitofp .f32 (constantI S_ 32 0#32)) pads_S16x2048x512_S16x2050x512_000_110_000 h_S_) slices_S16x2050x512_S16x2048x512_0_1_0) (broadcastInDim S16x2048x512 ![0, 1, 2] bcast_S1x1x512_S16x2048x512_0_1_2 (broadcastInDim S1x1x512 ![2] bcast_S512_S1x1x512_2 (shapeCast _ (extractStridedSlice S1x512 ![1, 0] a7 slices_S3x512_S1x512_1_0) shapeCasts_S1x512_S512))))) (mulf (extractStridedSlice S16x2048x512 ![0, 2, 0] (pad S16x2050x512 ![0, 1, 0] ![0, 1, 0] ![0, 0, 0] a2 (sitofp .f32 (constantI S_ 32 0#32)) pads_S16x2048x512_S16x2050x512_000_110_000 h_S_) slices_S16x2050x512_S16x2048x512_0_2_0) (broadcastInDim S16x2048x512 ![0, 1, 2] bcast_S1x1x512_S16x2048x512_0_1_2 (broadcastInDim S1x1x512 ![2] bcast_S512_S1x1x512_2 (shapeCast _ (extractStridedSlice S1x512 ![2, 0] a7 slices_S3x512_S1x512_2_0) shapeCasts_S1x512_S512))))))

/-- It is the convolution of the rows. -/
theorem convTerm_at (a0 : FVec Ideal S16x2048x1024 .f32) (a1 a2 a3 : FVec Ideal S16x2048x512 .f32) (a4 : FVec Ideal S16x2048x2048 .f32)
    (a5 : FVec Ideal S16x12288 .f32) (a7 : FVec Ideal S3x512 .f32) (a8 : FVec Ideal S2048x2048 .f32) (b : Fin 16) (n : Fin 2048) (d : Fin 512) :
    convTerm a1 a2 a7 (ix3 b n d) = (argsOf a0 a1 a2 a3 a4 a5 a7 a8).conv b n d := by
  unfold convTerm
  pointwise [padded_at, pad_zero, Args.conv, Args.before, Args.after, argsOf]
  refine congrArg₂ (· * ·) rfl (congrArg₂ (· + ·) (congrArg₂ (· + ·) (congrArg₂ (· * ·) ?_ rfl) rfl) (congrArg₂ (· * ·) ?_ rfl))
  · by_cases h : 1 ≤ n.val
    · rw [dif_pos ⟨h, by omega⟩, dif_pos h]
    · rw [dif_neg (fun e => h e.1), dif_neg h]
  · by_cases h : n.val + 1 < 2048
    · rw [dif_pos ⟨by omega, by omega⟩, dif_pos h]
      exact congrArg (fun i => a2 (ix3 b i d)) (Fin.ext (by show 2 + n.val - 1 = n.val + 1; omega))
    · rw [dif_neg (fun e => h (by omega)), dif_neg h]

/-- The reference's updated residual. -/
theorem run_at (a0 : FVec Ideal S16x2048x1024 .f32) (a1 a2 a3 : FVec Ideal S16x2048x512 .f32) (a4 : FVec Ideal S16x2048x2048 .f32)
    (a5 : FVec Ideal S16x12288 .f32) (a7 : FVec Ideal S3x512 .f32) (a8 : FVec Ideal S2048x2048 .f32) (b : Fin 16) (n j : Fin 2048) :
    (addf a4 (mulf (broadcastInDim S16x2048x2048 ![0, 1, 2] bcast_S16x1x2048_S16x2048x2048_0_1_2 (extractStridedSlice S16x1x2048 ![0, 0, 4096] (broadcastInDim S16x1x12288 ![0, 2] bcast_S16x12288_S16x1x12288_0_2 a5) slices_S16x1x12288_S16x1x2048_0_0_4096)) (Host.dotGeneral (φ₁ := .f32) dot_S16x2048x2048_S2048x2048_S16x2048x2048_2_0_01_1_n_n none ((concatenate S16x2048x2048 2 [⟨S16x2048x1024, a0⟩, ⟨S16x2048x512, (convTerm a1 a2 a7 : (⟨S16x2048x512, .f32⟩ : BufTy).Contents (Elt Ideal))⟩, ⟨S16x2048x512, a3⟩] concatenates_S16x2048x1024_S16x2048x512_S16x2048x512_S16x2048x2048_d2 : (⟨S16x2048x2048, .f32⟩ : BufTy).Contents (Elt Ideal))) a8))) (ix3 b n j) = (argsOf a0 a1 a2 a3 a4 a5 a7 a8).out b n j := by
  pointwise [fn_main_v29, convTerm_at a0 a1 a2 a3 a4 a5 a7 a8]
  rw [sum_split]
  pointwise [Args.out, argsOf]
  refine congrArg₂ (· + ·) rfl (congrArg₂ (· * ·) rfl (congrArg₂ (· + ·) rfl (Finset.sum_congr rfl fun k _ => congrArg₂ (· * ·) ?_ rfl)))
  rw [dif_neg (by omega), dif_neg (by omega)]
  exact congrArg (fun i => a3 (ix3 b n i)) (Fin.ext (by show 1536 + k.val - 1024 - 512 = k.val; omega))

/-- What the reference's run ends with: the updated residual, and its arguments unchanged. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v33) = (fun i => (refArgs (launchContents m c)).out (i 0) (i 1) (i 2))
      ∧ ∀ a ∈ [main_arg0, main_arg1, main_arg2, main_arg3, main_arg4, main_arg5, main_arg6, main_arg7, main_arg8, main_arg9,
        main_arg10, main_arg11, main_arg12], r.2.mem ((c.tc : Thread nD τ).loc a) = m ((c.tc : Thread nD τ).loc a) := by
  refine (θ_run defs _ _).mono (fun r h c => ⟨?_, ?_⟩) (Value.run m ρ)
  · refine (h c).1.trans (funext fun i => ?_)
    idx_vars i
    exact run_at _ _ _ _ _ _ _ _ _ _ _
  · obtain ⟨-, a0, a1, a2, a3, a4, a5, a6, a7, a8, a9, a10, a11, a12⟩ := h c
    simp only [List.forall_mem_cons, List.not_mem_nil, false_implies, implies_true, and_true]
    exact ⟨a0, a1, a2, a3, a4, a5, a6, a7, a8, a9, a10, a11, a12⟩

end Cert.Proof.Mixing

end
-- ==== Proof.lean ====
/- The certificate of the attention call, the input projection and the mixing call: their frames, and their equality with the references over the extended reals. -/
module

public import proofs.«01_k».proof.Proof.Gen.Kernel3.Frame
public import proofs.«01_k».proof.Proof.Gen.Kernel3.Skeleton
public import proofs.«01_k».proof.Proof.Gen.Kernel3Ideal.Frame
public import proofs.«01_k».proof.Proof.Gen.Kernel3Ideal.Skeleton
public import proofs.«01_k».proof.Proof.Gen.Reference3Ideal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Rows
public import proofs.«01_k».proof.Proof.Run2
public import proofs.«01_k».proof.Proof.Array2
public import proofs.«01_k».proof.Proof.Match2
public import proofs.«01_k».proof.Proof.Run3
public import proofs.«01_k».proof.Proof.Array3
public import proofs.«01_k».proof.Proof.Match3
public import Idealize.ShloMosaic.Adequacy
public import Idealize.ShloMosaic.Init
public import Idealize.ShloMosaic.Lib.Quiescent
public import Idealize.ShloMosaic.Lib.Bf16Pair

@[expose] public section

noncomputable section

namespace Cert.Proof

open Idealize.ShloMosaic Idealize.SL.Sem

/-- The reference leaves its arguments unchanged and its semaphores at zero, from any memory. -/
theorem reference_frame : Cert.quiescent_ReferenceIdeal (hReferenceIdeal := Cert.ReferenceIdeal.Gen.facts) :=
  fun m ρ _ => (θ_run _ _ _).mono (fun r h => ⟨fun c => (h c).2, sem_eq_zero_of_no_sems (by decide) r.2⟩) (Attention.reference_run m ρ)

/-- The kernel and the reference end with the same array, when the queries and the keys are reals. -/
theorem kernel_eq_reference : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨_, Cert.KernelIdeal.Value.run_blocks m g, (θ_run _ _ _).mono (fun r h c => ⟨?_, (h c).2⟩) (Attention.reference_run m' g')⟩
  obtain ⟨a0, a1, a2, a3, a4⟩ := hagree c
  obtain ⟨rq, rkc, rk⟩ := Attention.real_of_pre _ _ _ _ _ (hpre c)
  refine (h c).1.trans ?_
  rw [a0, a1, a2, a3, a4]
  exact ((Attention.array_eq m c).trans (Attention.attention_eq _ _ _ _ _ _ _ _ _ _ rq rkc rk (Attention.entry_q m c)
    (Attention.entry_kc m c) (Attention.entry_vc m c) (Attention.entry_k m c) (Attention.entry_v m c))).symm

/-- The second reference leaves its arguments unchanged and its semaphores at zero, from any memory. -/
theorem reference2_frame : Cert.quiescent_Reference2Ideal (hReference2Ideal := Cert.Reference2Ideal.Gen.facts) := by
  refine fun m ρ _ => (θ_run _ _ _).mono (fun r h => ⟨fun c => ?_, sem_eq_zero_of_no_sems (by decide) r.2⟩) (InputProjection.reference_run m ρ)
  have a := (h c).2
  simp only [List.forall_mem_cons, List.not_mem_nil, false_implies, implies_true, and_true] at a
  exact a

/-- The arguments of the second call and of its reference are the same, from memories that agree on them. -/
theorem args_eq (m : (ℓ : Loc Kernel2Ideal.nD Kernel2Ideal.τ Kernel2Ideal.sig) → Buf (Elt Ideal) ℓ)
    (m' : (ℓ : Loc Reference2Ideal.nD Reference2Ideal.τ Reference2Ideal.sig) → Buf (Elt Ideal) ℓ) (c : Dev Kernel2Ideal.nD)
    (h0 : m' (c, Proc.tc.devRef Reference2Ideal.main_arg0) = m (c, Proc.tc.devRef Kernel2Ideal.main_arg0))
    (h1 : m' (c, Proc.tc.devRef Reference2Ideal.main_arg1) = m (c, Proc.tc.devRef Kernel2Ideal.main_arg1))
    (h2 : m' (c, Proc.tc.devRef Reference2Ideal.main_arg2) = m (c, Proc.tc.devRef Kernel2Ideal.main_arg2))
    (h3 : m' (c, Proc.tc.devRef Reference2Ideal.main_arg3) = m (c, Proc.tc.devRef Kernel2Ideal.main_arg3))
    (h4 : m' (c, Proc.tc.devRef Reference2Ideal.main_arg4) = m (c, Proc.tc.devRef Kernel2Ideal.main_arg4))
    (h5 : m' (c, Proc.tc.devRef Reference2Ideal.main_arg5) = m (c, Proc.tc.devRef Kernel2Ideal.main_arg5))
    (h6 : m' (c, Proc.tc.devRef Reference2Ideal.main_arg6) = m (c, Proc.tc.devRef Kernel2Ideal.main_arg6))
    (h7 : m' (c, Proc.tc.devRef Reference2Ideal.main_arg7) = m (c, Proc.tc.devRef Kernel2Ideal.main_arg7))
    (h8 : m' (c, Proc.tc.devRef Reference2Ideal.main_arg8) = m (c, Proc.tc.devRef Kernel2Ideal.main_arg8))
    (h9 : m' (c, Proc.tc.devRef Reference2Ideal.main_arg9) = m (c, Proc.tc.devRef Kernel2Ideal.main_arg9))
    (h10 : m' (c, Proc.tc.devRef Reference2Ideal.main_arg10) = m (c, Proc.tc.devRef Kernel2Ideal.main_arg10))
    (h11 : m' (c, Proc.tc.devRef Reference2Ideal.main_arg11) = m (c, Proc.tc.devRef Kernel2Ideal.main_arg11))
    (h12 : m' (c, Proc.tc.devRef Reference2Ideal.main_arg12) = m (c, Proc.tc.devRef Kernel2Ideal.main_arg12))
    (h13 : m' (c, Proc.tc.devRef Reference2Ideal.main_arg13) = m (c, Proc.tc.devRef Kernel2Ideal.main_arg13)) :
    InputProjection.refArgs (StableHlo.launchContents m' c) = InputProjection.args m c := by
  unfold InputProjection.refArgs StableHlo.launchContents
  rw [h0, h1, h2, h3, h4, h5, h6, h7, h8, h9, h10, h11, h12, h13]
  rfl

/-- The input projection and its reference end with the same five arrays. -/
theorem kernel2_eq_reference2 : Cert.algebraic_Kernel2Ideal_Reference2Ideal (hKernel2Ideal := Cert.Kernel2Ideal.Gen.facts)
    (hReference2Ideal := Cert.Reference2Ideal.Gen.facts) := by
  intro m g m' g' _ hagree
  have ha (c : Dev Kernel2Ideal.nD) : InputProjection.refArgs (StableHlo.launchContents m' c) = InputProjection.args m c := by
    obtain ⟨a0, a1, a2, a3, a4, a5, a6, a7, a8, a9, a10, a11, a12, a13⟩ := hagree c
    exact args_eq m m' c a0 a1 a2 a3 a4 a5 a6 a7 a8 a9 a10 a11 a12 a13
  refine ⟨fun c i => (InputProjection.args m c).query (i 0) (i 1) (i 2) (i 3), fun c i => (InputProjection.args m c).key (i 0) (i 1) (i 2) (i 3),
    fun c i => (InputProjection.args m c).value (i 0) (i 1) (i 2) (i 3), fun c i => (InputProjection.args m c).gate (i 0) (i 1) (i 2),
    fun c i => (InputProjection.args m c).product (i 0) (i 1) (i 2), ?_, ?_⟩
  · refine (θ_run _ _ _).mono (fun r h c => ?_) (θ_run_and (Cert.Kernel2Ideal.Gen.run_main m g) (Cert.Kernel2Ideal.Gen.frame m g))
    exact ⟨InputProjection.result_query m c r h.1, InputProjection.result_key m c r h.1, InputProjection.result_value m c r h.1,
      InputProjection.result_gate m c r h.1, InputProjection.result_product m c r h.1, h.2.1 c⟩
  · refine (θ_run _ _ _).mono (fun r h c => ?_) (InputProjection.reference_run m' g')
    obtain ⟨⟨hq, hk, hv, hg, hp⟩, hargs⟩ := h c
    simp only [List.forall_mem_cons, List.not_mem_nil, false_implies, implies_true, and_true] at hargs
    rw [InputProjection.queries_eq, ha] at hq
    rw [InputProjection.keys_eq, ha] at hk
    rw [InputProjection.values_eq, ha] at hv
    rw [InputProjection.gates_eq, ha] at hg
    rw [InputProjection.gated_eq, ha] at hp
    exact ⟨hq, hk, hv, hg, hp, hargs⟩

/-- The arguments of the mixing call and of its reference are the same, from memories that agree on them. -/
theorem mixing_args_eq (m : (ℓ : Loc Kernel3Ideal.nD Kernel3Ideal.τ Kernel3Ideal.sig) → Buf (Elt Ideal) ℓ)
    (m' : (ℓ : Loc Reference3Ideal.nD Reference3Ideal.τ Reference3Ideal.sig) → Buf (Elt Ideal) ℓ) (c : Dev Kernel3Ideal.nD)
    (h0 : m' (c, Proc.tc.devRef Reference3Ideal.main_arg0) = m (c, Proc.tc.devRef Kernel3Ideal.main_arg0))
    (h1 : m' (c, Proc.tc.devRef Reference3Ideal.main_arg1) = m (c, Proc.tc.devRef Kernel3Ideal.main_arg1))
    (h2 : m' (c, Proc.tc.devRef Reference3Ideal.main_arg2) = m (c, Proc.tc.devRef Kernel3Ideal.main_arg2))
    (h3 : m' (c, Proc.tc.devRef Reference3Ideal.main_arg3) = m (c, Proc.tc.devRef Kernel3Ideal.main_arg3))
    (h4 : m' (c, Proc.tc.devRef Reference3Ideal.main_arg4) = m (c, Proc.tc.devRef Kernel3Ideal.main_arg4))
    (h5 : m' (c, Proc.tc.devRef Reference3Ideal.main_arg5) = m (c, Proc.tc.devRef Kernel3Ideal.main_arg5))
    (h7 : m' (c, Proc.tc.devRef Reference3Ideal.main_arg7) = m (c, Proc.tc.devRef Kernel3Ideal.main_arg7))
    (h8 : m' (c, Proc.tc.devRef Reference3Ideal.main_arg8) = m (c, Proc.tc.devRef Kernel3Ideal.main_arg8)) :
    Mixing.refArgs (StableHlo.launchContents m' c) = Mixing.args m c := by
  unfold Mixing.refArgs StableHlo.launchContents
  rw [h0, h1, h2, h3, h4, h5, h7, h8]
  rfl

/-- The third reference leaves its arguments unchanged and its semaphores at zero, from any memory. -/
theorem reference3_frame : Cert.quiescent_Reference3Ideal (hReference3Ideal := Cert.Reference3Ideal.Gen.facts) := by
  refine fun m ρ _ => (θ_run _ _ _).mono (fun r h => ⟨fun c => ?_, sem_eq_zero_of_no_sems (by decide) r.2⟩) (Mixing.reference_run m ρ)
  have a := (h c).2
  simp only [List.forall_mem_cons, List.not_mem_nil, false_implies, implies_true, and_true] at a
  exact a

/-- The mixing call and its reference end with the same updated residual. -/
theorem kernel3_eq_reference3 : Cert.algebraic_Kernel3Ideal_Reference3Ideal (hKernel3Ideal := Cert.Kernel3Ideal.Gen.facts)
    (hReference3Ideal := Cert.Reference3Ideal.Gen.facts) := by
  intro m g m' g' _ hagree
  have ha (c : Dev Kernel3Ideal.nD) : Mixing.refArgs (StableHlo.launchContents m' c) = Mixing.args m c := by
    obtain ⟨a0, a1, a2, a3, a4, a5, a6, a7, a8, a9, a10, a11, a12⟩ := hagree c
    exact mixing_args_eq m m' c a0 a1 a2 a3 a4 a5 a7 a8
  refine ⟨fun c i => (Mixing.args m c).out (i 0) (i 1) (i 2), ?_, ?_⟩
  · refine (θ_run _ _ _).mono (fun r h c => ?_) (θ_run_and (Cert.Kernel3Ideal.Gen.run_main_quiescent m g) (Cert.Kernel3Ideal.Gen.frame m g))
    exact ⟨Mixing.result_out m c r h.1.1, h.2.1 c⟩
  · refine (θ_run _ _ _).mono (fun r h c => ?_) (Mixing.reference_run m' g')
    obtain ⟨ho, hargs⟩ := h c
    simp only [List.forall_mem_cons, List.not_mem_nil, false_implies, implies_true, and_true] at hargs
    rw [ha] at ho
    exact ⟨ho, hargs⟩

/-- Packing two rows of a tile into words is interleaving them. -/
theorem packed_rows : Cert.preserves_Kernel3_Kernel3Ideal :=
  ⟨IdealRules.bf16_pair.statement _ _, IdealRules.bf16_pack.statement _⟩

/-- The two named constants of the input projection are the reals their literals round. -/
theorem named_constants : Cert.preserves_Kernel2_Kernel2Ideal :=
  ⟨IdealRules.named_const.statement _ _ _ _ _ rfl, IdealRules.named_const.statement _ _ _ _ _ rfl⟩

/-- Everything the statement claims of the three calls. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Pre_finite.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    fun m ρ _ => Cert.Kernel2.Gen.frame m ρ, fun m ρ _ => Cert.Kernel2Ideal.Gen.frame m ρ, reference2_frame,
    fun m ρ _ => Cert.Kernel3.Gen.frame m ρ, fun m ρ _ => Cert.Kernel3Ideal.Gen.frame m ρ, reference3_frame,
    trivial, kernel_eq_reference, named_constants, kernel2_eq_reference2, packed_rows, kernel3_eq_reference3⟩

end Cert.Proof

end
